-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v104_0)) (v1 : (c : Dev Cert.KernelIdeal.nD) → Buf (Elt Ideal) ((c.tc : Thread Cert.KernelIdeal.nD Cert.KernelIdeal.τ).loc Cert.KernelIdeal.main_v104_1)) (v2 : (c : Dev Cert.KernelIdeal.nD) → Buf (Elt Ideal) ((c.tc : Thread Cert.KernelIdeal.nD Cert.KernelIdeal.τ).loc Cert.KernelIdeal.main_v104_2)) (v3 : (c : Dev Cert.KernelIdeal.nD) → Buf (Elt Ideal) ((c.tc : Thread Cert.KernelIdeal.nD Cert.KernelIdeal.τ).loc Cert.KernelIdeal.main_v104_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104_0) = v0 c
          ∧ r.2.mem ((c.tc : Thread Cert.KernelIdeal.nD Cert.KernelIdeal.τ).loc Cert.KernelIdeal.main_v104_1) = v1 c
          ∧ r.2.mem ((c.tc : Thread Cert.KernelIdeal.nD Cert.KernelIdeal.τ).loc Cert.KernelIdeal.main_v104_2) = v2 c
          ∧ r.2.mem ((c.tc : Thread Cert.KernelIdeal.nD Cert.KernelIdeal.τ).loc Cert.KernelIdeal.main_v104_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2048x4096 : Shape := ⟨2, ![2048, 4096]⟩
abbrev S2048x128 : Shape := ⟨2, ![2048, 128]⟩
abbrev S2048x3200 : Shape := ⟨2, ![2048, 3200]⟩
abbrev S2048x2048 : Shape := ⟨2, ![2048, 2048]⟩
abbrev S1x2048 : Shape := ⟨2, ![1, 2048]⟩
abbrev S_ : Shape := ⟨0, ![]⟩

class Facts : Prop where
  bcast_S_S2048x4096 : S_.BroadcastsInDim S2048x4096 (![] : Fin 0 → Fin S2048x4096.rank)
  bitsLt_bf16_f32 : FTy.bits .bf16 < FTy.bits .f32
  bcast_S_S2048x128 : S_.BroadcastsInDim S2048x128 (![] : Fin 0 → Fin S2048x128.rank)
  bcast_S_S2048x3200 : S_.BroadcastsInDim S2048x3200 (![] : Fin 0 → Fin S2048x3200.rank)
  bcast_S_S2048x2048 : S_.BroadcastsInDim S2048x2048 (![] : Fin 0 → Fin S2048x2048.rank)

variable [Facts]

def fn {F : FTy → Type} [FloatOps F] (main_arg0 : FVec F S2048x4096 .f32) (main_arg1 : FVec F S2048x4096 .bf16) (main_arg2 : FVec F S2048x128 .bf16) (main_arg3 : FVec F S2048x3200 .f32) (main_arg4 : FVec F S2048x2048 .f32) (main_arg5 : IVec S1x2048 32) : IVec S2048x4096 1 × IVec S2048x4096 1 × IVec S2048x128 1 × IVec S2048x3200 1 × IVec S2048x2048 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x4096 .f32 := (extf .f32 · bitsLt_bf16_f32) main_arg1
  let main_v4 : FVec F S2048x4096 .f32 := Host.absf main_v3
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_v7 : FVec F S2048x128 .f32 := (extf .f32 · bitsLt_bf16_f32) main_arg2
  let main_v8 : FVec F S2048x128 .f32 := Host.absf main_v7
  let main_cst_1 : FVec F S_ .f32 := constant S_ .f32 0x7F800000#32
  let main_v9 : FVec F S2048x128 .f32 := broadcastInDim S2048x128 ![] bcast_S_S2048x128 main_cst_1
  let main_v10 : IVec S2048x128 1 := cmpf .olt main_v8 main_v9
  let main_v11 : FVec F S2048x3200 .f32 := Host.absf main_arg3
  let main_cst_2 : FVec F S_ .f32 := constant S_ .f32 0x7F800000#32
  let main_v12 : FVec F S2048x3200 .f32 := broadcastInDim S2048x3200 ![] bcast_S_S2048x3200 main_cst_2
  let main_v13 : IVec S2048x3200 1 := cmpf .olt main_v11 main_v12
  let main_v14 : FVec F S2048x2048 .f32 := Host.absf main_arg4
  let main_cst_3 : FVec F S_ .f32 := constant S_ .f32 0x7F800000#32
  let main_v15 : FVec F S2048x2048 .f32 := broadcastInDim S2048x2048 ![] bcast_S_S2048x2048 main_cst_3
  let main_v16 : IVec S2048x2048 1 := cmpf .olt main_v14 main_v15
  (main_v2, main_v6, main_v10, main_v13, main_v16)
-- ==== Kernel.lean ====
abbrev S2048x4096 : Shape := ⟨2, ![2048, 4096]⟩
abbrev S2048x128 : Shape := ⟨2, ![2048, 128]⟩
abbrev S2048x3200 : Shape := ⟨2, ![2048, 3200]⟩
abbrev S2048x2048 : Shape := ⟨2, ![2048, 2048]⟩
abbrev S1x2048 : Shape := ⟨2, ![1, 2048]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x16x256 : Shape := ⟨3, ![2048, 16, 256]⟩
abbrev S2048x1x32 : Shape := ⟨3, ![2048, 1, 32]⟩
abbrev S2048x16x128 : Shape := ⟨3, ![2048, 16, 128]⟩
abbrev S2048x16x32 : Shape := ⟨3, ![2048, 16, 32]⟩
abbrev S2048x16x192 : Shape := ⟨3, ![2048, 16, 192]⟩
abbrev S2048x64 : Shape := ⟨2, ![2048, 64]⟩
abbrev S2048x1x64 : Shape := ⟨3, ![2048, 1, 64]⟩
abbrev S2048x16x64 : Shape := ⟨3, ![2048, 16, 64]⟩
abbrev S16x2048x2048 : Shape := ⟨3, ![16, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S256x512 : Shape := ⟨2, ![256, 512]⟩
abbrev S256x128 : Shape := ⟨2, ![256, 128]⟩
abbrev S2048x512 : Shape := ⟨2, ![2048, 512]⟩
abbrev S256x256 : Shape := ⟨2, ![256, 256]⟩
abbrev S2x256x1 : Shape := ⟨3, ![2, 256, 1]⟩
abbrev S2x2048x256 : Shape := ⟨3, ![2, 2048, 256]⟩
abbrev S2x2048x128 : Shape := ⟨3, ![2, 2048, 128]⟩
abbrev S1x2048x128 : Shape := ⟨3, ![1, 2048, 128]⟩
abbrev S1x256x256 : Shape := ⟨3, ![1, 256, 256]⟩
abbrev S1x256x1 : Shape := ⟨3, ![1, 256, 1]⟩
abbrev S256x1 : Shape := ⟨2, ![256, 1]⟩
abbrev S256 : Shape := ⟨1, ![256]⟩
abbrev S1x256x128 : Shape := ⟨3, ![1, 256, 128]⟩
abbrev S1x512x256 : Shape := ⟨3, ![1, 512, 256]⟩
abbrev S512x256 : Shape := ⟨2, ![512, 256]⟩
abbrev S512x128 : Shape := ⟨2, ![512, 128]⟩
abbrev S1x512x128 : Shape := ⟨3, ![1, 512, 128]⟩
abbrev S1x768x256 : Shape := ⟨3, ![1, 768, 256]⟩
abbrev S768x256 : Shape := ⟨2, ![768, 256]⟩
abbrev S256x768 : Shape := ⟨2, ![256, 768]⟩
abbrev S768x128 : Shape := ⟨2, ![768, 128]⟩
abbrev S1x768x128 : Shape := ⟨3, ![1, 768, 128]⟩
abbrev S1x1024x256 : Shape := ⟨3, ![1, 1024, 256]⟩
abbrev S1024x256 : Shape := ⟨2, ![1024, 256]⟩
abbrev S256x1024 : Shape := ⟨2, ![256, 1024]⟩
abbrev S1024x128 : Shape := ⟨2, ![1024, 128]⟩
abbrev S1x1024x128 : Shape := ⟨3, ![1, 1024, 128]⟩
abbrev S1x1280x256 : Shape := ⟨3, ![1, 1280, 256]⟩
abbrev S1280x256 : Shape := ⟨2, ![1280, 256]⟩
abbrev S256x1280 : Shape := ⟨2, ![256, 1280]⟩
abbrev S1280x128 : Shape := ⟨2, ![1280, 128]⟩
abbrev S1x1280x128 : Shape := ⟨3, ![1, 1280, 128]⟩
abbrev S1x1536x256 : Shape := ⟨3, ![1, 1536, 256]⟩
abbrev S1536x256 : Shape := ⟨2, ![1536, 256]⟩
abbrev S256x1536 : Shape := ⟨2, ![256, 1536]⟩
abbrev S1536x128 : Shape := ⟨2, ![1536, 128]⟩
abbrev S1x1536x128 : Shape := ⟨3, ![1, 1536, 128]⟩
abbrev S1x1792x256 : Shape := ⟨3, ![1, 1792, 256]⟩
abbrev S1792x256 : Shape := ⟨2, ![1792, 256]⟩
abbrev S256x1792 : Shape := ⟨2, ![256, 1792]⟩
abbrev S1792x128 : Shape := ⟨2, ![1792, 128]⟩
abbrev S1x1792x128 : Shape := ⟨3, ![1, 1792, 128]⟩
abbrev S1x2048x256 : Shape := ⟨3, ![1, 2048, 256]⟩
abbrev S2048x256 : Shape := ⟨2, ![2048, 256]⟩
abbrev S256x2048 : Shape := ⟨2, ![256, 2048]⟩

abbrev nBuf : Space → Nat
  | .hbm => 133
  | .vmem => 27
  | .smem => 0
  | _ => 0

abbrev hbmTy0_0 (i : Nat) : BufTy := match i % 128 with
  | 0 => ⟨S2048x4096, .f32⟩
  | 1 => ⟨S2048x4096, .bf16⟩
  | 2 => ⟨S2048x128, .bf16⟩
  | 3 => ⟨S2048x3200, .f32⟩
  | 4 => ⟨S2048x2048, .f32⟩
  | 5 => ⟨S1x2048, .i32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S1x2048, .f32⟩
  | 21 => ⟨S2048, .f32⟩
  | 22 => ⟨S2048x1, .f32⟩
  | 23 => ⟨S1x32, .f32⟩
  | 24 => ⟨S2048x32, .f32⟩
  | 25 => ⟨S2048x32, .f32⟩
  | 26 => ⟨S2048x32, .f32⟩
  | 27 => ⟨S2048x32, .f32⟩
  | 28 => ⟨S2048x32, .f32⟩
  | 29 => ⟨S_, .f32⟩
  | 30 => ⟨S2048x32, .f32⟩
  | 31 => ⟨S2048x128, .f32⟩
  | 32 => ⟨S2048x32, .f32⟩
  | 33 => ⟨S2048x128, .f32⟩
  | 34 => ⟨S2048x16x256, .f32⟩
  | 35 => ⟨S2048x4096, .f32⟩
  | 36 => ⟨S2048x16x256, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S1x2048, .f32⟩
  | 52 => ⟨S2048, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S2048x32, .f32⟩
  | 59 => ⟨S2048x1x32, .f32⟩
  | 60 => ⟨S2048x32, .f32⟩
  | 61 => ⟨S2048x1x32, .f32⟩
  | 62 => ⟨S2048x16x128, .f32⟩
  | 63 => ⟨S2048x16x32, .f32⟩
  | 64 => ⟨S2048x16x32, .f32⟩
  | 65 => ⟨S2048x16x32, .f32⟩
  | 66 => ⟨S2048x16x32, .f32⟩
  | 67 => ⟨S2048x16x32, .f32⟩
  | 68 => ⟨S2048x16x32, .f32⟩
  | 69 => ⟨S2048x16x32, .f32⟩
  | 70 => ⟨S2048x16x32, .f32⟩
  | 71 => ⟨S2048x16x32, .f32⟩
  | 72 => ⟨S2048x16x32, .f32⟩
  | 73 => ⟨S2048x16x32, .f32⟩
  | 74 => ⟨S2048x16x32, .f32⟩
  | 75 => ⟨S2048x128, .f32⟩
  | 76 => ⟨S2048x32, .f32⟩
  | 77 => ⟨S2048x32, .f32⟩
  | 78 => ⟨S2048x16x128, .f32⟩
  | 79 => ⟨S2048x16x192, .f32⟩
  | 80 => ⟨S2048x64, .f32⟩
  | 81 => ⟨S2048x16x128, .f32⟩
  | 82 => ⟨S2048x1x64, .f32⟩
  | 83 => ⟨S2048x16x64, .f32⟩
  | 84 => ⟨S2048x16x192, .f32⟩
  | 85 => ⟨S16x2048x2048, .f32⟩
  | 86 => ⟨S_, .f32⟩
  | 87 => ⟨S16x2048x2048, .f32⟩
  | 88 => ⟨S16x2048x2048, .f32⟩
  | 89 => ⟨S2048, .i32⟩
  | 90 => ⟨S1x2048, .i32⟩
  | 91 => ⟨S2048x1, .i32⟩
  | 92 => ⟨S2048x2048, .i32⟩
  | 93 => ⟨S2048x2048, .i32⟩
  | 94 => ⟨S2048x2048, .i1⟩
  | 95 => ⟨S_, .f32⟩
  | 96 => ⟨S_, .f32⟩
  | 97 => ⟨S16x2048x2048, .i1⟩
  | 98 => ⟨S16x2048x2048, .f32⟩
  | 99 => ⟨S16x2048x2048, .f32⟩
  | 100 => ⟨S2048x16x128, .f32⟩
  | 101 => ⟨S_, .f32⟩
  | 102 => ⟨S16x2048, .f32⟩
  | 103 => ⟨S_, .f32⟩
  | 104 => ⟨S16x2048, .f32⟩
  | 105 => ⟨S16x2048, .f32⟩
  | 106 => ⟨S16x2048x1, .f32⟩
  | 107 => ⟨S16x2048x2048, .f32⟩
  | 108 => ⟨S16x2048x2048, .f32⟩
  | 109 => ⟨S16x2048x2048, .f32⟩
  | 110 => ⟨S_, .f32⟩
  | 111 => ⟨S16x2048, .f32⟩
  | 112 => ⟨S16x2048x1, .f32⟩
  | 113 => ⟨S16x2048x2048, .f32⟩
  | 114 => ⟨S16x2048x2048, .f32⟩
  | 115 => ⟨S16x128x2048, .f32⟩
  | 116 => ⟨S2048x16x128, .f32⟩
  | 117 => ⟨S2048x2048, .f32⟩
  | 118 => ⟨S_, .f32⟩
  | 119 => ⟨S16x2048, .f32⟩
  | 120 => ⟨S16x2048x1, .f32⟩
  | 121 => ⟨S16x2048x2048, .f32⟩
  | 122 => ⟨S16x2048x2048, .f32⟩
  | 123 => ⟨S16x2048x2048, .f32⟩
  | 124 => ⟨S_, .f32⟩
  | 125 => ⟨S16x2048, .f32⟩
  | 126 => ⟨S16x2048x1, .f32⟩
  | 127 => ⟨S16x2048x1, .f32⟩
  | _ => ⟨S2048x4096, .f32⟩

abbrev hbmTy0_1 (i : Nat) : BufTy := match i % 128 with
  | 0 => ⟨S16x2048x1, .f32⟩
  | 1 => ⟨S2048x4096, .bf16⟩
  | 2 => ⟨S2048x4096, .bf16⟩
  | 3 => ⟨S2048x128, .f32⟩
  | 4 => ⟨S2048x2048, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S2048x512, .bf16⟩
  | .local _ .vmem, ⟨7, _⟩ => ⟨S2048x512, .bf16⟩
  | .local _ .vmem, ⟨8, _⟩ => ⟨S2048x128, .bf16⟩
  | .local _ .vmem, ⟨9, _⟩ => ⟨S256x256, .f32⟩
  | .local _ .vmem, ⟨10, _⟩ => ⟨S256x256, .f32⟩
  | .local _ .vmem, ⟨11, _⟩ => ⟨S2x256x1, .f32⟩
  | .local _ .vmem, ⟨12, _⟩ => ⟨S2x256x1, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x512, .bf16⟩
  | .local _ .vmem, ⟨18, _⟩ => ⟨S256x512, .bf16⟩
  | .local _ .vmem, ⟨19, _⟩ => ⟨S2048x512, .bf16⟩
  | .local _ .vmem, ⟨20, _⟩ => ⟨S2048x512, .bf16⟩
  | .local _ .vmem, ⟨21, _⟩ => ⟨S2048x128, .f32⟩
  | .local _ .vmem, ⟨22, _⟩ => ⟨S256x256, .bf16⟩
  | .local _ .vmem, ⟨23, _⟩ => ⟨S256x256, .bf16⟩
  | .local _ .vmem, ⟨24, _⟩ => ⟨S2x2048x256, .bf16⟩
  | .local _ .vmem, ⟨25, _⟩ => ⟨S2x2048x256, .f32⟩
  | .local _ .vmem, ⟨26, _⟩ => ⟨S2x2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_9 : Ref sig .tc := ⟨.hbm, 95, rfl⟩
abbrev main_call0_v0 : Ref sig .tc := ⟨.hbm, 96, rfl⟩
abbrev main_call0_v1 : Ref sig .tc := ⟨.hbm, 97, rfl⟩
abbrev main_call0_v2 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_cst_11 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_13 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104_0 : Ref sig .tc := ⟨.hbm, 129, rfl⟩
abbrev main_v104_1 : Ref sig .tc := ⟨.hbm, 130, rfl⟩
abbrev main_v104_2 : Ref sig .tc := ⟨.hbm, 131, rfl⟩
abbrev main_v104_3 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_6 : BitVec 32 := 0#32
  let v14 : BitVec 1 := Scalar.cmpi .ne v13 c0_i32_6
  v14

def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def k0_cond7 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_8 : BitVec 32 := 0#32
  let v20 : BitVec 1 := Scalar.cmpi .ne v19 c0_i32_8
  v20

def k0_cond8 (i : grid0.Coords) : BitVec 1 :=
  let arg1 : BitVec 32 := BitVec.ofNat 32 (i 1).val
  let c5_i32 : BitVec 32 := 5#32
  let v21 : BitVec 1 := Scalar.cmpi .eq arg1 c5_i32
  let v22 : BitVec 32 := Scalar.extui v21
  let c0_i32_9 : BitVec 32 := 0#32
  let v23 : BitVec 1 := Scalar.cmpi .ne v22 c0_i32_9
  v23

def k0_cond9 (i : grid0.Coords) : BitVec 1 :=
  let arg1 : BitVec 32 := BitVec.ofNat 32 (i 1).val
  let c6_i32 : BitVec 32 := 6#32
  let v24 : BitVec 1 := Scalar.cmpi .eq arg1 c6_i32
  let v25 : BitVec 32 := Scalar.extui v24
  let c0_i32_10 : BitVec 32 := 0#32
  let v26 : BitVec 1 := Scalar.cmpi .ne v25 c0_i32_10
  v26

def k0_cond10 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_11 : BitVec 32 := 0#32
  let v29 : BitVec 1 := Scalar.cmpi .ne v28 c0_i32_11
  v29

def k0_cond11 (i : grid0.Coords) : BitVec 1 :=
  let arg1 : BitVec 32 := BitVec.ofNat 32 (i 1).val
  let c7_i32_12 : BitVec 32 := 7#32
  let v30 : BitVec 1 := Scalar.cmpi .eq arg1 c7_i32_12
  let v31 : BitVec 32 := Scalar.extui v30
  let c0_i32_13 : BitVec 32 := 0#32
  let v32 : BitVec 1 := Scalar.cmpi .ne v31 c0_i32_13
  v32

def k0_cond12 (i : grid0.Coords) : BitVec 1 :=
  let arg1 : BitVec 32 := BitVec.ofNat 32 (i 1).val
  let c7_i32_14 : BitVec 32 := 7#32
  let v33 : BitVec 1 := Scalar.cmpi .eq arg1 c7_i32_14
  let arg0 : BitVec 32 := BitVec.ofNat 32 (i 0).val
  let c0_i32_15 : BitVec 32 := 0#32
  let v34 : BitVec 1 := Scalar.cmpi .eq arg0 c0_i32_15
  let v35 : BitVec 1 := Scalar.andi v33 v34
  let v36 : BitVec 32 := Scalar.extui v35
  let c0_i32_16 : BitVec 32 := 0#32
  let v37 : BitVec 1 := Scalar.cmpi .ne v36 c0_i32_16
  v37

def k0_cond13 (i : grid0.Coords) : BitVec 1 :=
  let arg1 : BitVec 32 := BitVec.ofNat 32 (i 1).val
  let c7_i32_17 : BitVec 32 := 7#32
  let v38 : BitVec 1 := Scalar.cmpi .eq arg1 c7_i32_17
  let arg0 : BitVec 32 := BitVec.ofNat 32 (i 0).val
  let c0_i32_18 : BitVec 32 := 0#32
  let v39 : BitVec 1 := Scalar.cmpi .sgt arg0 c0_i32_18
  let v40 : BitVec 1 := Scalar.andi v38 v39
  let v41 : BitVec 32 := Scalar.extui v40
  let c0_i32_19 : BitVec 32 := 0#32
  let v42 : BitVec 1 := Scalar.cmpi .ne v41 c0_i32_19
  v42

def k0_cond14 (i : grid0.Coords) : BitVec 1 :=
  let arg1 : BitVec 32 := BitVec.ofNat 32 (i 1).val
  let c7_i32_20 : BitVec 32 := 7#32
  let v43 : BitVec 1 := Scalar.cmpi .eq arg1 c7_i32_20
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2048x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2048x4096 : Shape := ⟨2, ![2048, 4096]⟩
abbrev S2048x128 : Shape := ⟨2, ![2048, 128]⟩
abbrev S2048x3200 : Shape := ⟨2, ![2048, 3200]⟩
abbrev S2048x2048 : Shape := ⟨2, ![2048, 2048]⟩
abbrev S1x2048 : Shape := ⟨2, ![1, 2048]⟩
abbrev S2048x16x256 : Shape := ⟨3, ![2048, 16, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x16x128 : Shape := ⟨3, ![2048, 16, 128]⟩
abbrev S2048x16x32 : Shape := ⟨3, ![2048, 16, 32]⟩
abbrev S2048x16x192 : Shape := ⟨3, ![2048, 16, 192]⟩
abbrev S2048x64 : Shape := ⟨2, ![2048, 64]⟩
abbrev S2048x1x64 : Shape := ⟨3, ![2048, 1, 64]⟩
abbrev S2048x16x64 : Shape := ⟨3, ![2048, 16, 64]⟩
abbrev S16x2048x2048 : Shape := ⟨3, ![16, 2048, 2048]⟩
abbrev S16x2048 : Shape := ⟨2, ![16, 2048]⟩
abbrev S16x2048x1 : Shape := ⟨3, ![16, 2048, 1]⟩
abbrev S16x128x2048 : Shape := ⟨3, ![16, 128, 2048]⟩
abbrev S16x2048x192 : Shape := ⟨3, ![16, 2048, 192]⟩

abbrev nBuf : Space → Nat
  | .hbm => 214
  | .vmem => 0
  | .smem => 0
  | _ => 0

abbrev hbmTy0_0 (i : Nat) : BufTy := match i % 128 with
  | 0 => ⟨S2048x4096, .f32⟩
  | 1 => ⟨S2048x4096, .bf16⟩
  | 2 => ⟨S2048x128, .bf16⟩
  | 3 => ⟨S2048x3200, .f32⟩
  | 4 => ⟨S2048x2048, .f32⟩
  | 5 => ⟨S1x2048, .i32⟩
  | 6 => ⟨S2048x4096, .f32⟩
  | 7 => ⟨S2048x128, .f32⟩
  | 8 => ⟨S2048x2048, .f32⟩
  | 9 => ⟨S2048x16x256, .f32⟩
  | 10 => ⟨S2048x16x256, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S1x2048, .f32⟩
  | 26 => ⟨S2048, .f32⟩
  | 27 => ⟨S2048x1, .f32⟩
  | 28 => ⟨S1x32, .f32⟩
  | 29 => ⟨S2048x32, .f32⟩
  | 30 => ⟨S2048x32, .f32⟩
  | 31 => ⟨S2048x32, .f32⟩
  | 32 => ⟨S2048x32, .f32⟩
  | 33 => ⟨S2048x1x32, .f32⟩
  | 34 => ⟨S2048x32, .f32⟩
  | 35 => ⟨S2048x1x32, .f32⟩
  | 36 => ⟨S2048x16x128, .f32⟩
  | 37 => ⟨S2048x16x32, .f32⟩
  | 38 => ⟨S2048x16x32, .f32⟩
  | 39 => ⟨S2048x16x32, .f32⟩
  | 40 => ⟨S2048x16x32, .f32⟩
  | 41 => ⟨S2048x16x32, .f32⟩
  | 42 => ⟨S2048x16x32, .f32⟩
  | 43 => ⟨S2048x16x32, .f32⟩
  | 44 => ⟨S2048x16x32, .f32⟩
  | 45 => ⟨S2048x16x32, .f32⟩
  | 46 => ⟨S2048x16x32, .f32⟩
  | 47 => ⟨S2048x16x32, .f32⟩
  | 48 => ⟨S2048x16x32, .f32⟩
  | 49 => ⟨S2048x32, .f32⟩
  | 50 => ⟨S2048x32, .f32⟩
  | 51 => ⟨S2048x16x128, .f32⟩
  | 52 => ⟨S2048x16x192, .f32⟩
  | 53 => ⟨S2048x64, .f32⟩
  | 54 => ⟨S2048x16x128, .f32⟩
  | 55 => ⟨S2048x1x64, .f32⟩
  | 56 => ⟨S2048x16x64, .f32⟩
  | 57 => ⟨S2048x16x192, .f32⟩
  | 58 => ⟨S16x2048x2048, .f32⟩
  | 59 => ⟨S_, .f32⟩
  | 60 => ⟨S16x2048x2048, .f32⟩
  | 61 => ⟨S16x2048x2048, .f32⟩
  | 62 => ⟨S2048, .i32⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S_, .f32⟩
  | 69 => ⟨S_, .f32⟩
  | 70 => ⟨S16x2048x2048, .i1⟩
  | 71 => ⟨S16x2048x2048, .f32⟩
  | 72 => ⟨S16x2048x2048, .f32⟩
  | 73 => ⟨S_, .f32⟩
  | 74 => ⟨S16x2048x2048, .f32⟩
  | 75 => ⟨S2048x16x128, .f32⟩
  | 76 => ⟨S_, .f32⟩
  | 77 => ⟨S16x2048, .f32⟩
  | 78 => ⟨S16x2048x1, .f32⟩
  | 79 => ⟨S16x2048x2048, .f32⟩
  | 80 => ⟨S16x2048x2048, .i1⟩
  | 81 => ⟨S16x2048x2048, .f32⟩
  | 82 => ⟨S_, .f32⟩
  | 83 => ⟨S16x2048, .f32⟩
  | 84 => ⟨S_, .f32⟩
  | 85 => ⟨S16x2048, .f32⟩
  | 86 => ⟨S16x2048, .f32⟩
  | 87 => ⟨S_, .f32⟩
  | 88 => ⟨S16x2048, .f32⟩
  | 89 => ⟨S16x2048, .i1⟩
  | 90 => ⟨S_, .f32⟩
  | 91 => ⟨S16x2048, .f32⟩
  | 92 => ⟨S16x2048, .i1⟩
  | 93 => ⟨S_, .f32⟩
  | 94 => ⟨S16x2048, .f32⟩
  | 95 => ⟨S_, .f32⟩
  | 96 => ⟨S16x2048, .f32⟩
  | 97 => ⟨S_, .f32⟩
  | 98 => ⟨S16x2048, .f32⟩
  | 99 => ⟨S16x2048, .f32⟩
  | 100 => ⟨S16x2048, .f32⟩
  | 101 => ⟨S16x2048x1, .f32⟩
  | 102 => ⟨S16x2048x2048, .f32⟩
  | 103 => ⟨S16x2048x2048, .f32⟩
  | 104 => ⟨S16x2048x2048, .f32⟩
  | 105 => ⟨S_, .f32⟩
  | 106 => ⟨S16x2048, .f32⟩
  | 107 => ⟨S16x2048x1, .f32⟩
  | 108 => ⟨S16x2048x2048, .f32⟩
  | 109 => ⟨S16x2048x2048, .f32⟩
  | 110 => ⟨S16x2048x1, .f32⟩
  | 111 => ⟨S_, .f32⟩
  | 112 => ⟨S16x2048x1, .f32⟩
  | 113 => ⟨S16x2048x1, .f32⟩
  | 114 => ⟨S16x128x2048, .f32⟩
  | 115 => ⟨S2048x16x128, .f32⟩
  | 116 => ⟨S2048x2048, .f32⟩
  | 117 => ⟨S2048x2048, .f32⟩
  | 118 => ⟨S2048x2048, .f32⟩
  | 119 => ⟨S_, .f32⟩
  | 120 => ⟨S2048x2048, .f32⟩
  | 121 => ⟨S2048x2048, .f32⟩
  | 122 => ⟨S_, .f32⟩
  | 123 => ⟨S2048x2048, .f32⟩
  | 124 => ⟨S2048x2048, .f32⟩
  | 125 => ⟨S_, .f32⟩
  | 126 => ⟨S2048x2048, .f32⟩
  | 127 => ⟨S2048x2048, .f32⟩
  | _ => ⟨S2048x4096, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S2048x2048, .f32⟩
  | 9 => ⟨S2048x16x128, .f32⟩
  | 10 => ⟨S16x128x2048, .f32⟩
  | 11 => ⟨S16x2048x2048, .f32⟩
  | 12 => ⟨S16x128x2048, .f32⟩
  | 13 => ⟨S2048x16x128, .f32⟩
  | 14 => ⟨S16x2048x2048, .f32⟩
  | 15 => ⟨S16x2048x2048, .f32⟩
  | 16 => ⟨S16x2048x2048, .f32⟩
  | 17 => ⟨S_, .f32⟩
  | 18 => ⟨S16x2048, .f32⟩
  | 19 => ⟨S16x2048x1, .f32⟩
  | 20 => ⟨S16x2048x1, .f32⟩
  | 21 => ⟨S16x2048x2048, .f32⟩
  | 22 => ⟨S16x2048x2048, .f32⟩
  | 23 => ⟨S_, .f32⟩
  | 24 => ⟨S16x2048, .f32⟩
  | 25 => ⟨S16x2048x2048, .f32⟩
  | 26 => ⟨S16x2048x2048, .f32⟩
  | 27 => ⟨S16x2048x2048, .f32⟩
  | 28 => ⟨S_, .f32⟩
  | 29 => ⟨S2048x16x256, .f32⟩
  | 30 => ⟨S_, .f32⟩
  | 31 => ⟨S16x2048x2048, .f32⟩
  | 32 => ⟨S16x2048x2048, .f32⟩
  | 33 => ⟨S_, .f32⟩
  | 34 => ⟨S16x2048x2048, .f32⟩
  | 35 => ⟨S16x2048x2048, .f32⟩
  | 36 => ⟨S16x2048x192, .f32⟩
  | 37 => ⟨S2048x16x192, .f32⟩
  | 38 => ⟨S16x2048x192, .f32⟩
  | 39 => ⟨S2048x16x192, .f32⟩
  | 40 => ⟨S2048x16x128, .f32⟩
  | 41 => ⟨S2048x16x64, .f32⟩
  | 42 => ⟨S_, .f32⟩
  | 43 => ⟨S2048x64, .f32⟩
  | 44 => ⟨S2048x1x64, .f32⟩
  | 45 => ⟨S_, .f32⟩
  | 46 => ⟨S2048x64, .f32⟩
  | 47 => ⟨S_, .f32⟩
  | 48 => ⟨S2048x16x256, .f32⟩
  | 49 => ⟨S2048x16x256, .f32⟩
  | 50 => ⟨S2048x32, .f32⟩
  | 51 => ⟨S2048x32, .f32⟩
  | 52 => ⟨S2048x16x128, .f32⟩
  | 53 => ⟨S2048x16x32, .f32⟩
  | 54 => ⟨S2048x16x32, .f32⟩
  | 55 => ⟨S_, .f32⟩
  | 56 => ⟨S2048x16x256, .f32⟩
  | 57 => ⟨S_, .f32⟩
  | 58 => ⟨S2048x128, .f32⟩
  | 59 => ⟨S_, .f32⟩
  | 60 => ⟨S2048x128, .f32⟩
  | 61 => ⟨S2048x128, .f32⟩
  | 62 => ⟨S2048x16x32, .f32⟩
  | 63 => ⟨S2048x16x32, .f32⟩
  | 64 => ⟨S2048x16x32, .f32⟩
  | 65 => ⟨S2048x16x32, .f32⟩
  | 66 => ⟨S2048x16x32, .f32⟩
  | 67 => ⟨S2048x16x32, .f32⟩
  | 68 => ⟨S2048x16x32, .f32⟩
  | 69 => ⟨S2048x16x32, .f32⟩
  | 70 => ⟨S2048x16x32, .f32⟩
  | 71 => ⟨S2048x16x32, .f32⟩
  | 72 => ⟨S2048x16x32, .f32⟩
  | 73 => ⟨S_, .f32⟩
  | 74 => ⟨S2048x16x128, .f32⟩
  | 75 => ⟨S_, .f32⟩
  | 76 => ⟨S2048x16x128, .f32⟩
  | 77 => ⟨S2048x16x128, .f32⟩
  | 78 => ⟨S_, .f32⟩
  | 79 => ⟨S2048x16x256, .f32⟩
  | 80 => ⟨S2048x16x256, .f32⟩
  | 81 => ⟨S2048x4096, .f32⟩
  | 82 => ⟨S2048x4096, .f32⟩
  | 83 => ⟨S2048x4096, .bf16⟩
  | 84 => ⟨S2048x4096, .bf16⟩
  | 85 => ⟨S2048x2048, .bf16⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_4 : Ref sig .tc := ⟨.hbm, 68, rfl⟩
abbrev main_call0_v0 : Ref sig .tc := ⟨.hbm, 69, rfl⟩
abbrev main_v57_1 : Ref sig .tc := ⟨.hbm, 70, rfl⟩
abbrev main_call0_v2 : Ref sig .tc := ⟨.hbm, 71, rfl⟩
abbrev main_v57_0 : Ref sig .tc := ⟨.hbm, 72, rfl⟩
abbrev main_call0_cst : Ref sig .tc := ⟨.hbm, 73, rfl⟩
abbrev main_v57_2 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_6 : Ref sig .tc := ⟨.hbm, 82, rfl⟩
abbrev main_v64 : Ref sig .tc := ⟨.hbm, 83, rfl⟩
abbrev main_cst_7 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_14 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_v90_2 : Ref sig .tc := ⟨.hbm, 124, rfl⟩
abbrev main_call1_cst_1 : Ref sig .tc := ⟨.hbm, 125, rfl⟩
abbrev main_call1_v6 : Ref sig .tc := ⟨.hbm, 126, rfl⟩
abbrev main_call1_v7 : Ref sig .tc := ⟨.hbm, 127, rfl⟩
abbrev main_v90_1 : Ref sig .tc := ⟨.hbm, 128, rfl⟩
abbrev main_v90_0 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_15 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_16 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_17 : Ref sig .tc := ⟨.hbm, 156, rfl⟩
abbrev main_v112 : Ref sig .tc := ⟨.hbm, 157, rfl⟩
abbrev main_call3_cst : Ref sig .tc := ⟨.hbm, 158, rfl⟩
abbrev main_call3_v0 : Ref sig .tc := ⟨.hbm, 159, rfl⟩
abbrev main_v113 : Ref sig .tc := ⟨.hbm, 160, rfl⟩
abbrev main_cst_18 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_19 : Ref sig .tc := ⟨.hbm, 170, rfl⟩
abbrev main_v122 : Ref sig .tc := ⟨.hbm, 171, rfl⟩
abbrev main_v123 : Ref sig .tc := ⟨.hbm, 172, rfl⟩
abbrev main_cst_20 : Ref sig .tc := ⟨.hbm, 173, rfl⟩
abbrev main_v124 : Ref sig .tc := ⟨.hbm, 174, rfl⟩
abbrev main_cst_21 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_22 : Ref sig .tc := ⟨.hbm, 183, rfl⟩
abbrev main_v132 : Ref sig .tc := ⟨.hbm, 184, rfl⟩
abbrev main_cst_23 : Ref sig .tc := ⟨.hbm, 185, rfl⟩
abbrev main_v133 : Ref sig .tc := ⟨.hbm, 186, rfl⟩
abbrev main_cst_24 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_25 : Ref sig .tc := ⟨.hbm, 201, rfl⟩
abbrev main_v147 : Ref sig .tc := ⟨.hbm, 202, rfl⟩
abbrev main_cst_26 : Ref sig .tc := ⟨.hbm, 203, rfl⟩
abbrev main_v148 : Ref sig .tc := ⟨.hbm, 204, rfl⟩
abbrev main_v149 : Ref sig .tc := ⟨.hbm, 205, rfl⟩
abbrev main_cst_27 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩

abbrev nD : Nat := 1
abbrev τ : Topo := Topo.v7x

variable {F : FTy → Type} [FloatOps F]
-- ==== Kernel2.lean ====
abbrev S2048x2048 : Shape := ⟨2, ![2048, 2048]⟩
abbrev S8x2048x896 : Shape := ⟨3, ![8, 2048, 896]⟩
abbrev S2048x7168 : Shape := ⟨2, ![2048, 7168]⟩
abbrev S1024x7168 : Shape := ⟨2, ![1024, 7168]⟩
abbrev S8x256x896 : Shape := ⟨3, ![8, 256, 896]⟩
abbrev S1024x256 : Shape := ⟨2, ![1024, 256]⟩
abbrev S1x256x896 : Shape := ⟨3, ![1, 256, 896]⟩
abbrev S256x896 : Shape := ⟨2, ![256, 896]⟩
abbrev S256x7168 : Shape := ⟨2, ![256, 7168]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S2048x2048, .f32⟩
  | .local _ .vmem, ⟨0, _⟩ => ⟨S1024x7168, .bf16⟩
  | .local _ .vmem, ⟨1, _⟩ => ⟨S1024x7168, .bf16⟩
  | .local _ .vmem, ⟨2, _⟩ => ⟨S8x256x896, .bf16⟩
  | .local _ .vmem, ⟨3, _⟩ => ⟨S8x256x896, .bf16⟩
  | .local _ .vmem, ⟨4, _⟩ => ⟨S1024x256, .f32⟩
  | .local _ .vmem, ⟨5, _⟩ => ⟨S1024x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S2048x2048 : Shape := ⟨2, ![2048, 2048]⟩
abbrev S8x2048x896 : Shape := ⟨3, ![8, 2048, 896]⟩
abbrev S2048x7168 : Shape := ⟨2, ![2048, 7168]⟩
abbrev S2048x8x896 : Shape := ⟨3, ![2048, 8, 896]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S2048x2048, .f32⟩
  | .hbm, ⟨4, _⟩ => ⟨S8x2048x896, .f32⟩
  | .hbm, ⟨5, _⟩ => ⟨S2048x8x896, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x2048 : Shape := ⟨2, ![2048, 2048]⟩
abbrev S1x3200x2048 : Shape := ⟨3, ![1, 3200, 2048]⟩
abbrev S2048x3200 : Shape := ⟨2, ![2048, 3200]⟩
abbrev S2048x640 : Shape := ⟨2, ![2048, 640]⟩
abbrev S2048x1024 : Shape := ⟨2, ![2048, 1024]⟩
abbrev S1x640x1024 : Shape := ⟨3, ![1, 640, 1024]⟩
abbrev S640x1024 : Shape := ⟨2, ![640, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x3200x2048, .bf16⟩
  | .hbm, ⟨2, _⟩ => ⟨S2048x3200, .bf16⟩
  | .hbm, ⟨3, _⟩ => ⟨S1x3200x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S1x640x1024, .bf16⟩
  | .local _ .vmem, ⟨5, _⟩ => ⟨S1x640x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩
abbrev S1x3200x2048 : Shape := ⟨3, ![1, 3200, 2048]⟩
abbrev S2048x3200 : Shape := ⟨2, ![2048, 3200]⟩
abbrev S3200x2048 : Shape := ⟨2, ![3200, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x3200x2048, .bf16⟩
  | .hbm, ⟨2, _⟩ => ⟨S2048x3200, .bf16⟩
  | .hbm, ⟨3, _⟩ => ⟨S1x3200x2048, .f32⟩
  | .hbm, ⟨4, _⟩ => ⟨S2048x2048, .f32⟩
  | .hbm, ⟨5, _⟩ => ⟨S3200x2048, .f32⟩
  | .hbm, ⟨6, _⟩ => ⟨S2048x3200, .f32⟩
  | .hbm, ⟨7, _⟩ => ⟨S2048x3200, .f32⟩
  | .hbm, ⟨8, _⟩ => ⟨S2048x3200, .f32⟩
  | .hbm, ⟨9, _⟩ => ⟨S3200x2048, .f32⟩
  | .hbm, ⟨10, _⟩ => ⟨S2048x3200, .f32⟩
  | .hbm, ⟨11, _⟩ => ⟨S3200x2048, .f32⟩
  | .hbm, ⟨12, _⟩ => ⟨S1x3200x2048, .f32⟩
  | .hbm, ⟨13, _⟩ => ⟨S1x3200x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x2048 : Shape := ⟨2, ![2048, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x512 : Shape := ⟨2, ![2048, 512]⟩
abbrev S1x512x4096 : Shape := ⟨3, ![1, 512, 4096]⟩
abbrev S2048x4096 : Shape := ⟨2, ![2048, 4096]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S1x512x4096, .bf16⟩
  | .hbm, ⟨2, _⟩ => ⟨S2048x4096, .bf16⟩
  | .hbm, ⟨3, _⟩ => ⟨S1x512x4096, .bf16⟩
  | .local _ .vmem, ⟨0, _⟩ => ⟨S2048x512, .bf16⟩
  | .local _ .vmem, ⟨1, _⟩ => ⟨S2048x1024, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S2048x512 : Shape := ⟨2, ![2048, 512]⟩
abbrev S1x512x4096 : Shape := ⟨3, ![1, 512, 4096]⟩
abbrev S2048x4096 : Shape := ⟨2, ![2048, 4096]⟩
abbrev S512x4096 : Shape := ⟨2, ![512, 4096]⟩
abbrev S4096x512 : Shape := ⟨2, ![4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1x512x4096, .bf16⟩
  | .hbm, ⟨2, _⟩ => ⟨S2048x4096, .bf16⟩
  | .hbm, ⟨3, _⟩ => ⟨S1x512x4096, .f32⟩
  | .hbm, ⟨4, _⟩ => ⟨S2048x512, .f32⟩
  | .hbm, ⟨5, _⟩ => ⟨S512x4096, .f32⟩
  | .hbm, ⟨6, _⟩ => ⟨S2048x4096, .f32⟩
  | .hbm, ⟨7, _⟩ => ⟨S2048x4096, .f32⟩
  | .hbm, ⟨8, _⟩ => ⟨S4096x512, .f32⟩
  | .hbm, ⟨9, _⟩ => ⟨S512x4096, .f32⟩
  | .hbm, ⟨10, _⟩ => ⟨S1x512x4096, .f32⟩
  | .hbm, ⟨11, _⟩ => ⟨S1x512x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S2048x512 : Shape := ⟨2, ![2048, 512]⟩
abbrev S8x512x512 : Shape := ⟨3, ![8, 512, 512]⟩
abbrev S2048x4096 : Shape := ⟨2, ![2048, 4096]⟩
abbrev S1x512x512 : Shape := ⟨3, ![1, 512, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S8x512x512, .bf16⟩
  | .hbm, ⟨2, _⟩ => ⟨S2048x4096, .bf16⟩
  | .hbm, ⟨3, _⟩ => ⟨S8x512x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S1x512x512, .bf16⟩
  | .local _ .vmem, ⟨4, _⟩ => ⟨S1x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S2048x512 : Shape := ⟨2, ![2048, 512]⟩
abbrev S8x512x512 : Shape := ⟨3, ![8, 512, 512]⟩
abbrev S2048x4096 : Shape := ⟨2, ![2048, 4096]⟩
abbrev S512x8x512 : Shape := ⟨3, ![512, 8, 512]⟩
abbrev S512x4096 : Shape := ⟨2, ![512, 4096]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x512x512, .bf16⟩
  | .hbm, ⟨2, _⟩ => ⟨S2048x4096, .bf16⟩
  | .hbm, ⟨3, _⟩ => ⟨S8x512x512, .f32⟩
  | .hbm, ⟨4, _⟩ => ⟨S2048x512, .f32⟩
  | .hbm, ⟨5, _⟩ => ⟨S512x8x512, .f32⟩
  | .hbm, ⟨6, _⟩ => ⟨S512x4096, .f32⟩
  | .hbm, ⟨7, _⟩ => ⟨S2048x4096, .f32⟩
  | .hbm, ⟨8, _⟩ => ⟨S2048x4096, .f32⟩
  | .hbm, ⟨9, _⟩ => ⟨S4096x512, .f32⟩
  | .hbm, ⟨10, _⟩ => ⟨S512x4096, .f32⟩
  | .hbm, ⟨11, _⟩ => ⟨S512x8x512, .f32⟩
  | .hbm, ⟨12, _⟩ => ⟨S8x512x512, .f32⟩
  | .hbm, ⟨13, _⟩ => ⟨S8x512x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S2048x2048 : Shape := ⟨2, ![2048, 2048]⟩
abbrev S8x2048x896 : Shape := ⟨3, ![8, 2048, 896]⟩
abbrev S2048x7168 : Shape := ⟨2, ![2048, 7168]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .f32⟩
  | .local _ .vmem, ⟨5, _⟩ => ⟨S1024x896, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x2048 : Shape := ⟨2, ![2048, 2048]⟩
abbrev S8x2048x896 : Shape := ⟨3, ![8, 2048, 896]⟩
abbrev S2048x8x896 : Shape := ⟨3, ![2048, 8, 896]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x2048, .f32⟩
  | .hbm, ⟨3, _⟩ => ⟨S8x2048x896, .f32⟩
  | .hbm, ⟨4, _⟩ => ⟨S2048x8x896, .f32⟩
  | .hbm, ⟨5, _⟩ => ⟨S2048x7168, .f32⟩
  | .hbm, ⟨6, _⟩ => ⟨S2048x7168, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S1x3200x2048 : Shape := ⟨3, ![1, 3200, 2048]⟩
abbrev S2048x3200 : Shape := ⟨2, ![2048, 3200]⟩
abbrev S1024x2048 : Shape := ⟨2, ![1024, 2048]⟩
abbrev S1x640x2048 : Shape := ⟨3, ![1, 640, 2048]⟩
abbrev S1024x640 : Shape := ⟨2, ![1024, 640]⟩
abbrev S640x2048 : Shape := ⟨2, ![640, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x3200x2048, .bf16⟩
  | .hbm, ⟨2, _⟩ => ⟨S2048x3200, .f32⟩
  | .local _ .vmem, ⟨0, _⟩ => ⟨S1024x2048, .bf16⟩
  | .local _ .vmem, ⟨1, _⟩ => ⟨S1024x2048, .bf16⟩
  | .local _ .vmem, ⟨2, _⟩ => ⟨S1x640x2048, .bf16⟩
  | .local _ .vmem, ⟨3, _⟩ => ⟨S1x640x2048, .bf16⟩
  | .local _ .vmem, ⟨4, _⟩ => ⟨S1024x640, .f32⟩
  | .local _ .vmem, ⟨5, _⟩ => ⟨S1024x640, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x640x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S2048x2048 : Shape := ⟨2, ![2048, 2048]⟩
abbrev S1x3200x2048 : Shape := ⟨3, ![1, 3200, 2048]⟩
abbrev S3200x2048 : Shape := ⟨2, ![3200, 2048]⟩
abbrev S2048x3200 : Shape := ⟨2, ![2048, 3200]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x3200x2048, .bf16⟩
  | .hbm, ⟨2, _⟩ => ⟨S2048x2048, .f32⟩
  | .hbm, ⟨3, _⟩ => ⟨S3200x2048, .bf16⟩
  | .hbm, ⟨4, _⟩ => ⟨S3200x2048, .f32⟩
  | .hbm, ⟨5, _⟩ => ⟨S2048x3200, .f32⟩
  | .hbm, ⟨6, _⟩ => ⟨S2048x3200, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x512 : Shape := ⟨2, ![2048, 512]⟩
abbrev S1x512x4096 : Shape := ⟨3, ![1, 512, 4096]⟩
abbrev S2048x4096 : Shape := ⟨2, ![2048, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S1x512x4096, .bf16⟩
  | .hbm, ⟨2, _⟩ => ⟨S2048x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S2048x512 : Shape := ⟨2, ![2048, 512]⟩
abbrev S1x512x4096 : Shape := ⟨3, ![1, 512, 4096]⟩
abbrev S512x4096 : Shape := ⟨2, ![512, 4096]⟩
abbrev S2048x4096 : Shape := ⟨2, ![2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1x512x4096, .bf16⟩
  | .hbm, ⟨2, _⟩ => ⟨S2048x512, .f32⟩
  | .hbm, ⟨3, _⟩ => ⟨S512x4096, .bf16⟩
  | .hbm, ⟨4, _⟩ => ⟨S512x4096, .f32⟩
  | .hbm, ⟨5, _⟩ => ⟨S2048x4096, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S2048x512 : Shape := ⟨2, ![2048, 512]⟩
abbrev S8x512x512 : Shape := ⟨3, ![8, 512, 512]⟩
abbrev S2048x4096 : Shape := ⟨2, ![2048, 4096]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S8x512x512, .bf16⟩
  | .hbm, ⟨2, _⟩ => ⟨S2048x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x512 : Shape := ⟨2, ![2048, 512]⟩
abbrev S8x512x512 : Shape := ⟨3, ![8, 512, 512]⟩
abbrev S512x8x512 : Shape := ⟨3, ![512, 8, 512]⟩
abbrev S512x4096 : Shape := ⟨2, ![512, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8x512x512, .bf16⟩
  | .hbm, ⟨2, _⟩ => ⟨S2048x512, .f32⟩
  | .hbm, ⟨3, _⟩ => ⟨S8x512x512, .f32⟩
  | .hbm, ⟨4, _⟩ => ⟨S512x8x512, .f32⟩
  | .hbm, ⟨5, _⟩ => ⟨S512x4096, .f32⟩
  | .hbm, ⟨6, _⟩ => ⟨S2048x4096, .f32⟩
  | .hbm, ⟨7, _⟩ => ⟨S2048x4096, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S2048x2048 : Shape := ⟨2, ![2048, 2048]⟩
abbrev S8x2048x896 : Shape := ⟨3, ![8, 2048, 896]⟩
abbrev S2048x7168 : Shape := ⟨2, ![2048, 7168]⟩
abbrev S_ : Shape := ⟨0, ![]⟩
abbrev S1 : Shape := ⟨1, ![1]⟩
abbrev S4x2048x896 : Shape := ⟨3, ![4, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S_, .i32⟩
  | .hbm, ⟨4, _⟩ => ⟨S4x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x2048 : Shape := ⟨2, ![2048, 2048]⟩
abbrev S8x2048x896 : Shape := ⟨3, ![8, 2048, 896]⟩
abbrev S2048x7168 : Shape := ⟨2, ![2048, 7168]⟩
abbrev S2048x8x896 : Shape := ⟨3, ![2048, 8, 896]⟩
abbrev S7168x2048 : Shape := ⟨2, ![7168, 2048]⟩
abbrev S4x2048x896 : Shape := ⟨3, ![4, 2048, 896]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S8x2048x896, .f32⟩
  | .hbm, ⟨4, _⟩ => ⟨S2048x2048, .f32⟩
  | .hbm, ⟨5, _⟩ => ⟨S2048x8x896, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S7168x2048, .f32⟩
  | .hbm, ⟨10, _⟩ => ⟨S2048x7168, .f32⟩
  | .hbm, ⟨11, _⟩ => ⟨S2048x8x896, .f32⟩
  | .hbm, ⟨12, _⟩ => ⟨S8x2048x896, .f32⟩
  | .hbm, ⟨13, _⟩ => ⟨S8x2048x896, .bf16⟩
  | .hbm, ⟨14, _⟩ => ⟨S4x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel15.lean ====
abbrev S2048x2048 : Shape := ⟨2, ![2048, 2048]⟩
abbrev S8x2048x896 : Shape := ⟨3, ![8, 2048, 896]⟩
abbrev S2048x7168 : Shape := ⟨2, ![2048, 7168]⟩
abbrev S_ : Shape := ⟨0, ![]⟩
abbrev S1 : Shape := ⟨1, ![1]⟩
abbrev S4x2048x896 : Shape := ⟨3, ![4, 2048, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 5
  | .vmem => 6
  | .smem => 1
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S_, .i32⟩
  | .hbm, ⟨4, _⟩ => ⟨S4x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x2048 : Shape := ⟨2, ![2048, 2048]⟩
abbrev S8x2048x896 : Shape := ⟨3, ![8, 2048, 896]⟩
abbrev S2048x7168 : Shape := ⟨2, ![2048, 7168]⟩
abbrev S2048x8x896 : Shape := ⟨3, ![2048, 8, 896]⟩
abbrev S7168x2048 : Shape := ⟨2, ![7168, 2048]⟩
abbrev S4x2048x896 : Shape := ⟨3, ![4, 2048, 896]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x896, .bf16⟩
  | .hbm, ⟨2, _⟩ => ⟨S2048x7168, .bf16⟩
  | .hbm, ⟨3, _⟩ => ⟨S8x2048x896, .f32⟩
  | .hbm, ⟨4, _⟩ => ⟨S2048x2048, .f32⟩
  | .hbm, ⟨5, _⟩ => ⟨S2048x8x896, .f32⟩
  | .hbm, ⟨6, _⟩ => ⟨S2048x7168, .f32⟩
  | .hbm, ⟨7, _⟩ => ⟨S2048x7168, .f32⟩
  | .hbm, ⟨8, _⟩ => ⟨S2048x7168, .f32⟩
  | .hbm, ⟨9, _⟩ => ⟨S7168x2048, .f32⟩
  | .hbm, ⟨10, _⟩ => ⟨S2048x7168, .f32⟩
  | .hbm, ⟨11, _⟩ => ⟨S2048x8x896, .f32⟩
  | .hbm, ⟨12, _⟩ => ⟨S8x2048x896, .f32⟩
  | .hbm, ⟨13, _⟩ => ⟨S8x2048x896, .bf16⟩
  | .hbm, ⟨14, _⟩ => ⟨S4x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Proof.Model.lean ====
/-
  The attention's gradient over the real numbers: what both programs compute, and the algebra between the two ways of
  writing the softmax's derivative. Nothing here knows of a program.
-/
module

public import Mathlib.Analysis.SpecialFunctions.Log.Basic
public import Mathlib.Analysis.SpecialFunctions.Exp
public import Mathlib.Algebra.BigOperators.Fin
public import Mathlib.Algebra.BigOperators.Field

@[expose] public section

noncomputable section

namespace Cert.Att

open Finset

/-- The step's arrays as real numbers: queries, keys with values, the shared rotary key lanes, the gate, the output's
    cotangent, the cosines and sines of the rotary angles, a shift of each row's scores, and the scores' scale. -/
structure Arr where
  q : Fin 2048 → Fin 4096 → ℝ
  kv : Fin 2048 → Fin 4096 → ℝ
  kp : Fin 2048 → Fin 128 → ℝ
  gate : Fin 2048 → Fin 2048 → ℝ
  dog : Fin 2048 → Fin 2048 → ℝ
  cs : Fin 2048 → Fin 32 → ℝ
  sn : Fin 2048 → Fin 32 → ℝ
  sh : Fin 16 → Fin 2048 → ℝ
  c : ℝ

/-- Lane `d` of head `h` among the 4096 lanes. -/
def lane4 (h : Fin 16) (d : Fin 256) : Fin 4096 := ⟨256 * h.val + d.val, by omega⟩

/-- Lane `d` of head `h` among the 2048 lanes. -/
def lane2 (h : Fin 16) (d : Fin 128) : Fin 2048 := ⟨128 * h.val + d.val, by omega⟩

/-- The head of a lane among the 4096. -/
def hd4 (c : Fin 4096) : Fin 16 := ⟨c.val / 256, by omega⟩

/-- The lane of its head. -/
def ln4 (c : Fin 4096) : Fin 256 := ⟨c.val % 256, by omega⟩

/-- The head of a lane among the 2048. -/
def hd2 (c : Fin 2048) : Fin 16 := ⟨c.val / 128, by omega⟩

/-- The lane of its head. -/
def ln2 (c : Fin 2048) : Fin 128 := ⟨c.val % 128, by omega⟩

theorem lane4_hd4 (c : Fin 4096) : lane4 (hd4 c) (ln4 c) = c := Fin.ext (by simp only [lane4, hd4, ln4]; omega)

theorem lane2_hd2 (c : Fin 2048) : lane2 (hd2 c) (ln2 c) = c := Fin.ext (by simp only [lane2, hd2, ln2]; omega)

/-- A lane of the lower half of a head. -/
def lo (d : Fin 128) : Fin 256 := ⟨d.val, by omega⟩

/-- A lane of the upper half of a head. -/
def up (d : Fin 128) : Fin 256 := ⟨128 + d.val, by omega⟩

/-- A lane of the upper half, seen from its half. -/
def dn (d : Fin 256) : Fin 128 := ⟨(d.val - 128) % 128, by omega⟩

/-- The lane half a turn away. -/
def half (d : Fin 128) : Fin 128 := ⟨(d.val + 64) % 128, by omega⟩

/-- Where each of the 192 lanes in use lies among the 256. -/
def used (j : Fin 192) : Fin 256 := ⟨if j.val < 160 then j.val else j.val + 32, by split <;> omega⟩

theorem used_injective : Function.Injective used := by
  intro a b h
  have h' := congrArg Fin.val h
  simp only [used] at h'
  ext
  split_ifs at h' <;> omega

/-- A sum over the 256 lanes of terms that vanish at the lanes not in use is the sum over the 192 lanes in use. -/
theorem sum_used (f : Fin 256 → ℝ) (hz : ∀ d : Fin 256, (160 ≤ d.val ∧ d.val < 192) ∨ 224 ≤ d.val → f d = 0) :
    ∑ d, f d = ∑ j, f (used j) := by
  symm
  refine Fintype.sum_of_injective used used_injective _ _ (fun d hd => hz d ?_) (fun _ => rfl)
  by_contra hn
  have hn' : d.val < 160 ∨ (192 ≤ d.val ∧ d.val < 224) := by omega
  apply hd
  rcases hn' with h1 | h1
  · exact ⟨⟨d.val, by omega⟩, by ext; simp [used, h1]⟩
  · exact ⟨⟨d.val - 32, by omega⟩, by ext; simp only [used]; split_ifs <;> omega⟩

/-- A sum over the 2048 keys of terms that vanish from `K` on is the sum over the first `K`. -/
theorem sum_prefix {K : ℕ} (hK : K ≤ 2048) (f : Fin 2048 → ℝ) (hz : ∀ k : Fin 2048, K ≤ k.val → f k = 0) :
    ∑ k, f k = ∑ j : Fin K, f (Fin.castLE hK j) := by
  symm
  refine Fintype.sum_of_injective (Fin.castLE hK) (Fin.castLE_injective hK) _ _ (fun d hd => hz d ?_) (fun _ => rfl)
  by_contra hn
  exact hd ⟨⟨d.val, by omega⟩, rfl⟩

namespace Arr

variable (A : Arr)

/-- The cosines laid over a head's rotary lanes, zero at the lanes not in use. -/
def cosT (t : Fin 2048) (d : Fin 128) : ℝ :=
  if h : d.val < 32 then A.cs t ⟨d.val, h⟩ else if h : 64 ≤ d.val ∧ d.val < 96 then A.cs t ⟨d.val - 64, by omega⟩ else 0

/-- The sines laid over them, with the sign of the rotation. -/
def sinT (t : Fin 2048) (d : Fin 128) : ℝ :=
  if h : d.val < 32 then -A.sn t ⟨d.val, h⟩ else if h : 64 ≤ d.val ∧ d.val < 96 then A.sn t ⟨d.val - 64, by omega⟩ else 0

/-- The rotated query. -/
def x (h : Fin 16) (t : Fin 2048) (d : Fin 256) : ℝ :=
  if d.val < 128 then A.q t (lane4 h d)
  else A.q t (lane4 h d) * A.cosT t (dn d) + A.q t (lane4 h (up (half (dn d)))) * A.sinT t (dn d)

/-- The key: its head's own lanes, then the shared ones. -/
def y (h : Fin 16) (k : Fin 2048) (d : Fin 256) : ℝ :=
  if d.val < 128 then A.kv k (lane4 h d) else A.kp k (dn d)

/-- The value. -/
def v (h : Fin 16) (k : Fin 2048) (d : Fin 128) : ℝ := A.kv k (lane4 h (up d))

/-- The logistic function. -/
def sg (r : ℝ) : ℝ := (1 + Real.exp (-r))⁻¹

/-- The cotangent of the attention's output before the gate. -/
def w (h : Fin 16) (t : Fin 2048) (d : Fin 128) : ℝ :=
  A.dog t (lane2 h d) * (A.gate t (lane2 h d) * sg (A.gate t (lane2 h d)))

/-- The scaled score. -/
def s (h : Fin 16) (t k : Fin 2048) : ℝ := (∑ d, A.x h t d * A.y h k d) * A.c

/-- The shifted exponential under the mask. -/
def e (h : Fin 16) (t k : Fin 2048) : ℝ := if k.val ≤ t.val then Real.exp (A.s h t k - A.sh h t) else 0

/-- A row's sum of them. -/
def l (h : Fin 16) (t : Fin 2048) : ℝ := ∑ k, A.e h t k

/-- A row's log-sum. -/
def lse (h : Fin 16) (t : Fin 2048) : ℝ := A.sh h t + Real.log (A.l h t)

/-- The probability, recomputed from the row's log-sum. -/
def p (h : Fin 16) (t k : Fin 2048) : ℝ := if k.val ≤ t.val then Real.exp (A.s h t k - A.lse h t) else 0

/-- The attention's output. -/
def o (h : Fin 16) (t : Fin 2048) (d : Fin 128) : ℝ := ∑ k, A.p h t k * A.v h k d

/-- The probabilities' cotangent. -/
def dp (h : Fin 16) (t k : Fin 2048) : ℝ := ∑ d, A.w h t d * A.v h k d

/-- A row's inner product of the output with its cotangent. -/
def dl (h : Fin 16) (t : Fin 2048) : ℝ := ∑ d, A.w h t d * A.o h t d

/-- The scores' cotangent. -/
def ds (h : Fin 16) (t k : Fin 2048) : ℝ := A.p h t k * (A.dp h t k - A.dl h t) * A.c

/-- The rotated query's cotangent. -/
def dx (h : Fin 16) (t : Fin 2048) (d : Fin 256) : ℝ := ∑ k, A.ds h t k * A.y h k d

/-- The query's cotangent: the rotation undone. -/
def dq (h : Fin 16) (t : Fin 2048) (d : Fin 256) : ℝ :=
  if d.val < 128 then A.dx h t d
  else A.dx h t d * A.cosT t (dn d) + A.dx h t (up (half (dn d))) * A.sinT t (half (dn d))

/-- The key's cotangent. -/
def dy (h : Fin 16) (k : Fin 2048) (d : Fin 256) : ℝ := ∑ t, A.ds h t k * A.x h t d

/-- The value's cotangent. -/
def dv (h : Fin 16) (k : Fin 2048) (d : Fin 128) : ℝ := ∑ t, A.p h t k * A.w h t d

/-- The shared key lanes' cotangent. -/
def dkp (k : Fin 2048) (d : Fin 128) : ℝ := ∑ h, A.dy h k (up d)

/-- The gate's cotangent. -/
def dg (h : Fin 16) (t : Fin 2048) (d : Fin 128) : ℝ :=
  A.dog t (lane2 h d) * A.o h t d
    * (sg (A.gate t (lane2 h d)) + A.gate t (lane2 h d) * sg (A.gate t (lane2 h d)) * (1 - sg (A.gate t (lane2 h d))))

theorem l_pos (h : Fin 16) (t : Fin 2048) : 0 < A.l h t := by
  have h0 : ∀ k ∈ (univ : Finset (Fin 2048)), 0 ≤ A.e h t k := fun k _ => by
    simp only [e]; split_ifs
    · exact (Real.exp_pos _).le
    · exact le_rfl
  have h1 : 0 < A.e h t t := by simp only [e, le_refl, if_true]; exact Real.exp_pos _
  exact lt_of_lt_of_le h1 (single_le_sum h0 (mem_univ t))

/-- The recomputed probability is the softmax's quotient. -/
theorem p_eq (h : Fin 16) (t k : Fin 2048) : A.p h t k = A.e h t k / A.l h t := by
  have hl := A.l_pos h t
  simp only [p, e, lse]
  split_ifs
  · rw [← sub_sub, Real.exp_sub, Real.exp_log hl]
  · simp

theorem p_zero (h : Fin 16) (t k : Fin 2048) (hk : t.val < k.val) : A.p h t k = 0 := by
  simp only [p, if_neg (Nat.not_le.mpr hk)]

theorem e_zero (h : Fin 16) (t k : Fin 2048) (hk : t.val < k.val) : A.e h t k = 0 := by
  simp only [e, if_neg (Nat.not_le.mpr hk)]

theorem ds_zero (h : Fin 16) (t k : Fin 2048) (hk : t.val < k.val) : A.ds h t k = 0 := by
  simp only [ds, A.p_zero h t k hk, zero_mul]

/-- The row's number is the sum over the keys of the probabilities times their cotangents. -/
theorem dl_eq (h : Fin 16) (t : Fin 2048) : A.dl h t = ∑ k, A.p h t k * A.dp h t k := by
  simp only [dl, o, dp, mul_sum]
  rw [sum_comm]
  refine sum_congr rfl fun k _ => sum_congr rfl fun d _ => ?_
  ring

/-- The softmax's derivative written with the quotient's rule, one sum over the keys a row. -/
theorem ds_eq (h : Fin 16) (t k : Fin 2048) :
    A.ds h t k
      = (if k.val ≤ t.val then
          (A.dp h t k / A.l h t + -(∑ k', A.dp h t k' * (1 / (A.l h t * A.l h t)) * A.e h t k')) * A.e h t k
        else 0) * A.c := by
  have hl := (A.l_pos h t).ne'
  have hs : ∑ k', A.dp h t k' * (1 / (A.l h t * A.l h t)) * A.e h t k' = A.dl h t / A.l h t := by
    rw [dl_eq, sum_div]
    refine sum_congr rfl fun k' _ => ?_
    rw [p_eq]; field_simp
  rw [hs]
  split_ifs with hk
  · simp only [ds, p_eq]; field_simp; ring
  · rw [A.ds_zero h t k (Nat.not_le.mp hk), zero_mul]

theorem cosT_pad (t : Fin 2048) (d : Fin 128) (hd : (32 ≤ d.val ∧ d.val < 64) ∨ 96 ≤ d.val) : A.cosT t d = 0 := by
  simp only [cosT]; split_ifs <;> first | omega | rfl

theorem sinT_pad (t : Fin 2048) (d : Fin 128) (hd : (32 ≤ d.val ∧ d.val < 64) ∨ 96 ≤ d.val) : A.sinT t d = 0 := by
  simp only [sinT]; split_ifs <;> first | omega | rfl

/-- The lanes not in use hold zeros after the rotation. -/
theorem x_pad (h : Fin 16) (t : Fin 2048) (d : Fin 256) (hd : (160 ≤ d.val ∧ d.val < 192) ∨ 224 ≤ d.val) :
    A.x h t d = 0 := by
  have h1 : ¬ d.val < 128 := by omega
  have h2 : (32 ≤ (dn d).val ∧ (dn d).val < 64) ∨ 96 ≤ (dn d).val := by simp only [dn]; omega
  simp only [x, if_neg h1, A.cosT_pad t _ h2, A.sinT_pad t _ h2, mul_zero, add_zero]

end Arr

end Cert.Att

end
-- ==== Proof.Lift.lean ====
/-
  From the extended reals to the reals: where every operand is a real number, so is the result.
-/
module

public import proofs.«01_k».proof.Proof.Model
public import Idealize.ShloMosaic.Lib.Pipeline.ValueKit
public import Idealize.ShloMosaic.Lib.WordCmp

@[expose] public section

noncomputable section

namespace Cert.Att

open Idealize.ShloMosaic

/-- A sum of real numbers, taken among the extended reals. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm
theorem zero_coe : (0 : EReal) = ((0 : ℝ) : EReal) := rfl
theorem one_coe : (1 : EReal) = ((1 : ℝ) : EReal) := rfl

theorem div_coe_coe (a : ℝ) {b : ℝ} (hb : b ≠ 0) : Ideal.div (a : EReal) (b : EReal) = ((a / b : ℝ) : EReal) := by
  rw [Ideal.div_coe hb, mul_coe, mul_one_div]

theorem ite_coe (P : Prop) [Decidable P] (a b : ℝ) :
    (if P then (a : EReal) else (b : EReal)) = ((if P then a else b : ℝ) : EReal) := by split_ifs <;> rfl

/-- Row `r` of a block of 256 rows starting at `b`. -/
def row (b : ℕ) (hb : b ≤ 1792) (r : Fin 256) : Fin 2048 := ⟨b + r.val, by omega⟩

/-- A key among the first `K`. -/
def key {K : ℕ} (hK : K ≤ 2048) (j : Fin K) : Fin 2048 := ⟨j.val, by omega⟩

/-- The kernel's rotated query. -/
theorem lift_x (A : Arr) (h : Fin 16) (t : Fin 2048) (q : Fin 256 → EReal) (c s : Fin 128 → EReal)
    (hq : ∀ d, q d = (A.q t (lane4 h d) : EReal)) (hc : ∀ d, c d = (A.cosT t d : EReal))
    (hs : ∀ d, s d = (A.sinT t d : EReal)) (d : Fin 256) :
    (if h' : d.val < 128 then q d
      else q ⟨128 + (d.val - 128), by omega⟩ * c ⟨d.val - 128, by omega⟩
        + q ⟨128 + (d.val - 128 + 128 - 64) % 128, by omega⟩ * s ⟨d.val - 128, by omega⟩) = (A.x h t d : EReal) := by
  by_cases hd : d.val < 128
  · rw [dif_pos hd, hq, Arr.x, if_pos hd]
  · have e1 : (⟨128 + (d.val - 128), by omega⟩ : Fin 256) = d := Fin.ext (by dsimp only; omega)
    have e2 : (⟨d.val - 128, by omega⟩ : Fin 128) = dn d := Fin.ext (by simp only [dn]; omega)
    have e3 : (⟨128 + (d.val - 128 + 128 - 64) % 128, by omega⟩ : Fin 256) = up (half (dn d)) :=
      Fin.ext (by simp only [up, half, dn]; omega)
    rw [dif_neg hd, e1, e2, e3, hq, hq, hc, hs, mul_coe, mul_coe, add_coe, Arr.x, if_neg hd]

/-- The kernel's rotation undone. -/
theorem lift_dq (A : Arr) (h : Fin 16) (t : Fin 2048) (q : Fin 256 → EReal) (c s : Fin 128 → EReal)
    (hq : ∀ d, q d = (A.dx h t d : EReal)) (hc : ∀ d, c d = (A.cosT t d : EReal))
    (hs : ∀ d, s d = (A.sinT t d : EReal)) (d : Fin 256) :
    (if h' : d.val < 128 then q d
      else q ⟨128 + (d.val - 128), by omega⟩ * c ⟨d.val - 128, by omega⟩
        + q ⟨128 + (d.val - 128 + 128 - 64) % 128, by omega⟩ * s ⟨(d.val - 128 + 128 - 64) % 128, by omega⟩)
      = (A.dq h t d : EReal) := by
  by_cases hd : d.val < 128
  · rw [dif_pos hd, hq, Arr.dq, if_pos hd]
  · have e1 : (⟨128 + (d.val - 128), by omega⟩ : Fin 256) = d := Fin.ext (by dsimp only; omega)
    have e2 : (⟨d.val - 128, by omega⟩ : Fin 128) = dn d := Fin.ext (by simp only [dn]; omega)
    have e3 : (⟨128 + (d.val - 128 + 128 - 64) % 128, by omega⟩ : Fin 256) = up (half (dn d)) :=
      Fin.ext (by simp only [up, half, dn]; omega)
    have e4 : (⟨(d.val - 128 + 128 - 64) % 128, by omega⟩ : Fin 128) = half (dn d) :=
      Fin.ext (by simp only [half, dn]; omega)
    rw [dif_neg hd, e1, e2, e3, e4, hq, hq, hc, hs, mul_coe, mul_coe, add_coe, Arr.dq, if_neg hd]

/-- A probability at or under the diagonal. -/
theorem lift_p (A : Arr) (h : Fin 16) (t k : Fin 2048) (x y : Fin 256 → EReal) (c l : EReal)
    (hx : ∀ d, x d = (A.x h t d : EReal)) (hy : ∀ d, y d = (A.y h k d : EReal)) (hc : c = (A.c : EReal))
    (hl : l = (A.lse h t : EReal)) (hk : k.val ≤ t.val) :
    Ideal.exp ((∑ d, x d * y d) * c - l) = (A.p h t k : EReal) := by
  simp only [hx, hy, hc, hl, mul_coe, sum_coe, sub_coe, Ideal.exp_coe, Arr.p, if_pos hk, Arr.s]

/-- A selection by the order of two small numbers. -/
theorem select_sle (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat (w := 32) ha hb, Scalar.select]
  by_cases h : a ≤ b <;> simp [h]

/-- A row of the scores' cotangent. -/
theorem lift_ds (A : Arr) (h : Fin 16) (t k : Fin 2048) (p c : EReal) (w v o : Fin 128 → EReal)
    (hp : p = (A.p h t k : EReal)) (hw : ∀ d, w d = (A.w h t d : EReal)) (hv : ∀ d, v d = (A.v h k d : EReal))
    (ho : ∀ d, o d = (A.o h t d : EReal)) (hc : c = (A.c : EReal)) :
    p * (∑ d, w d * v d - ∑ d, w d * o d) * c = (A.ds h t k : EReal) := by
  simp only [hp, hw, hv, ho, hc, mul_coe, sum_coe, sub_coe, Arr.ds, Arr.dp, Arr.dl]

/-- A row of the rotated query's cotangent, over the keys that the row reaches. -/
theorem lift_dx (A : Arr) (h : Fin 16) (t : Fin 2048) (d : Fin 256) {K : ℕ} (hK : K ≤ 2048) (ht : t.val < K)
    (f y : Fin K → EReal) (hf : ∀ j, f j = (A.ds h t (key hK j) : EReal)) (hy : ∀ j, y j = (A.y h (key hK j) d : EReal)) :
    ∑ j, f j * y j = (A.dx h t d : EReal) := by
  simp only [hf, hy, mul_coe, sum_coe, Arr.dx]
  congr 1
  exact (sum_prefix hK (fun k => A.ds h t k * A.y h k d)
    (fun k hk => by rw [A.ds_zero h t k (lt_of_lt_of_le ht hk), zero_mul])).symm

/-- A block's rows added to a running sum. -/
theorem lift_add {ι : Type*} [Fintype ι] (z : EReal) (f g : ι → EReal) (a : ℝ) (f' g' : ι → ℝ) (hz : z = (a : EReal))
    (hf : ∀ r, f r = (f' r : EReal)) (hg : ∀ r, g r = (g' r : EReal)) :
    z + ∑ r, f r * g r = ((a + ∑ r, f' r * g' r : ℝ) : EReal) := by
  simp only [hz, hf, hg, mul_coe, sum_coe, add_coe]

/-- The logistic function as the kernel computes it, by the magnitude's exponential. -/
theorem lift_sg (g : ℝ) :
    (if (0 : EReal) ≤ (g : EReal) then Ideal.div 1 (1 + Ideal.exp (0 - FloatOps.absf (F := Ideal) (φ := .f32) (g : EReal)))
      else Ideal.div (Ideal.exp (0 - FloatOps.absf (F := Ideal) (φ := .f32) (g : EReal)))
        (1 + Ideal.exp (0 - FloatOps.absf (F := Ideal) (φ := .f32) (g : EReal)))) = (Arr.sg g : EReal) := by
  have hm : FloatOps.absf (F := Ideal) (φ := .f32) (g : EReal) = ((|g| : ℝ) : EReal) := by
    change max (g : EReal) (-(g : EReal)) = _
    rw [neg_coe, abs_eq_max_neg]
    exact (EReal.coe_strictMono.monotone.map_max).symm
  have h1 : (1 : ℝ) + Real.exp (0 - |g|) ≠ 0 := (by positivity : (0 : ℝ) < 1 + Real.exp (0 - |g|)).ne'
  rw [hm, zero_coe, one_coe, sub_coe, Ideal.exp_coe, add_coe, div_coe_coe _ h1, div_coe_coe _ h1, ite_coe]
  congr 1
  simp only [EReal.coe_le_coe_iff, Arr.sg]
  split_ifs with hg
  · rw [abs_of_nonneg hg, zero_sub, one_div]
  · rw [abs_of_neg (not_le.mp hg), zero_sub, neg_neg, Real.exp_neg]
    field_simp
    ring

end Cert.Att

end
-- ==== Proof.Ref1.lean ====
/-
  The reference's forward lines over the real numbers: the rotated queries, the keys, the scores, the softmax and the output.
-/
module

public import proofs.«01_k».proof.Proof.Lift
public import proofs.«01_k».proof.Proof.Gen.ReferenceIdeal.Read

@[expose] public section

set_option maxRecDepth 16384
set_option maxHeartbeats 1000000

noncomputable section

namespace Cert.Att.Ref

open Idealize.ShloMosaic Cert.ReferenceIdeal Cert.ReferenceIdeal.Read

/-- The arguments are the real arrays `A`, with the rotary angles' cosines and sines. -/
structure Args (x0 : (⟨S2048x4096, .f32⟩ : BufTy).Contents (Elt Ideal)) (x1 : (⟨S2048x4096, .bf16⟩ : BufTy).Contents (Elt Ideal))
    (x2 : (⟨S2048x128, .bf16⟩ : BufTy).Contents (Elt Ideal)) (x3 : (⟨S2048x3200, .f32⟩ : BufTy).Contents (Elt Ideal))
    (x4 : (⟨S2048x2048, .f32⟩ : BufTy).Contents (Elt Ideal)) (x5 : (⟨S1x2048, .i32⟩ : BufTy).Contents (Elt Ideal)) (A : Arr) : Prop where
  q : ∀ t d, x0 (ix2 t d) = (A.q t d : EReal)
  kv : ∀ t d, x1 (ix2 t d) = (A.kv t d : EReal)
  kp : ∀ t d, x2 (ix2 t d) = (A.kp t d : EReal)
  gate : ∀ (t : Fin 2048) (d : Fin 2048), x3 (ix2 t ⟨d.val, by omega⟩) = (A.gate t d : EReal)
  dog : ∀ t d, x4 (ix2 t d) = (A.dog t d : EReal)
  cs : ∀ t d, val_main_v22 (F := Ideal) x5 (ix2 t d) = (A.cs t d : EReal)
  sn : ∀ t d, val_main_v24 (F := Ideal) x5 (ix2 t d) = (A.sn t d : EReal)
  c : (FloatOps.ofBits (F := Ideal) .f32 0x3D93CD3A#32 : EReal) = (A.c : EReal)

variable {x0 : (⟨S2048x4096, .f32⟩ : BufTy).Contents (Elt Ideal)} {x1 : (⟨S2048x4096, .bf16⟩ : BufTy).Contents (Elt Ideal)}
    {x2 : (⟨S2048x128, .bf16⟩ : BufTy).Contents (Elt Ideal)} {x3 : (⟨S2048x3200, .f32⟩ : BufTy).Contents (Elt Ideal)}
    {x4 : (⟨S2048x2048, .f32⟩ : BufTy).Contents (Elt Ideal)} {x5 : (⟨S1x2048, .i32⟩ : BufTy).Contents (Elt Ideal)} {A : Arr}
    (H : Args x0 x1 x2 x3 x4 x5 A)

include H

/-- The reference's queries: the lanes in use of the rotated query. -/
theorem v42 (t : Fin 2048) (h : Fin 16) (j : Fin 192) :
    val_main_v42 (F := Ideal) x0 x5 (ix3 t h j) = (A.x h t (used j) : EReal) := by
  unfold val_main_v42
  pointwise [val_main_v41, val_main_v33, val_main_v38, val_main_v3, val_main_v26, val_main_v27, val_main_v28, val_main_v29, val_main_v30, val_main_v31, val_main_v32, val_main_v34, val_main_v35, val_main_v36, val_main_v37, val_main_v23, val_main_v25]
  simp only [H.q, H.cs, H.sn, mul_coe, sub_coe, add_coe]
  by_cases h1 : j.val < 128
  · rw [dif_pos h1]
    have e0 : (used j).val < 128 := by simp only [used]; split_ifs <;> omega
    have e1 : (⟨h.val * 256 + j.val, by omega⟩ : Fin 4096) = lane4 h (used j) :=
      Fin.ext (by simp only [lane4, used]; split_ifs <;> omega)
    rw [Arr.x, if_pos e0, e1]
  rw [dif_neg h1]
  by_cases h2 : j.val - 128 < 32
  · rw [dif_pos h2]
    have e0 : ¬ (used j).val < 128 := by simp only [used]; split_ifs <;> omega
    have e1 : (⟨h.val * 256 + (128 + (j.val - 128)), by omega⟩ : Fin 4096) = lane4 h (used j) :=
      Fin.ext (by simp only [lane4, used]; split_ifs <;> omega)
    have e2 : (⟨h.val * 256 + (128 + (64 + (j.val - 128))), by omega⟩ : Fin 4096) = lane4 h (up (half (dn (used j)))) :=
      Fin.ext (by simp only [lane4, up, half, dn, used]; split_ifs <;> omega)
    have e3 : (dn (used j)).val = j.val - 128 := by simp only [dn, used]; split_ifs <;> omega
    have e4 : (dn (used j)).val < 32 := by omega
    rw [Arr.x, if_neg e0, e1, e2, Arr.cosT, Arr.sinT, dif_pos e4, dif_pos e4]
    simp only [e3, mul_neg, sub_eq_add_neg]
  · rw [dif_neg h2]
    have e0 : ¬ (used j).val < 128 := by simp only [used]; split_ifs <;> omega
    have e1 : (⟨h.val * 256 + (128 + (64 + (j.val - 128 - 32))), by omega⟩ : Fin 4096) = lane4 h (used j) :=
      Fin.ext (by simp only [lane4, used]; split_ifs <;> omega)
    have e2 : (⟨h.val * 256 + (128 + (j.val - 128 - 32)), by omega⟩ : Fin 4096) = lane4 h (up (half (dn (used j)))) :=
      Fin.ext (by simp only [lane4, up, half, dn, used]; split_ifs <;> omega)
    have e3 : (dn (used j)).val = 64 + (j.val - 128 - 32) := by simp only [dn, used]; split_ifs <;> omega
    have e4 : ¬ (dn (used j)).val < 32 := by omega
    have e5 : 64 ≤ (dn (used j)).val ∧ (dn (used j)).val < 96 := by omega
    have e6 : (⟨(dn (used j)).val - 64, by omega⟩ : Fin 32) = ⟨j.val - 128 - 32, by omega⟩ := Fin.ext (by dsimp only; omega)
    have hc : A.cosT t (dn (used j)) = A.cs t ⟨j.val - 128 - 32, by omega⟩ := by
      rw [Arr.cosT, dif_neg e4, dif_pos e5, e6]
    have hs : A.sinT t (dn (used j)) = A.sn t ⟨j.val - 128 - 32, by omega⟩ := by
      rw [Arr.sinT, dif_neg e4, dif_pos e5, e6]
    have hx : A.x h t (used j) = A.q t (lane4 h (used j)) * A.cosT t (dn (used j))
        + A.q t (lane4 h (up (half (dn (used j))))) * A.sinT t (dn (used j)) := if_neg e0
    rw [hx, hc, hs, e1, e2]

/-- The shared rotary lanes of the keys. -/
theorem v46 (t : Fin 2048) (h : Fin 16) (j : Fin 64) :
    val_main_v46 (F := Ideal) x2 (ix3 t h j)
      = if h_1 : j.val < 32 then x2 (ix2 t ⟨j.val, by omega⟩) else x2 (ix2 t ⟨64 + (j.val - 32), by omega⟩) := by
  unfold val_main_v46
  pointwise [val_main_v45, val_main_v43, val_main_v40, val_main_v39, val_main_v1]

/-- The reference's keys: the lanes in use of a head's key. -/
theorem v47 (t : Fin 2048) (h : Fin 16) (j : Fin 192) :
    val_main_v47 (F := Ideal) x1 x2 (ix3 t h j) = (A.y h t (used j) : EReal) := by
  unfold val_main_v47
  pointwise [val_main_v44, val_main_v4, val_main_v0]
  simp only [v46 H, H.kv, H.kp]
  by_cases h1 : j.val < 128
  · rw [dif_pos h1]
    have e0 : (used j).val < 128 := by simp only [used]; split_ifs <;> omega
    have e1 : (⟨h.val * 256 + j.val, by omega⟩ : Fin 4096) = lane4 h (used j) :=
      Fin.ext (by simp only [lane4, used]; split_ifs <;> omega)
    rw [Arr.y, if_pos e0, e1]
  rw [dif_neg h1]
  by_cases h2 : j.val - 128 < 32
  · rw [dif_pos h2]
    have e0 : ¬ (used j).val < 128 := by simp only [used]; split_ifs <;> omega
    have e3 : (⟨j.val - 128, by omega⟩ : Fin 128) = dn (used j) :=
      Fin.ext (by simp only [dn, used]; split_ifs <;> omega)
    rw [Arr.y, if_neg e0, e3]
  · rw [dif_neg h2]
    have e0 : ¬ (used j).val < 128 := by simp only [used]; split_ifs <;> omega
    have e3 : (⟨64 + (j.val - 128 - 32), by omega⟩ : Fin 128) = dn (used j) :=
      Fin.ext (by simp only [dn, used]; split_ifs <;> omega)
    rw [Arr.y, if_neg e0, e3]

/-- The scaled scores. -/
theorem v50 (h : Fin 16) (t k : Fin 2048) :
    val_main_v50 (F := Ideal) x0 x1 x2 x5 (ix3 h t k) = (A.s h t k : EReal) := by
  unfold val_main_v50 val_main_v48
  pointwise [val_main_v49, val_main_cst_3]
  simp only [v42 H, v47 H, mul_coe, sum_coe]
  rw [show Ideal.ofBits .f32 0x3D93CD3A#32 = (A.c : EReal) from H.c, mul_coe, Arr.s,
    sum_used (fun d => A.x h t d * A.y h k d) (fun d hd => by rw [A.x_pad h t d hd, zero_mul])]

omit H in
theorem bot_bits : Ideal.ofBits .f32 0xFF800000#32 = ⊥ := by simp [Ideal.ofBits, Ideal.ieee]

/-- The scores under the mask. -/
theorem v57 (h : Fin 16) (t k : Fin 2048) :
    val_main_v57_0 (F := Ideal) x0 x1 x2 x5 (ix3 h t k) = if k.val ≤ t.val then (A.s h t k : EReal) else ⊥ := by
  unfold val_main_v57_0
  pointwise [val_main_v57_1, val_main_call0_v2, val_main_call0_v0, val_main_cst_4, val_main_v56, val_main_v54, val_main_v55, val_main_v53, val_main_v52, val_main_v51]
  rw [select_sle _ _ (by omega) (by omega), v50 H]
  congr 1

/-- A row's largest score is a real number. -/
theorem v59 (h : Fin 16) (t : Fin 2048) :
    ∃ r : ℝ, val_main_v59 (F := Ideal) x0 x1 x2 x5 (ix2 h t) = (r : EReal) := by
  unfold val_main_v59
  pointwise [val_main_cst_5]
  simp only [v57 H, bot_bits]
  change ∃ r : ℝ, Finset.univ.sup _ = (r : EReal)
  set f : Fin 2048 → EReal := fun k => if k.val ≤ t.val then (A.s h t k : EReal) else ⊥ with hf
  have h1 : Finset.univ.sup f ≠ ⊤ := by
    refine (Finset.sup_lt_iff bot_lt_top |>.mpr fun k _ => ?_).ne
    simp only [hf]; split_ifs
    · exact EReal.coe_lt_top _
    · exact bot_lt_top
  have h2 : Finset.univ.sup f ≠ ⊥ := by
    intro h0
    have h3 : f t ≤ Finset.univ.sup f := Finset.le_sup (Finset.mem_univ t)
    rw [h0, le_bot_iff] at h3
    simp [hf] at h3
  exact ⟨_, (EReal.coe_toReal h1 h2).symm⟩

end Cert.Att.Ref
-- ==== Proof.Store.lean ====
/-
  Loads and stores of unit-stride rectangles read at one element, and sums over the first rows of 2048.
-/
module

public import proofs.«01_k».proof.Proof.Lift
public import Idealize.ShloMosaic.Lib.WritesUnit
public import Idealize.ShloMosaic.Lib.Pipeline.ReadBack

@[expose] public section

noncomputable section

namespace Cert.Att

open Idealize.ShloMosaic

variable {Val : EltTy → Type} {e : EltTy}

/-- A load of a rectangle of a matrix. -/
theorem ld2 {n0 n1 p0 p1 o0 o1 : ℕ} (X : (⟨2, ![n0, n1]⟩ : Shape).Idx → Val e)
    (inb : ∀ a, (![o0, o1] : Fin 2 → ℕ) a + (![p0, p1] : Fin 2 → ℕ) a ≤ (⟨2, ![n0, n1]⟩ : Shape).size a)
    (r : Fin p0) (d : Fin p1) (r' : Fin n0) (d' : Fin n1) (hr : r'.val = o0 + r.val) (hd : d'.val = o1 + d.val) :
    View.ld X (Rect.unit (s := ⟨2, ![n0, n1]⟩) ![o0, o1] ![p0, p1] inb) (ix2 r d) = X (ix2 r' d') := by
  show X _ = X _
  congr 1
  funext a
  match a with
  | ⟨0, _⟩ => exact Fin.ext (by show o0 + 1 * r.val = r'.val; omega)
  | ⟨1, _⟩ => exact Fin.ext (by show o1 + 1 * d.val = d'.val; omega)

/-- A load of a rectangle of a stack of matrices. -/
theorem ld3 {n0 n1 n2 p0 p1 p2 o0 o1 o2 : ℕ} (X : (⟨3, ![n0, n1, n2]⟩ : Shape).Idx → Val e)
    (inb : ∀ a, (![o0, o1, o2] : Fin 3 → ℕ) a + (![p0, p1, p2] : Fin 3 → ℕ) a ≤ (⟨3, ![n0, n1, n2]⟩ : Shape).size a)
    (q : Fin p0) (r : Fin p1) (d : Fin p2) (q' : Fin n0) (r' : Fin n1) (d' : Fin n2) (hq : q'.val = o0 + q.val)
    (hr : r'.val = o1 + r.val) (hd : d'.val = o2 + d.val) :
    View.ld X (Rect.unit (s := ⟨3, ![n0, n1, n2]⟩) ![o0, o1, o2] ![p0, p1, p2] inb) (ix3 q r d) = X (ix3 q' r' d') := by
  show X _ = X _
  congr 1
  funext a
  match a with
  | ⟨0, _⟩ => exact Fin.ext (by show o0 + 1 * q.val = q'.val; omega)
  | ⟨1, _⟩ => exact Fin.ext (by show o1 + 1 * r.val = r'.val; omega)
  | ⟨2, _⟩ => exact Fin.ext (by show o2 + 1 * d.val = d'.val; omega)

section
variable [∀ e, Nonempty (Val e)]

/-- An element under the newest of the stores into a matrix. -/
theorem canon2_mem {n0 n1 p0 p1 o0 o1 : ℕ}
    (inb : ∀ a, (![o0, o1] : Fin 2 → ℕ) a + (![p0, p1] : Fin 2 → ℕ) a ≤ (⟨2, ![n0, n1]⟩ : Shape).size a)
    (w : (Rect.unit (s := ⟨2, ![n0, n1]⟩) ![o0, o1] ![p0, p1] inb).shape.Idx → Val e) (L : List (View.Piece Val ⟨2, ![n0, n1]⟩ e))
    (r : Fin p0) (d : Fin p1) (r' : Fin n0) (d' : Fin n1) (hr : r'.val = o0 + r.val) (hd : d'.val = o1 + d.val) :
    View.canon ((⟨Rect.unit (s := ⟨2, ![n0, n1]⟩) ![o0, o1] ![p0, p1] inb, w⟩ : View.Piece Val ⟨2, ![n0, n1]⟩ e) :: L) (ix2 r' d') = w (ix2 r d) := by
  have h : (Rect.unit (s := ⟨2, ![n0, n1]⟩) ![o0, o1] ![p0, p1] inb).emb (ix2 r d) = ix2 r' d' := by
    funext a
    match a with
    | ⟨0, _⟩ => exact Fin.ext (by show o0 + 1 * r.val = r'.val; omega)
    | ⟨1, _⟩ => exact Fin.ext (by show o1 + 1 * d.val = d'.val; omega)
  rw [← h]
  exact View.canon_cons_emb _ w L (ix2 r d)

/-- An element whose column the newest store misses. -/
theorem canon2_skip {n0 n1 p0 p1 o0 o1 : ℕ}
    (inb : ∀ a, (![o0, o1] : Fin 2 → ℕ) a + (![p0, p1] : Fin 2 → ℕ) a ≤ (⟨2, ![n0, n1]⟩ : Shape).size a)
    (w : (Rect.unit (s := ⟨2, ![n0, n1]⟩) ![o0, o1] ![p0, p1] inb).shape.Idx → Val e) (L : List (View.Piece Val ⟨2, ![n0, n1]⟩ e))
    (r' : Fin n0) (d' : Fin n1) (hd : d'.val < o1 ∨ o1 + p1 ≤ d'.val) :
    View.canon ((⟨Rect.unit (s := ⟨2, ![n0, n1]⟩) ![o0, o1] ![p0, p1] inb, w⟩ : View.Piece Val ⟨2, ![n0, n1]⟩ e) :: L) (ix2 r' d')
      = View.canon L (ix2 r' d') := by
  refine View.canon_cons_of_not_mem _ L ?_
  rw [Rect.mem_set_unit]
  intro hall
  have h1 : o1 ≤ d'.val ∧ d'.val < o1 + p1 := hall 1
  omega

/-- An element under the newest of the stores into a stack of matrices. -/
theorem canon3_mem {n0 n1 n2 p0 p1 p2 o0 o1 o2 : ℕ}
    (inb : ∀ a, (![o0, o1, o2] : Fin 3 → ℕ) a + (![p0, p1, p2] : Fin 3 → ℕ) a ≤ (⟨3, ![n0, n1, n2]⟩ : Shape).size a)
    (w : (Rect.unit (s := ⟨3, ![n0, n1, n2]⟩) ![o0, o1, o2] ![p0, p1, p2] inb).shape.Idx → Val e) (L : List (View.Piece Val ⟨3, ![n0, n1, n2]⟩ e))
    (q : Fin p0) (r : Fin p1) (d : Fin p2) (q' : Fin n0) (r' : Fin n1) (d' : Fin n2) (hq : q'.val = o0 + q.val)
    (hr : r'.val = o1 + r.val) (hd : d'.val = o2 + d.val) :
    View.canon ((⟨Rect.unit (s := ⟨3, ![n0, n1, n2]⟩) ![o0, o1, o2] ![p0, p1, p2] inb, w⟩ : View.Piece Val ⟨3, ![n0, n1, n2]⟩ e) :: L)
      (ix3 q' r' d') = w (ix3 q r d) := by
  have h : (Rect.unit (s := ⟨3, ![n0, n1, n2]⟩) ![o0, o1, o2] ![p0, p1, p2] inb).emb (ix3 q r d) = ix3 q' r' d' := by
    funext a
    match a with
    | ⟨0, _⟩ => exact Fin.ext (by show o0 + 1 * q.val = q'.val; omega)
    | ⟨1, _⟩ => exact Fin.ext (by show o1 + 1 * r.val = r'.val; omega)
    | ⟨2, _⟩ => exact Fin.ext (by show o2 + 1 * d.val = d'.val; omega)
  rw [← h]
  exact View.canon_cons_emb _ w L (ix3 q r d)

/-- An element the newest store misses. -/
theorem canon3_skip {n0 n1 n2 p0 p1 p2 o0 o1 o2 : ℕ}
    (inb : ∀ a, (![o0, o1, o2] : Fin 3 → ℕ) a + (![p0, p1, p2] : Fin 3 → ℕ) a ≤ (⟨3, ![n0, n1, n2]⟩ : Shape).size a)
    (w : (Rect.unit (s := ⟨3, ![n0, n1, n2]⟩) ![o0, o1, o2] ![p0, p1, p2] inb).shape.Idx → Val e) (L : List (View.Piece Val ⟨3, ![n0, n1, n2]⟩ e))
    (q' : Fin n0) (r' : Fin n1) (d' : Fin n2)
    (hd : q'.val < o0 ∨ o0 + p0 ≤ q'.val ∨ r'.val < o1 ∨ o1 + p1 ≤ r'.val ∨ d'.val < o2 ∨ o2 + p2 ≤ d'.val) :
    View.canon ((⟨Rect.unit (s := ⟨3, ![n0, n1, n2]⟩) ![o0, o1, o2] ![p0, p1, p2] inb, w⟩ : View.Piece Val ⟨3, ![n0, n1, n2]⟩ e) :: L)
      (ix3 q' r' d') = View.canon L (ix3 q' r' d') := by
  refine View.canon_cons_of_not_mem _ L ?_
  rw [Rect.mem_set_unit]
  intro hall
  have h0 : o0 ≤ q'.val ∧ q'.val < o0 + p0 := hall 0
  have h1 : o1 ≤ r'.val ∧ r'.val < o1 + p1 := hall 1
  have h2 : o2 ≤ d'.val ∧ d'.val < o2 + p2 := hall 2
  omega

/-- A load of what the point's own stores left. -/
theorem cov3 {sig : RefSig} {κ : Kind} {sp : Space} {n0 n1 n2 p0 p1 p2 o0 o1 o2 : ℕ} (v : View sig κ sp ⟨3, ![n0, n1, n2]⟩ e)
    (inb : ∀ a, (![o0, o1, o2] : Fin 3 → ℕ) a + (![p0, p1, p2] : Fin 3 → ℕ) a ≤ (⟨3, ![n0, n1, n2]⟩ : Shape).size a)
    (L : List (View.Piece Val ⟨3, ![n0, n1, n2]⟩ e))
    (q : Fin p0) (r : Fin p1) (d : Fin p2) (q' : Fin n0) (r' : Fin n1) (d' : Fin n2) (hq : q'.val = o0 + q.val)
    (hr : r'.val = o1 + r.val) (hd : d'.val = o2 + d.val) :
    v.readCov L (Rect.unit (s := ⟨3, ![n0, n1, n2]⟩) ![o0, o1, o2] ![p0, p1, p2] inb).toLoadRect (ix3 q r d) = View.canon L (ix3 q' r' d') := by
  rw [View.readCov_eq_canon']
  show View.canon L _ = View.canon L _
  congr 1
  funext a
  match a with
  | ⟨0, _⟩ => exact Fin.ext (by show o0 + 1 * q.val = q'.val; omega)
  | ⟨1, _⟩ => exact Fin.ext (by show o1 + 1 * r.val = r'.val; omega)
  | ⟨2, _⟩ => exact Fin.ext (by show o2 + 1 * d.val = d'.val; omega)

end

/-- Two tiles side by side. -/
theorem tiles [∀ e, Nonempty (Val e)] {R n N : ℕ} (hN : N = 2 * n)
    (inb1 : ∀ a, (![0, n] : Fin 2 → ℕ) a + (![R, n] : Fin 2 → ℕ) a ≤ (⟨2, ![R, N]⟩ : Shape).size a)
    (inb0 : ∀ a, (![0, 0] : Fin 2 → ℕ) a + (![R, n] : Fin 2 → ℕ) a ≤ (⟨2, ![R, N]⟩ : Shape).size a)
    (w1 : (Rect.unit (s := ⟨2, ![R, N]⟩) ![0, n] ![R, n] inb1).shape.Idx → Val e)
    (w0 : (Rect.unit (s := ⟨2, ![R, N]⟩) ![0, 0] ![R, n] inb0).shape.Idx → Val e)
    (T : Fin 2 → Fin R → Fin n → Val e)
    (h0 : ∀ r d, w0 (ix2 r d) = T 0 r d) (h1 : ∀ r d, w1 (ix2 r d) = T 1 r d)
    (p : Fin 2) (r : Fin R) (d : Fin n) (d' : Fin N) (hd : d'.val = n * p.val + d.val) :
    View.canon [(⟨Rect.unit (s := ⟨2, ![R, N]⟩) ![0, n] ![R, n] inb1, w1⟩ : View.Piece Val ⟨2, ![R, N]⟩ e),
      ⟨Rect.unit (s := ⟨2, ![R, N]⟩) ![0, 0] ![R, n] inb0, w0⟩] (ix2 r d') = T p r d := by
  rcases (show p = 0 ∨ p = 1 by fin_cases p <;> simp) with rfl | rfl
  · simp only [Fin.val_zero, Nat.mul_zero, Nat.zero_add] at hd
    rw [canon2_skip inb1 w1 _ r d' (Or.inl (by omega)), canon2_mem inb0 w0 _ r d r d' (by omega) (by omega)]
    exact h0 r d
  · simp only [Fin.val_one, Nat.mul_one] at hd
    rw [canon2_mem inb1 w1 _ r d r d' (by omega) (by omega)]
    exact h1 r d

/-- Both planes' first `K` rows stored over earlier contents. -/
theorem planes {sig : RefSig} {κ : Kind} {sp : Space} {K n : ℕ} (hK : K ≤ 2048) (v : View sig κ sp ⟨3, ![2, 2048, n]⟩ e) (f : v.ty.Contents Val)
    (inb1 : ∀ a, (![1, 0, 0] : Fin 3 → ℕ) a + (![1, K, n] : Fin 3 → ℕ) a ≤ (⟨3, ![2, 2048, n]⟩ : Shape).size a)
    (inb0 : ∀ a, (![0, 0, 0] : Fin 3 → ℕ) a + (![1, K, n] : Fin 3 → ℕ) a ≤ (⟨3, ![2, 2048, n]⟩ : Shape).size a)
    (w1 : (Rect.unit (s := ⟨3, ![2, 2048, n]⟩) ![1, 0, 0] ![1, K, n] inb1).shape.Idx → Val e)
    (w0 : (Rect.unit (s := ⟨3, ![2, 2048, n]⟩) ![0, 0, 0] ![1, K, n] inb0).shape.Idx → Val e)
    (T : Fin 2 → Fin 2048 → Fin n → Val e)
    (h0 : ∀ (j : Fin K) d, w0 (ix3 0 j d) = T 0 (key hK j) d)
    (h1 : ∀ (j : Fin K) d, w1 (ix3 0 j d) = T 1 (key hK j) d)
    (hf : ∀ p (j : Fin 2048) d, K ≤ j.val → v.read Val f (ix3 p j d) = T p j d)
    (p : Fin 2) (j : Fin 2048) (d : Fin n) :
    v.read Val (v.writes Val f [⟨Rect.unit (s := ⟨3, ![2, 2048, n]⟩) ![1, 0, 0] ![1, K, n] inb1, w1⟩,
      ⟨Rect.unit (s := ⟨3, ![2, 2048, n]⟩) ![0, 0, 0] ![1, K, n] inb0, w0⟩]) (ix3 p j d) = T p j d := by
  by_cases hj : j.val < K
  · have ej : key hK ⟨j.val, hj⟩ = j := rfl
    rcases (show p = 0 ∨ p = 1 by fin_cases p <;> simp) with rfl | rfl
    · rw [View.read_writes_cons_unit_of_not_mem v f inb1 w1 _ (ix3 0 j d) rfl (0 : Fin 3) (Or.inl (by show (0 : ℕ) < 1; omega)),
        View.read_writes_cons_unit_of_mem v f inb0 w0 _ (ix3 0 j d) (ix3 0 ⟨j.val, hj⟩ d) rfl (fun a => by
          match a with
          | ⟨0, _⟩ => rfl
          | ⟨1, _⟩ => exact (Nat.zero_add _).symm
          | ⟨2, _⟩ => exact (Nat.zero_add _).symm)]
      exact h0 ⟨j.val, hj⟩ d
    · rw [View.read_writes_cons_unit_of_mem v f inb1 w1 _ (ix3 1 j d) (ix3 0 ⟨j.val, hj⟩ d) rfl (fun a => by
          match a with
          | ⟨0, _⟩ => rfl
          | ⟨1, _⟩ => exact (Nat.zero_add _).symm
          | ⟨2, _⟩ => exact (Nat.zero_add _).symm)]
      exact h1 ⟨j.val, hj⟩ d
  · have hm : ∀ o : ℕ, (j.val < 0 ∨ 0 + K ≤ j.val) := fun _ => Or.inr (by omega)
    rw [View.read_writes_cons_unit_of_not_mem v f inb1 w1 _ (ix3 p j d) rfl (1 : Fin 3) (hm 0),
      View.read_writes_cons_unit_of_not_mem v f inb0 w0 _ (ix3 p j d) rfl (1 : Fin 3) (hm 0)]
    exact hf p j d (by omega)

/-- Both planes stored whole. -/
theorem whole_planes [∀ e, Nonempty (Val e)] {K n : ℕ}
    (inb1 : ∀ a, (![1, 0, 0] : Fin 3 → ℕ) a + (![1, K, n] : Fin 3 → ℕ) a ≤ (⟨3, ![2, K, n]⟩ : Shape).size a)
    (inb0 : ∀ a, (![0, 0, 0] : Fin 3 → ℕ) a + (![1, K, n] : Fin 3 → ℕ) a ≤ (⟨3, ![2, K, n]⟩ : Shape).size a)
    (w1 : (Rect.unit (s := ⟨3, ![2, K, n]⟩) ![1, 0, 0] ![1, K, n] inb1).shape.Idx → Val e)
    (w0 : (Rect.unit (s := ⟨3, ![2, K, n]⟩) ![0, 0, 0] ![1, K, n] inb0).shape.Idx → Val e)
    (T : Fin 2 → Fin K → Fin n → Val e)
    (h0 : ∀ (j : Fin K) d, w0 (ix3 0 j d) = T 0 j d) (h1 : ∀ (j : Fin K) d, w1 (ix3 0 j d) = T 1 j d)
    (p : Fin 2) (j : Fin K) (d : Fin n) :
    View.canon [(⟨Rect.unit (s := ⟨3, ![2, K, n]⟩) ![1, 0, 0] ![1, K, n] inb1, w1⟩ : View.Piece Val ⟨3, ![2, K, n]⟩ e),
      ⟨Rect.unit (s := ⟨3, ![2, K, n]⟩) ![0, 0, 0] ![1, K, n] inb0, w0⟩] (ix3 p j d) = T p j d := by
  rcases (show p = 0 ∨ p = 1 by fin_cases p <;> simp) with rfl | rfl
  · rw [canon3_skip inb1 w1 _ 0 j d (Or.inl (by simp)), canon3_mem inb0 w0 _ 0 j d 0 j d rfl (by omega) (by omega)]
    exact h0 j d
  · rw [canon3_mem inb1 w1 _ 0 j d 1 j d rfl (by omega) (by omega)]
    exact h1 j d

/-- Both planes' first rows stored over an earlier fill. -/
theorem fill_planes [∀ e, Nonempty (Val e)] {K n : ℕ} (hK : K ≤ 2048)
    (inb1 : ∀ a, (![1, 0, 0] : Fin 3 → ℕ) a + (![1, K, n] : Fin 3 → ℕ) a ≤ (⟨3, ![2, 2048, n]⟩ : Shape).size a)
    (inb0 : ∀ a, (![0, 0, 0] : Fin 3 → ℕ) a + (![1, K, n] : Fin 3 → ℕ) a ≤ (⟨3, ![2, 2048, n]⟩ : Shape).size a)
    (inbz : ∀ a, (![0, 0, 0] : Fin 3 → ℕ) a + (![2, 2048, n] : Fin 3 → ℕ) a ≤ (⟨3, ![2, 2048, n]⟩ : Shape).size a)
    (w1 : (Rect.unit (s := ⟨3, ![2, 2048, n]⟩) ![1, 0, 0] ![1, K, n] inb1).shape.Idx → Val e)
    (w0 : (Rect.unit (s := ⟨3, ![2, 2048, n]⟩) ![0, 0, 0] ![1, K, n] inb0).shape.Idx → Val e)
    (z : (Rect.unit (s := ⟨3, ![2, 2048, n]⟩) ![0, 0, 0] ![2, 2048, n] inbz).shape.Idx → Val e)
    (T : Fin 2 → Fin 2048 → Fin n → Val e)
    (h0 : ∀ (j : Fin K) d, w0 (ix3 0 j d) = T 0 (key hK j) d) (h1 : ∀ (j : Fin K) d, w1 (ix3 0 j d) = T 1 (key hK j) d)
    (hz : ∀ p (j : Fin 2048) d, K ≤ j.val → z (ix3 p j d) = T p j d)
    (p : Fin 2) (j : Fin 2048) (d : Fin n) :
    View.canon [(⟨Rect.unit (s := ⟨3, ![2, 2048, n]⟩) ![1, 0, 0] ![1, K, n] inb1, w1⟩ : View.Piece Val ⟨3, ![2, 2048, n]⟩ e),
      ⟨Rect.unit (s := ⟨3, ![2, 2048, n]⟩) ![0, 0, 0] ![1, K, n] inb0, w0⟩,
      ⟨Rect.unit (s := ⟨3, ![2, 2048, n]⟩) ![0, 0, 0] ![2, 2048, n] inbz, z⟩] (ix3 p j d) = T p j d := by
  by_cases hj : j.val < K
  · rcases (show p = 0 ∨ p = 1 by fin_cases p <;> simp) with rfl | rfl
    · rw [canon3_skip inb1 w1 _ 0 j d (Or.inl (by simp)), canon3_mem inb0 w0 _ 0 ⟨j.val, hj⟩ d 0 j d rfl (by simp) (by omega)]
      exact h0 ⟨j.val, hj⟩ d
    · rw [canon3_mem inb1 w1 _ 0 ⟨j.val, hj⟩ d 1 j d rfl (by simp) (by omega)]
      exact h1 ⟨j.val, hj⟩ d
  · rw [canon3_skip inb1 w1 _ p j d (by omega), canon3_skip inb0 w0 _ p j d (by omega),
      canon3_mem inbz z _ p j d p j d (by omega) (by omega) (by omega)]
    exact hz p j d (by omega)

/-- Two halves of a plane side by side, in both planes. -/
theorem half_planes [∀ e, Nonempty (Val e)] {K n N : ℕ} (hN : N = 2 * n)
    (inb3 : ∀ a, (![1, 0, n] : Fin 3 → ℕ) a + (![1, K, n] : Fin 3 → ℕ) a ≤ (⟨3, ![2, K, N]⟩ : Shape).size a)
    (inb2 : ∀ a, (![1, 0, 0] : Fin 3 → ℕ) a + (![1, K, n] : Fin 3 → ℕ) a ≤ (⟨3, ![2, K, N]⟩ : Shape).size a)
    (inb1 : ∀ a, (![0, 0, n] : Fin 3 → ℕ) a + (![1, K, n] : Fin 3 → ℕ) a ≤ (⟨3, ![2, K, N]⟩ : Shape).size a)
    (inb0 : ∀ a, (![0, 0, 0] : Fin 3 → ℕ) a + (![1, K, n] : Fin 3 → ℕ) a ≤ (⟨3, ![2, K, N]⟩ : Shape).size a)
    (w3 : (Rect.unit (s := ⟨3, ![2, K, N]⟩) ![1, 0, n] ![1, K, n] inb3).shape.Idx → Val e)
    (w2 : (Rect.unit (s := ⟨3, ![2, K, N]⟩) ![1, 0, 0] ![1, K, n] inb2).shape.Idx → Val e)
    (w1 : (Rect.unit (s := ⟨3, ![2, K, N]⟩) ![0, 0, n] ![1, K, n] inb1).shape.Idx → Val e)
    (w0 : (Rect.unit (s := ⟨3, ![2, K, N]⟩) ![0, 0, 0] ![1, K, n] inb0).shape.Idx → Val e)
    (T : Fin 2 → Fin K → Fin N → Val e)
    (h0 : ∀ (j : Fin K) (d : Fin n), w0 (ix3 0 j d) = T 0 j ⟨d.val, by omega⟩)
    (h1 : ∀ (j : Fin K) (d : Fin n), w1 (ix3 0 j d) = T 0 j ⟨n + d.val, by omega⟩)
    (h2 : ∀ (j : Fin K) (d : Fin n), w2 (ix3 0 j d) = T 1 j ⟨d.val, by omega⟩)
    (h3 : ∀ (j : Fin K) (d : Fin n), w3 (ix3 0 j d) = T 1 j ⟨n + d.val, by omega⟩)
    (p : Fin 2) (j : Fin K) (d : Fin N) :
    View.canon [(⟨Rect.unit (s := ⟨3, ![2, K, N]⟩) ![1, 0, n] ![1, K, n] inb3, w3⟩ : View.Piece Val ⟨3, ![2, K, N]⟩ e),
      ⟨Rect.unit (s := ⟨3, ![2, K, N]⟩) ![1, 0, 0] ![1, K, n] inb2, w2⟩,
      ⟨Rect.unit (s := ⟨3, ![2, K, N]⟩) ![0, 0, n] ![1, K, n] inb1, w1⟩,
      ⟨Rect.unit (s := ⟨3, ![2, K, N]⟩) ![0, 0, 0] ![1, K, n] inb0, w0⟩] (ix3 p j d) = T p j d := by
  by_cases hd : d.val < n
  · rcases (show p = 0 ∨ p = 1 by fin_cases p <;> simp) with rfl | rfl
    · rw [canon3_skip inb3 w3 _ 0 j d (Or.inl (by simp)), canon3_skip inb2 w2 _ 0 j d (Or.inl (by simp)),
        canon3_skip inb1 w1 _ 0 j d (by omega), canon3_mem inb0 w0 _ 0 j ⟨d.val, hd⟩ 0 j d rfl (by omega) (by simp)]
      exact h0 j ⟨d.val, hd⟩
    · rw [canon3_skip inb3 w3 _ 1 j d (by omega), canon3_mem inb2 w2 _ 0 j ⟨d.val, hd⟩ 1 j d rfl (by omega) (by simp)]
      exact h2 j ⟨d.val, hd⟩
  · have e : (⟨n + (d.val - n), by omega⟩ : Fin N) = d := Fin.ext (by dsimp only; omega)
    rcases (show p = 0 ∨ p = 1 by fin_cases p <;> simp) with rfl | rfl
    · rw [canon3_skip inb3 w3 _ 0 j d (Or.inl (by simp)), canon3_skip inb2 w2 _ 0 j d (Or.inl (by simp)),
        canon3_mem inb1 w1 _ 0 j ⟨d.val - n, by omega⟩ 0 j d rfl (by omega) (by dsimp only; omega)]
      exact (h1 j ⟨d.val - n, by omega⟩).trans (congrArg (T 0 j) e)
    · rw [canon3_mem inb3 w3 _ 0 j ⟨d.val - n, by omega⟩ 1 j d rfl (by omega) (by dsimp only; omega)]
      exact (h3 j ⟨d.val - n, by omega⟩).trans (congrArg (T 1 j) e)

/-- The sum over the rows before `b`. -/
def part (f : Fin 2048 → ℝ) (b : ℕ) : ℝ := ∑ t, if t.val < b then f t else 0

theorem part_zero (f : Fin 2048 → ℝ) : part f 0 = 0 := by simp [part]

theorem part_all (f : Fin 2048 → ℝ) : part f 2048 = ∑ t, f t :=
  Finset.sum_congr rfl fun t _ => if_pos t.isLt

/-- One more block of 256 rows. -/
theorem part_step (f : Fin 2048 → ℝ) (b : ℕ) (hb : b ≤ 1792) : part f (b + 256) = part f b + ∑ r, f (row b hb r) := by
  have hinj : Function.Injective (row b hb) := fun x y hxy => by
    have := congrArg Fin.val hxy
    simp only [row] at this
    exact Fin.ext (by omega)
  have h1 : ∑ r, f (row b hb r) = ∑ t : Fin 2048, if b ≤ t.val ∧ t.val < b + 256 then f t else 0 := by
    refine Fintype.sum_of_injective (row b hb) hinj _ _ (fun t ht => if_neg fun hn => ht ?_) (fun r => ?_)
    · exact ⟨⟨t.val - b, by omega⟩, Fin.ext (by simp only [row]; omega)⟩
    · rw [if_pos]; simp only [row]; omega
  rw [h1, part, part, ← Finset.sum_add_distrib]
  refine Finset.sum_congr rfl fun t _ => ?_
  split_ifs <;> first | omega | simp

/-- A block whose terms vanish adds nothing. -/
theorem part_stay (f : Fin 2048 → ℝ) (b : ℕ) (hb : b ≤ 1792) (h : ∀ r, f (row b hb r) = 0) : part f (b + 256) = part f b := by
  rw [part_step f b hb, Finset.sum_eq_zero fun r _ => h r, add_zero]

end Cert.Att

end
-- ==== Proof.Point.lean ====
/-
  One grid point's arrays as real numbers: the blocks it reads, what the point before it left, what it leaves.
-/
module

public import proofs.«01_k».proof.Proof.Store
public import proofs.«01_k».proof.Proof.Gen.KernelIdeal.Frame

@[expose] public section

set_option backward.proofsInPublic true
set_option maxRecDepth 16384

noncomputable section

namespace Cert.Att

open Idealize.ShloMosaic Idealize.SL.Sem Cert.KernelIdeal Cert.KernelIdeal.Gen Idealize.ShloMosaic.TcCoe

/-- The first head of a pair. -/
def h0 (g : Fin 8) : Fin 16 := ⟨2 * g.val, by omega⟩
/-- The second head of a pair. -/
def h1 (g : Fin 8) : Fin 16 := ⟨2 * g.val + 1, by omega⟩
/-- Either head of a pair. -/
def hp (g : Fin 8) (p : Fin 2) : Fin 16 := ⟨2 * g.val + p.val, by omega⟩

theorem hp_zero (g : Fin 8) : hp g 0 = h0 g := rfl
theorem hp_one (g : Fin 8) : hp g 1 = h1 g := rfl

variable (m : (ℓ : Loc nD τ sig) → Buf (Elt Ideal) ℓ) (c : Dev nD)

/-- What a point of head pair `g` and query rows from `b` on reads. -/
structure In (A : Arr) (t : Fin cfg0.N) (g : Fin 8) (b : ℕ) (hb : b ≤ 1792) : Prop where
  q : ∀ (r : Fin 256) (d : Fin 512), (iblk (F := Ideal) m c 0 t : Vec Ideal S256x512 .f32) (ix2 r d) = (A.q (row b hb r) ⟨512 * g.val + d.val, by omega⟩ : EReal)
  cs : ∀ (r : Fin 256) (d : Fin 128), (iblk (F := Ideal) m c 1 t : Vec Ideal S256x128 .f32) (ix2 r d) = (A.cosT (row b hb r) d : EReal)
  sn : ∀ (r : Fin 256) (d : Fin 128), (iblk (F := Ideal) m c 2 t : Vec Ideal S256x128 .f32) (ix2 r d) = (A.sinT (row b hb r) d : EReal)
  kv : ∀ (k : Fin 2048) (d : Fin 512), (iblk (F := Ideal) m c 3 t : Vec Ideal S2048x512 .bf16) (ix2 k d) = (A.kv k ⟨512 * g.val + d.val, by omega⟩ : EReal)
  kp : ∀ (k : Fin 2048) (d : Fin 128), (iblk (F := Ideal) m c 4 t : Vec Ideal S2048x128 .bf16) (ix2 k d) = (A.kp k d : EReal)
  o : ∀ (r : Fin 256) (p : Fin 2) (d : Fin 128), (iblk (F := Ideal) m c 5 t : Vec Ideal S256x256 .f32) (ix2 r ⟨128 * p.val + d.val, by omega⟩) = (A.o (hp g p) (row b hb r) d : EReal)
  l : ∀ (p : Fin 2) (r : Fin 256), (iblk (F := Ideal) m c 6 t : Vec Ideal S2x256x1 .f32) (ix3 p r 0) = (A.lse (hp g p) (row b hb r) : EReal)
  dog : ∀ (r : Fin 256) (d : Fin 256), (iblk (F := Ideal) m c 7 t : Vec Ideal S256x256 .f32) (ix2 r d) = (A.dog (row b hb r) ⟨256 * g.val + d.val, by omega⟩ : EReal)
  gate : ∀ (r : Fin 256) (d : Fin 256), (X0_8 (F := Ideal) m c t : Vec Ideal S256x256 .f32) (ix2 r d) = (A.gate (row b hb r) ⟨256 * g.val + d.val, by omega⟩ : EReal)
  cc : Ideal.ofBits FTy.f32 0x3D93CD3A#32 = (A.c : EReal)

/-- The scratch after the rows before `b` of head pair `g`. -/
structure St (A : Arr) (t : ℕ) (ht : t < cfg0.N) (g : Fin 8) (b : ℕ) : Prop where
  k : ∀ (p : Fin 2) (j : Fin 2048) (d : Fin 256), (outsAt0 (F := Ideal) m c t ht).2.2.2.2.1 (ix3 p j d) = (A.y (hp g p) j d : EReal)
  dk : ∀ (p : Fin 2) (j : Fin 2048) (d : Fin 256), (outsAt0 (F := Ideal) m c t ht).2.2.2.2.2.1 (ix3 p j d)
    = (part (fun t => A.ds (hp g p) t j * A.x (hp g p) t d) b : EReal)
  dv : ∀ (p : Fin 2) (j : Fin 2048) (d : Fin 128), (outsAt0 (F := Ideal) m c t ht).2.2.2.2.2.2 (ix3 p j d)
    = (part (fun t => A.p (hp g p) t j * A.w (hp g p) t d) b : EReal)

/-- What a point stores of the queries' and the gate's cotangents. -/
structure Out (A : Arr) (t : ℕ) (ht : t < cfg0.N) (g : Fin 8) (b : ℕ) (hb : b ≤ 1792) : Prop where
  dq : ∀ (p : Fin 2) (r : Fin 256) (d : Fin 256), (outsAt0 (F := Ideal) m c t ht).1 (ix2 r ⟨256 * p.val + d.val, by omega⟩) = (A.dq (hp g p) (row b hb r) d : EReal)
  dg : ∀ (p : Fin 2) (r : Fin 256) (d : Fin 128), (outsAt0 (F := Ideal) m c t ht).2.2.2.1 (ix2 r ⟨128 * p.val + d.val, by omega⟩) = (A.dg (hp g p) (row b hb r) d : EReal)

namespace In

variable {m} {c} {A : Arr} {t : Fin cfg0.N} {g : Fin 8} {b : ℕ} {hb : b ≤ 1792} (I : In m c A t g b hb)

include I

theorem q0 (inb) (r : Fin 256) (d : Fin 256) :
    View.ld (iblk (F := Ideal) m c 0 t : Vec Ideal S256x512 .f32) (Rect.unit (s := S256x512) ![0, 0] ![256, 256] inb) (ix2 r d) = (A.q (row b hb r) (lane4 (h0 g) d) : EReal) := by
  rw [ld2 _ inb r d r ⟨d.val, by omega⟩ (by omega) (by dsimp only; omega), I.q]
  congr 2; exact Fin.ext (by simp only [lane4, h0]; omega)

theorem q1 (inb) (r : Fin 256) (d : Fin 256) :
    View.ld (iblk (F := Ideal) m c 0 t : Vec Ideal S256x512 .f32) (Rect.unit (s := S256x512) ![0, 256] ![256, 256] inb) (ix2 r d) = (A.q (row b hb r) (lane4 (h1 g) d) : EReal) := by
  rw [ld2 _ inb r d r ⟨256 + d.val, by omega⟩ (by omega) (by dsimp only), I.q]
  congr 2; exact Fin.ext (by simp only [lane4, h1]; omega)

theorem l0 (inb) (r : Fin 256) :
    View.ld (iblk (F := Ideal) m c 6 t : Vec Ideal S2x256x1 .f32) (Rect.unit (s := S2x256x1) ![0, 0, 0] ![1, 256, 1] inb) (ix3 0 r 0) = (A.lse (h0 g) (row b hb r) : EReal) := by
  rw [ld3 _ inb 0 r 0 0 r 0 rfl (by omega) rfl, I.l]; rfl

theorem l1 (inb) (r : Fin 256) :
    View.ld (iblk (F := Ideal) m c 6 t : Vec Ideal S2x256x1 .f32) (Rect.unit (s := S2x256x1) ![1, 0, 0] ![1, 256, 1] inb) (ix3 0 r 0) = (A.lse (h1 g) (row b hb r) : EReal) := by
  rw [ld3 _ inb 0 r 0 1 r 0 rfl (by omega) rfl, I.l]; rfl

theorem o0 (inb) (r : Fin 256) (d : Fin 128) :
    View.ld (iblk (F := Ideal) m c 5 t : Vec Ideal S256x256 .f32) (Rect.unit (s := S256x256) ![0, 0] ![256, 128] inb) (ix2 r d) = (A.o (h0 g) (row b hb r) d : EReal) := by
  rw [ld2 _ inb r d r ⟨128 * (0 : Fin 2).val + d.val, by simp only [Fin.val_zero]; omega⟩ (by omega) (by simp), I.o]; rfl

theorem o1 (inb) (r : Fin 256) (d : Fin 128) :
    View.ld (iblk (F := Ideal) m c 5 t : Vec Ideal S256x256 .f32) (Rect.unit (s := S256x256) ![0, 128] ![256, 128] inb) (ix2 r d) = (A.o (h1 g) (row b hb r) d : EReal) := by
  rw [ld2 _ inb r d r ⟨128 * (1 : Fin 2).val + d.val, by simp only [Fin.val_one]; omega⟩ (by omega) (by simp), I.o]; rfl

theorem d0 (inb) (r : Fin 256) (d : Fin 128) :
    View.ld (iblk (F := Ideal) m c 7 t : Vec Ideal S256x256 .f32) (Rect.unit (s := S256x256) ![0, 0] ![256, 128] inb) (ix2 r d) = (A.dog (row b hb r) (lane2 (h0 g) d) : EReal) := by
  rw [ld2 _ inb r d r ⟨d.val, by omega⟩ (by omega) (by dsimp only; omega), I.dog]
  congr 2; exact Fin.ext (by simp only [lane2, h0]; omega)

theorem d1 (inb) (r : Fin 256) (d : Fin 128) :
    View.ld (iblk (F := Ideal) m c 7 t : Vec Ideal S256x256 .f32) (Rect.unit (s := S256x256) ![0, 128] ![256, 128] inb) (ix2 r d) = (A.dog (row b hb r) (lane2 (h1 g) d) : EReal) := by
  rw [ld2 _ inb r d r ⟨128 + d.val, by omega⟩ (by omega) (by dsimp only), I.dog]
  congr 2; exact Fin.ext (by simp only [lane2, h1]; omega)

theorem g0 (inb) (r : Fin 256) (d : Fin 128) :
    View.ld (X0_8 (F := Ideal) m c t : Vec Ideal S256x256 .f32) (Rect.unit (s := S256x256) ![0, 0] ![256, 128] inb) (ix2 r d) = (A.gate (row b hb r) (lane2 (h0 g) d) : EReal) := by
  rw [ld2 _ inb r d r ⟨d.val, by omega⟩ (by omega) (by dsimp only; omega), I.gate]
  congr 2; exact Fin.ext (by simp only [lane2, h0]; omega)

theorem g1 (inb) (r : Fin 256) (d : Fin 128) :
    View.ld (X0_8 (F := Ideal) m c t : Vec Ideal S256x256 .f32) (Rect.unit (s := S256x256) ![0, 128] ![256, 128] inb) (ix2 r d) = (A.gate (row b hb r) (lane2 (h1 g) d) : EReal) := by
  rw [ld2 _ inb r d r ⟨128 + d.val, by omega⟩ (by omega) (by dsimp only), I.gate]
  congr 2; exact Fin.ext (by simp only [lane2, h1]; omega)

theorem v0 {K : ℕ} (hK : K ≤ 2048) (inb) (j : Fin K) (d : Fin 128) :
    View.ld (iblk (F := Ideal) m c 3 t : Vec Ideal S2048x512 .bf16) (Rect.unit (s := S2048x512) ![0, 128] ![K, 128] inb) (ix2 j d) = (A.v (h0 g) (key hK j) d : EReal) := by
  rw [ld2 _ inb j d (key hK j) ⟨128 + d.val, by omega⟩ (by simp only [key]; omega) (by dsimp only), I.kv, Arr.v]
  congr 2; exact Fin.ext (by simp only [lane4, h0, up]; omega)

theorem v1 {K : ℕ} (hK : K ≤ 2048) (inb) (j : Fin K) (d : Fin 128) :
    View.ld (iblk (F := Ideal) m c 3 t : Vec Ideal S2048x512 .bf16) (Rect.unit (s := S2048x512) ![0, 384] ![K, 128] inb) (ix2 j d) = (A.v (h1 g) (key hK j) d : EReal) := by
  rw [ld2 _ inb j d (key hK j) ⟨384 + d.val, by omega⟩ (by simp only [key]; omega) (by dsimp only), I.kv, Arr.v]
  congr 2; exact Fin.ext (by simp only [lane4, h1, up]; omega)

end In

namespace St

variable {m} {c} {A : Arr} {t : ℕ} {ht : t < cfg0.N} {g : Fin 8} {b : ℕ} (S : St m c A t ht g b)

include S

theorem k0 {K : ℕ} (hK : K ≤ 2048) (inb) (j : Fin K) (d : Fin 256) :
    View.ld ((outsAt0 (F := Ideal) m c t ht).2.2.2.2.1 : Vec Ideal S2x2048x256 .bf16) (Rect.unit (s := S2x2048x256) ![0, 0, 0] ![1, K, 256] inb) (ix3 0 j d) = (A.y (h0 g) (key hK j) d : EReal) := by
  rw [ld3 _ inb 0 j d 0 (key hK j) d rfl (by simp only [key]; omega) (by omega), S.k]; rfl

theorem k1 {K : ℕ} (hK : K ≤ 2048) (inb) (j : Fin K) (d : Fin 256) :
    View.ld ((outsAt0 (F := Ideal) m c t ht).2.2.2.2.1 : Vec Ideal S2x2048x256 .bf16) (Rect.unit (s := S2x2048x256) ![1, 0, 0] ![1, K, 256] inb) (ix3 0 j d) = (A.y (h1 g) (key hK j) d : EReal) := by
  rw [ld3 _ inb 0 j d 1 (key hK j) d rfl (by simp only [key]; omega) (by omega), S.k]; rfl

theorem dk0 {K : ℕ} (hK : K ≤ 2048) (inb) (j : Fin K) (d : Fin 256) :
    View.ld ((outsAt0 (F := Ideal) m c t ht).2.2.2.2.2.1 : Vec Ideal S2x2048x256 .f32) (Rect.unit (s := S2x2048x256) ![0, 0, 0] ![1, K, 256] inb) (ix3 0 j d)
      = (part (fun t => A.ds (h0 g) t (key hK j) * A.x (h0 g) t d) b : EReal) := by
  rw [ld3 _ inb 0 j d 0 (key hK j) d rfl (by simp only [key]; omega) (by omega), S.dk]; rfl

theorem dk1 {K : ℕ} (hK : K ≤ 2048) (inb) (j : Fin K) (d : Fin 256) :
    View.ld ((outsAt0 (F := Ideal) m c t ht).2.2.2.2.2.1 : Vec Ideal S2x2048x256 .f32) (Rect.unit (s := S2x2048x256) ![1, 0, 0] ![1, K, 256] inb) (ix3 0 j d)
      = (part (fun t => A.ds (h1 g) t (key hK j) * A.x (h1 g) t d) b : EReal) := by
  rw [ld3 _ inb 0 j d 1 (key hK j) d rfl (by simp only [key]; omega) (by omega), S.dk]; rfl

theorem dv0 {K : ℕ} (hK : K ≤ 2048) (inb) (j : Fin K) (d : Fin 128) :
    View.ld ((outsAt0 (F := Ideal) m c t ht).2.2.2.2.2.2 : Vec Ideal S2x2048x128 .f32) (Rect.unit (s := S2x2048x128) ![0, 0, 0] ![1, K, 128] inb) (ix3 0 j d)
      = (part (fun t => A.p (h0 g) t (key hK j) * A.w (h0 g) t d) b : EReal) := by
  rw [ld3 _ inb 0 j d 0 (key hK j) d rfl (by simp only [key]; omega) (by omega), S.dv]; rfl

theorem dv1 {K : ℕ} (hK : K ≤ 2048) (inb) (j : Fin K) (d : Fin 128) :
    View.ld ((outsAt0 (F := Ideal) m c t ht).2.2.2.2.2.2 : Vec Ideal S2x2048x128 .f32) (Rect.unit (s := S2x2048x128) ![1, 0, 0] ![1, K, 128] inb) (ix3 0 j d)
      = (part (fun t => A.p (h1 g) t (key hK j) * A.w (h1 g) t d) b : EReal) := by
  rw [ld3 _ inb 0 j d 1 (key hK j) d rfl (by simp only [key]; omega) (by omega), S.dv]; rfl

end St

/-- A key beyond a block's rows takes nothing from them. -/
theorem part_dk (A : Arr) (h : Fin 16) (j : Fin 2048) (d : Fin 256) (b : ℕ) (hb : b ≤ 1792) (hj : b + 256 ≤ j.val) :
    part (fun t => A.ds h t j * A.x h t d) (b + 256) = part (fun t => A.ds h t j * A.x h t d) b :=
  part_stay _ b hb fun r => by rw [A.ds_zero h _ j (by simp only [row]; omega), zero_mul]

theorem part_dv (A : Arr) (h : Fin 16) (j : Fin 2048) (d : Fin 128) (b : ℕ) (hb : b ≤ 1792) (hj : b + 256 ≤ j.val) :
    part (fun t => A.p h t j * A.w h t d) (b + 256) = part (fun t => A.p h t j * A.w h t d) b :=
  part_stay _ b hb fun r => by rw [A.p_zero h _ j (by simp only [row]; omega), zero_mul]

end Cert.Att

end
-- ==== Proof.Host.lean ====
/-
What the kernel finds in memory when it is launched: the tables of the rotation, the
attention's outcome and the logarithm of its sums, in terms of the reference's values.
The host's operations are taken in eight stretches, each over arbitrary contents.
-/
module

public import proofs.«01_k».proof.Proof.Ref1
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

variable (m : (ℓ : Loc nD τ sig) → Buf (Elt Ideal) ℓ) (c : Dev nD)

/-- The argument arrays on a device. -/
abbrev a0 : (⟨S2048x4096, .f32⟩ : BufTy).Contents (Elt Ideal) := m ((c : Thread nD τ).loc main_arg0)
abbrev a1 : (⟨S2048x4096, .bf16⟩ : BufTy).Contents (Elt Ideal) := m ((c : Thread nD τ).loc main_arg1)
abbrev a2 : (⟨S2048x128, .bf16⟩ : BufTy).Contents (Elt Ideal) := m ((c : Thread nD τ).loc main_arg2)
abbrev a3 : (⟨S2048x3200, .f32⟩ : BufTy).Contents (Elt Ideal) := m ((c : Thread nD τ).loc main_arg3)
abbrev a4 : (⟨S2048x2048, .f32⟩ : BufTy).Contents (Elt Ideal) := m ((c : Thread nD τ).loc main_arg4)
abbrev a5 : (⟨S1x2048, .i32⟩ : BufTy).Contents (Elt Ideal) := m ((c : Thread nD τ).loc main_arg5)

/-- The host operations in eight stretches. -/
abbrev L1 : List (HloOp τ sig (Elt Ideal)) := hostOps0.take 25
abbrev L1b : List (HloOp τ sig (Elt Ideal)) := (hostOps0.drop 25).take 3
abbrev L2 : List (HloOp τ sig (Elt Ideal)) := (hostOps0.drop 28).take 28
abbrev L3 : List (HloOp τ sig (Elt Ideal)) := (hostOps0.drop 56).take 17
abbrev L3b : List (HloOp τ sig (Elt Ideal)) := (hostOps0.drop 73).take 6
abbrev L4 : List (HloOp τ sig (Elt Ideal)) := hostOps0.drop 79 ++ hostOps0_1
abbrev L5 : List (HloOp τ sig (Elt Ideal)) := hostOps0_2.take 18
abbrev L6 : List (HloOp τ sig (Elt Ideal)) := hostOps0_2.drop 18

variable (W : Valuation τ sig (Elt Ideal))

theorem cut (b : DevRef τ sig) : StableHlo.after (List.flatten [hostOps0, hostOps0_1, hostOps0_2]) W b
    = StableHlo.after L6 (StableHlo.after L5 (StableHlo.after L4 (StableHlo.after L3b (StableHlo.after L3 (StableHlo.after L2 (StableHlo.after L1b (StableHlo.after L1 W))))))) b := by
  simp only [← StableHlo.after_append]
  rfl

/-- Four blocks of 32 lanes beside one another. -/
def cat4 (a b c d : (⟨S2048x32, .f32⟩ : BufTy).Contents (Elt Ideal)) : (⟨S2048x128, .f32⟩ : BufTy).Contents (Elt Ideal) :=
  concatenate S2048x128 1 [⟨S2048x32, a⟩, ⟨S2048x32, b⟩, ⟨S2048x32, c⟩, ⟨S2048x32, d⟩] concatenates_S2048x32_S2048x32_S2048x32_S2048x32_S2048x128_d1

theorem L1b_v20 : StableHlo.after L1b W (Proc.devRef .tc main_v20) = cat4 (W (Proc.devRef .tc main_v17)) (W (Proc.devRef .tc main_v19)) (W (Proc.devRef .tc main_v17)) (W (Proc.devRef .tc main_v19)) := rfl

theorem L1b_v22 : StableHlo.after L1b W (Proc.devRef .tc main_v22) = cat4 (Host.negf (F := Ideal) (φ := .f32) (W (Proc.devRef .tc main_v18))) (W (Proc.devRef .tc main_v19)) (W (Proc.devRef .tc main_v18)) (W (Proc.devRef .tc main_v19)) := rfl

theorem L1_arg0 : StableHlo.after L1 W (Proc.devRef .tc main_arg0) = W (Proc.devRef .tc main_arg0) := by
  simp only [L1, L1b, L2, L3, L3b, L4, L5, L6, hostOps0, hostOps0_1, hostOps0_2, List.take_succ_cons, List.take_zero, List.drop_succ_cons, List.drop_zero, List.cons_append, List.nil_append]
  after_results_simp

theorem L1_arg1 : StableHlo.after L1 W (Proc.devRef .tc main_arg1) = W (Proc.devRef .tc main_arg1) := by
  simp only [L1, L1b, L2, L3, L3b, L4, L5, L6, hostOps0, hostOps0_1, hostOps0_2, List.take_succ_cons, List.take_zero, List.drop_succ_cons, List.drop_zero, List.cons_append, List.nil_append]
  after_results_simp

theorem L1_arg2 : StableHlo.after L1 W (Proc.devRef .tc main_arg2) = W (Proc.devRef .tc main_arg2) := by
  simp only [L1, L1b, L2, L3, L3b, L4, L5, L6, hostOps0, hostOps0_1, hostOps0_2, List.take_succ_cons, List.take_zero, List.drop_succ_cons, List.drop_zero, List.cons_append, List.nil_append]
  after_results_simp

theorem L1_arg5 : StableHlo.after L1 W (Proc.devRef .tc main_arg5) = W (Proc.devRef .tc main_arg5) := by
  simp only [L1, L1b, L2, L3, L3b, L4, L5, L6, hostOps0, hostOps0_1, hostOps0_2, List.take_succ_cons, List.take_zero, List.drop_succ_cons, List.drop_zero, List.cons_append, List.nil_append]
  after_results_simp

theorem L1b_arg0 : StableHlo.after L1b W (Proc.devRef .tc main_arg0) = W (Proc.devRef .tc main_arg0) := by
  simp only [L1, L1b, L2, L3, L3b, L4, L5, L6, hostOps0, hostOps0_1, hostOps0_2, List.take_succ_cons, List.take_zero, List.drop_succ_cons, List.drop_zero, List.cons_append, List.nil_append]
  after_results_simp

theorem L1b_arg1 : StableHlo.after L1b W (Proc.devRef .tc main_arg1) = W (Proc.devRef .tc main_arg1) := by
  simp only [L1, L1b, L2, L3, L3b, L4, L5, L6, hostOps0, hostOps0_1, hostOps0_2, List.take_succ_cons, List.take_zero, List.drop_succ_cons, List.drop_zero, List.cons_append, List.nil_append]
  after_results_simp

theorem L1b_arg2 : StableHlo.after L1b W (Proc.devRef .tc main_arg2) = W (Proc.devRef .tc main_arg2) := by
  simp only [L1, L1b, L2, L3, L3b, L4, L5, L6, hostOps0, hostOps0_1, hostOps0_2, List.take_succ_cons, List.take_zero, List.drop_succ_cons, List.drop_zero, List.cons_append, List.nil_append]
  after_results_simp

theorem L1b_arg5 : StableHlo.after L1b W (Proc.devRef .tc main_arg5) = W (Proc.devRef .tc main_arg5) := by
  simp only [L1, L1b, L2, L3, L3b, L4, L5, L6, hostOps0, hostOps0_1, hostOps0_2, List.take_succ_cons, List.take_zero, List.drop_succ_cons, List.drop_zero, List.cons_append, List.nil_append]
  after_results_simp

theorem L2_arg2 : StableHlo.after L2 W (Proc.devRef .tc main_arg2) = W (Proc.devRef .tc main_arg2) := by
  simp only [L1, L1b, L2, L3, L3b, L4, L5, L6, hostOps0, hostOps0_1, hostOps0_2, List.take_succ_cons, List.take_zero, List.drop_succ_cons, List.drop_zero, List.cons_append, List.nil_append]
  after_results_simp

theorem L2_v20 : StableHlo.after L2 W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L2_v22 : StableHlo.after L2 W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L3_v25 : StableHlo.after L3 W (Proc.devRef .tc main_v25) = W (Proc.devRef .tc main_v25) := by
  simp only [L1, L1b, L2, L3, L3b, L4, L5, L6, hostOps0, hostOps0_1, hostOps0_2, List.take_succ_cons, List.take_zero, List.drop_succ_cons, List.drop_zero, List.cons_append, List.nil_append]
  after_results_simp

theorem L3_v20 : StableHlo.after L3 W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L3_v22 : StableHlo.after L3 W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L3b_v25 : StableHlo.after L3b W (Proc.devRef .tc main_v25) = W (Proc.devRef .tc main_v25) := by
  simp only [L1, L1b, L2, L3, L3b, L4, L5, L6, hostOps0, hostOps0_1, hostOps0_2, List.take_succ_cons, List.take_zero, List.drop_succ_cons, List.drop_zero, List.cons_append, List.nil_append]
  after_results_simp

theorem L3b_v20 : StableHlo.after L3b W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L3b_v22 : StableHlo.after L3b W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L4_v25 : StableHlo.after L4 W (Proc.devRef .tc main_v25) = W (Proc.devRef .tc main_v25) := by
  simp only [L1, L1b, L2, L3, L3b, L4, L5, L6, hostOps0, hostOps0_1, hostOps0_2, List.take_succ_cons, List.take_zero, List.drop_succ_cons, List.drop_zero, List.cons_append, List.nil_append]
  after_results_simp

theorem L4_v20 : StableHlo.after L4 W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L4_v22 : StableHlo.after L4 W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L5_v79 : StableHlo.after L5 W (Proc.devRef .tc main_v79) = W (Proc.devRef .tc main_v79) := by
  simp only [L1, L1b, L2, L3, L3b, L4, L5, L6, hostOps0, hostOps0_1, hostOps0_2, List.take_succ_cons, List.take_zero, List.drop_succ_cons, List.drop_zero, List.cons_append, List.nil_append]
  after_results_simp

theorem L5_v20 : StableHlo.after L5 W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L5_v22 : StableHlo.after L5 W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L6_v79 : StableHlo.after L6 W (Proc.devRef .tc main_v79) = W (Proc.devRef .tc main_v79) := by
  simp only [L1, L1b, L2, L3, L3b, L4, L5, L6, hostOps0, hostOps0_1, hostOps0_2, List.take_succ_cons, List.take_zero, List.drop_succ_cons, List.drop_zero, List.cons_append, List.nil_append]
  after_results_simp

theorem L6_v94 : StableHlo.after L6 W (Proc.devRef .tc main_v94) = W (Proc.devRef .tc main_v94) := by
  simp only [L1, L1b, L2, L3, L3b, L4, L5, L6, hostOps0, hostOps0_1, hostOps0_2, List.take_succ_cons, List.take_zero, List.drop_succ_cons, List.drop_zero, List.cons_append, List.nil_append]
  after_results_simp

theorem L6_v20 : StableHlo.after L6 W (Proc.devRef .tc main_v20) = W (Proc.devRef .tc main_v20) := by
  simp only [L1, L1b, L2, L3, L3b, L4, L5, L6, hostOps0, hostOps0_1, hostOps0_2, List.take_succ_cons, List.take_zero, List.drop_succ_cons, List.drop_zero, List.cons_append, List.nil_append]
  after_results_simp

theorem L6_v22 : StableHlo.after L6 W (Proc.devRef .tc main_v22) = W (Proc.devRef .tc main_v22) := by
  simp only [L1, L1b, L2, L3, L3b, L4, L5, L6, hostOps0, hostOps0_1, hostOps0_2, List.take_succ_cons, List.take_zero, List.drop_succ_cons, List.drop_zero, List.cons_append, List.nil_append]
  after_results_simp

theorem L1_v17 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg5) = x5)
    : StableHlo.after L1 W (Proc.devRef .tc main_v17) = Cert.ReferenceIdeal.Read.val_main_v22 (F := Ideal) x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L1_v18 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg5) = x5)
    : StableHlo.after L1 W (Proc.devRef .tc main_v18) = Cert.ReferenceIdeal.Read.val_main_v24 (F := Ideal) x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L1_v19 : StableHlo.after L1 W (Proc.devRef .tc main_v19) = broadcastInDim S2048x32 ![] bcast_S_S2048x32 (constant (F := Ideal) S_ .f32 0#32) := by
  simp only [L1, L1b, L2, L3, L3b, L4, L5, L6, hostOps0, hostOps0_1, hostOps0_2, List.take_succ_cons, List.take_zero, List.drop_succ_cons, List.drop_zero, List.cons_append, List.nil_append]
  after_results_simp
  try rfl

theorem L2_v23 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg0) = x0)
    : StableHlo.after L2 W (Proc.devRef .tc main_v23) = Cert.ReferenceIdeal.Read.val_main_v3 (F := Ideal) x0 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L2_v25 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg1) = x1)
    : StableHlo.after L2 W (Proc.devRef .tc main_v25) = Cert.ReferenceIdeal.Read.val_main_v4 (F := Ideal) x1 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L2_v44 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg5) = x5)
    : StableHlo.after L2 W (Proc.devRef .tc main_v44) = Cert.ReferenceIdeal.Read.val_main_v23 (F := Ideal) x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L2_v46 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg5) = x5)
    : StableHlo.after L2 W (Proc.devRef .tc main_v46) = Cert.ReferenceIdeal.Read.val_main_v25 (F := Ideal) x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L3_v54 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v23) = Cert.ReferenceIdeal.Read.val_main_v3 (F := Ideal) x0)
    (h1 : W (Proc.devRef .tc main_v44) = Cert.ReferenceIdeal.Read.val_main_v23 (F := Ideal) x5)
    (h2 : W (Proc.devRef .tc main_v46) = Cert.ReferenceIdeal.Read.val_main_v25 (F := Ideal) x5)
    : StableHlo.after L3 W (Proc.devRef .tc main_v54) = Cert.ReferenceIdeal.Read.val_main_v33 (F := Ideal) x0 x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0, h1, h2]
  rfl

theorem L3_v59 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v23) = Cert.ReferenceIdeal.Read.val_main_v3 (F := Ideal) x0)
    (h1 : W (Proc.devRef .tc main_v44) = Cert.ReferenceIdeal.Read.val_main_v23 (F := Ideal) x5)
    (h2 : W (Proc.devRef .tc main_v46) = Cert.ReferenceIdeal.Read.val_main_v25 (F := Ideal) x5)
    : StableHlo.after L3 W (Proc.devRef .tc main_v59) = Cert.ReferenceIdeal.Read.val_main_v38 (F := Ideal) x0 x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0, h1, h2]
  rfl

theorem L3_v61 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg2) = x2)
    : StableHlo.after L3 W (Proc.devRef .tc main_v61) = Cert.ReferenceIdeal.Read.val_main_v39 (F := Ideal) x2 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L3_v62 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_arg2) = x2)
    : StableHlo.after L3 W (Proc.devRef .tc main_v62) = Cert.ReferenceIdeal.Read.val_main_v40 (F := Ideal) x2 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L3_v63 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v23) = Cert.ReferenceIdeal.Read.val_main_v3 (F := Ideal) x0)
    : StableHlo.after L3 W (Proc.devRef .tc main_v63) = Cert.ReferenceIdeal.Read.val_main_v41 (F := Ideal) x0 := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

theorem L3b_v64 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v63) = Cert.ReferenceIdeal.Read.val_main_v41 (F := Ideal) x0)
    (h1 : W (Proc.devRef .tc main_v54) = Cert.ReferenceIdeal.Read.val_main_v33 (F := Ideal) x0 x5)
    (h2 : W (Proc.devRef .tc main_v59) = Cert.ReferenceIdeal.Read.val_main_v38 (F := Ideal) x0 x5)
    : StableHlo.after L3b W (Proc.devRef .tc main_v64) = Cert.ReferenceIdeal.Read.val_main_v42 (F := Ideal) x0 x5 := by
  unfold Cert.ReferenceIdeal.Read.val_main_v42
  rw [← h0, ← h1, ← h2]
  rfl

theorem L3b_v69 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v25) = Cert.ReferenceIdeal.Read.val_main_v4 (F := Ideal) x1)
    (h1 : W (Proc.devRef .tc main_v61) = Cert.ReferenceIdeal.Read.val_main_v39 (F := Ideal) x2)
    (h2 : W (Proc.devRef .tc main_v62) = Cert.ReferenceIdeal.Read.val_main_v40 (F := Ideal) x2)
    : StableHlo.after L3b W (Proc.devRef .tc main_v69) = Cert.ReferenceIdeal.Read.val_main_v47 (F := Ideal) x1 x2 := by
  unfold Cert.ReferenceIdeal.Read.val_main_v47 Cert.ReferenceIdeal.Read.val_main_v44 Cert.ReferenceIdeal.Read.val_main_v46 Cert.ReferenceIdeal.Read.val_main_v45 Cert.ReferenceIdeal.Read.val_main_v43
  rw [← h0, ← h1, ← h2]
  rfl

theorem L4_v79 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v64) = Cert.ReferenceIdeal.Read.val_main_v42 (F := Ideal) x0 x5)
    (h1 : W (Proc.devRef .tc main_v69) = Cert.ReferenceIdeal.Read.val_main_v47 (F := Ideal) x1 x2)
    : StableHlo.after L4 W (Proc.devRef .tc main_v79) = Cert.ReferenceIdeal.Read.val_main_v57_0 (F := Ideal) x0 x1 x2 x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0, h1]
  rfl

theorem L5_v94 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v79) = Cert.ReferenceIdeal.Read.val_main_v57_0 (F := Ideal) x0 x1 x2 x5)
    (h1 : W (Proc.devRef .tc main_v25) = Cert.ReferenceIdeal.Read.val_main_v4 (F := Ideal) x1)
    : StableHlo.after L5 W (Proc.devRef .tc main_v94) = Cert.ReferenceIdeal.Read.val_main_v89 (F := Ideal) x0 x1 x2 x5 := by
  simp only [L1, L1b, L2, L3, L3b, L4, L5, L6, hostOps0, hostOps0_1, hostOps0_2, List.take_succ_cons, List.take_zero, List.drop_succ_cons, List.drop_zero, List.cons_append, List.nil_append]
  after_results_simp
  simp only [h0, h1]
  rfl

/-- The logarithm of the sums of the softmax, from the masked scores. -/
def lseOf (s : (⟨S16x2048x2048, .f32⟩ : BufTy).Contents (Elt Ideal)) (mx : (⟨S16x2048, .f32⟩ : BufTy).Contents (Elt Ideal)) : (⟨S16x2048x1, .f32⟩ : BufTy).Contents (Elt Ideal) :=
  addf (broadcastInDim S16x2048x1 ![0, 1] bcast_S16x2048_S16x2048x1_0_1 mx)
    (Host.log (broadcastInDim S16x2048x1 ![0, 1] bcast_S16x2048_S16x2048x1_0_1
      (Host.reduceAdd (Host.exp (subf s (broadcastInDim S16x2048x2048 ![0, 1, 2] bcast_S16x2048x1_S16x2048x2048_0_1_2
        (broadcastInDim S16x2048x1 ![0, 1] bcast_S16x2048_S16x2048x1_0_1 mx))))
        (constant (F := Ideal) S_ .f32 0#32) reducesTo_S16x2048x2048_S16x2048_d2 h_S_)))

theorem L6_v103 (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x5 : (⟨S1x2048, .i32⟩ : BufTy).Contents (Elt Ideal))
    (h0 : W (Proc.devRef .tc main_v79) = Cert.ReferenceIdeal.Read.val_main_v57_0 (F := Ideal) x0 x1 x2 x5)
    : StableHlo.after L6 W (Proc.devRef .tc main_v103) = lseOf (Cert.ReferenceIdeal.Read.val_main_v57_0 (F := Ideal) x0 x1 x2 x5) (Cert.ReferenceIdeal.Read.val_main_v59 (F := Ideal) x0 x1 x2 x5) := by
  simp only [L1, L1b, L2, L3, L3b, L4, L5, L6, hostOps0, hostOps0_1, hostOps0_2, List.take_succ_cons, List.take_zero, List.drop_succ_cons, List.drop_zero, List.cons_append, List.nil_append]
  after_results_simp
  simp only [h0]
  rfl

/-- What the launch memory holds of device `c`. -/
abbrev V0 : Valuation τ sig (Elt Ideal) := fun b => m (c, b)
abbrev V1 : Valuation τ sig (Elt Ideal) := StableHlo.after L1 (V0 m c)
abbrev V1b : Valuation τ sig (Elt Ideal) := StableHlo.after L1b (V1 m c)
abbrev V2 : Valuation τ sig (Elt Ideal) := StableHlo.after L2 (V1b m c)
abbrev V3 : Valuation τ sig (Elt Ideal) := StableHlo.after L3 (V2 m c)
abbrev V3b : Valuation τ sig (Elt Ideal) := StableHlo.after L3b (V3 m c)
abbrev V4 : Valuation τ sig (Elt Ideal) := StableHlo.after L4 (V3b m c)
abbrev V5 : Valuation τ sig (Elt Ideal) := StableHlo.after L5 (V4 m c)

/-- Lanes of zeros. -/
abbrev zer : (⟨S2048x32, .f32⟩ : BufTy).Contents (Elt Ideal) := broadcastInDim S2048x32 ![] bcast_S_S2048x32 (constant (F := Ideal) S_ .f32 0#32)

/-- The table of cosines the kernel is launched with. -/
theorem V_v20 : V (F := Ideal) m c main_v20 = cat4 (Cert.ReferenceIdeal.Read.val_main_v22 (F := Ideal) (a5 m c)) zer (Cert.ReferenceIdeal.Read.val_main_v22 (F := Ideal) (a5 m c)) zer := by
  show StableHlo.after (List.flatten [hostOps0, hostOps0_1, hostOps0_2]) (V0 m c) (Proc.devRef .tc main_v20) = _
  rw [cut, L6_v20, L5_v20, L4_v20, L3b_v20, L3_v20, L2_v20, L1b_v20, L1_v17 (V0 m c) (a0 m c) (a1 m c) (a2 m c) (a5 m c) rfl, L1_v19]

/-- The table of sines, the first block negated. -/
theorem V_v22 : V (F := Ideal) m c main_v22 = cat4 (Host.negf (F := Ideal) (φ := .f32) (Cert.ReferenceIdeal.Read.val_main_v24 (F := Ideal) (a5 m c))) zer (Cert.ReferenceIdeal.Read.val_main_v24 (F := Ideal) (a5 m c)) zer := by
  show StableHlo.after (List.flatten [hostOps0, hostOps0_1, hostOps0_2]) (V0 m c) (Proc.devRef .tc main_v22) = _
  rw [cut, L6_v22, L5_v22, L4_v22, L3b_v22, L3_v22, L2_v22, L1b_v22, L1_v18 (V0 m c) (a0 m c) (a1 m c) (a2 m c) (a5 m c) rfl, L1_v19]

theorem V1b_arg0 : V1b m c (Proc.devRef .tc main_arg0) = a0 m c := (L1b_arg0 _).trans (L1_arg0 _)
theorem V1b_arg1 : V1b m c (Proc.devRef .tc main_arg1) = a1 m c := (L1b_arg1 _).trans (L1_arg1 _)
theorem V1b_arg2 : V1b m c (Proc.devRef .tc main_arg2) = a2 m c := (L1b_arg2 _).trans (L1_arg2 _)
theorem V1b_arg5 : V1b m c (Proc.devRef .tc main_arg5) = a5 m c := (L1b_arg5 _).trans (L1_arg5 _)
theorem V2_v23 : V2 m c (Proc.devRef .tc main_v23) = Cert.ReferenceIdeal.Read.val_main_v3 (F := Ideal) (a0 m c) := L2_v23 (V1b m c) (a0 m c) (a1 m c) (a2 m c) (a5 m c) (V1b_arg0 m c)
theorem V2_v25 : V2 m c (Proc.devRef .tc main_v25) = Cert.ReferenceIdeal.Read.val_main_v4 (F := Ideal) (a1 m c) := L2_v25 (V1b m c) (a0 m c) (a1 m c) (a2 m c) (a5 m c) (V1b_arg1 m c)
theorem V2_v44 : V2 m c (Proc.devRef .tc main_v44) = Cert.ReferenceIdeal.Read.val_main_v23 (F := Ideal) (a5 m c) := L2_v44 (V1b m c) (a0 m c) (a1 m c) (a2 m c) (a5 m c) (V1b_arg5 m c)
theorem V2_v46 : V2 m c (Proc.devRef .tc main_v46) = Cert.ReferenceIdeal.Read.val_main_v25 (F := Ideal) (a5 m c) := L2_v46 (V1b m c) (a0 m c) (a1 m c) (a2 m c) (a5 m c) (V1b_arg5 m c)
theorem V2_arg2 : V2 m c (Proc.devRef .tc main_arg2) = a2 m c := (L2_arg2 _).trans (V1b_arg2 m c)
theorem V3_v54 : V3 m c (Proc.devRef .tc main_v54) = Cert.ReferenceIdeal.Read.val_main_v33 (F := Ideal) (a0 m c) (a5 m c) := L3_v54 (V2 m c) (a0 m c) (a1 m c) (a2 m c) (a5 m c) (V2_v23 m c) (V2_v44 m c) (V2_v46 m c)
theorem V3_v59 : V3 m c (Proc.devRef .tc main_v59) = Cert.ReferenceIdeal.Read.val_main_v38 (F := Ideal) (a0 m c) (a5 m c) := L3_v59 (V2 m c) (a0 m c) (a1 m c) (a2 m c) (a5 m c) (V2_v23 m c) (V2_v44 m c) (V2_v46 m c)
theorem V3_v61 : V3 m c (Proc.devRef .tc main_v61) = Cert.ReferenceIdeal.Read.val_main_v39 (F := Ideal) (a2 m c) := L3_v61 (V2 m c) (a0 m c) (a1 m c) (a2 m c) (a5 m c) (V2_arg2 m c)
theorem V3_v62 : V3 m c (Proc.devRef .tc main_v62) = Cert.ReferenceIdeal.Read.val_main_v40 (F := Ideal) (a2 m c) := L3_v62 (V2 m c) (a0 m c) (a1 m c) (a2 m c) (a5 m c) (V2_arg2 m c)
theorem V3_v63 : V3 m c (Proc.devRef .tc main_v63) = Cert.ReferenceIdeal.Read.val_main_v41 (F := Ideal) (a0 m c) := L3_v63 (V2 m c) (a0 m c) (a1 m c) (a2 m c) (a5 m c) (V2_v23 m c)
theorem V3_v25 : V3 m c (Proc.devRef .tc main_v25) = Cert.ReferenceIdeal.Read.val_main_v4 (F := Ideal) (a1 m c) := (L3_v25 (V2 m c)).trans (V2_v25 m c)
theorem V3b_v64 : V3b m c (Proc.devRef .tc main_v64) = Cert.ReferenceIdeal.Read.val_main_v42 (F := Ideal) (a0 m c) (a5 m c) := L3b_v64 (V3 m c) (a0 m c) (a1 m c) (a2 m c) (a5 m c) (V3_v63 m c) (V3_v54 m c) (V3_v59 m c)
theorem V3b_v69 : V3b m c (Proc.devRef .tc main_v69) = Cert.ReferenceIdeal.Read.val_main_v47 (F := Ideal) (a1 m c) (a2 m c) := L3b_v69 (V3 m c) (a0 m c) (a1 m c) (a2 m c) (a5 m c) (V3_v25 m c) (V3_v61 m c) (V3_v62 m c)
theorem V3b_v25 : V3b m c (Proc.devRef .tc main_v25) = Cert.ReferenceIdeal.Read.val_main_v4 (F := Ideal) (a1 m c) := (L3b_v25 (V3 m c)).trans (V3_v25 m c)
theorem V4_v79 : V4 m c (Proc.devRef .tc main_v79) = Cert.ReferenceIdeal.Read.val_main_v57_0 (F := Ideal) (a0 m c) (a1 m c) (a2 m c) (a5 m c) := L4_v79 (V3b m c) (a0 m c) (a1 m c) (a2 m c) (a5 m c) (V3b_v64 m c) (V3b_v69 m c)
theorem V4_v25 : V4 m c (Proc.devRef .tc main_v25) = Cert.ReferenceIdeal.Read.val_main_v4 (F := Ideal) (a1 m c) := (L4_v25 (V3b m c)).trans (V3b_v25 m c)
theorem V5_v79 : V5 m c (Proc.devRef .tc main_v79) = Cert.ReferenceIdeal.Read.val_main_v57_0 (F := Ideal) (a0 m c) (a1 m c) (a2 m c) (a5 m c) := (L5_v79 (V4 m c)).trans (V4_v79 m c)

/-- The attention's outcome the kernel is launched with is the reference's. -/
theorem V_v94 : V (F := Ideal) m c main_v94 = Cert.ReferenceIdeal.Read.val_main_v89 (F := Ideal) (a0 m c) (a1 m c) (a2 m c) (a5 m c) := by
  show StableHlo.after (List.flatten [hostOps0, hostOps0_1, hostOps0_2]) (V0 m c) (Proc.devRef .tc main_v94) = _
  rw [cut, L6_v94]
  exact L5_v94 (V4 m c) (a0 m c) (a1 m c) (a2 m c) (a5 m c) (V4_v79 m c) (V4_v25 m c)

/-- The logarithm of the sums the kernel is launched with. -/
theorem V_v103 : V (F := Ideal) m c main_v103 = lseOf (Cert.ReferenceIdeal.Read.val_main_v57_0 (F := Ideal) (a0 m c) (a1 m c) (a2 m c) (a5 m c)) (Cert.ReferenceIdeal.Read.val_main_v59 (F := Ideal) (a0 m c) (a1 m c) (a2 m c) (a5 m c)) := by
  show StableHlo.after (List.flatten [hostOps0, hostOps0_1, hostOps0_2]) (V0 m c) (Proc.devRef .tc main_v103) = _
  rw [cut]
  exact L6_v103 (V5 m c) (a0 m c) (a1 m c) (a2 m c) (a5 m c) (V5_v79 m c)

end Cert.Att
end
-- ==== Proof.Ref2.lean ====
/-
  The reference's softmax, output and gate over the real numbers.
-/
module

public import proofs.«01_k».proof.Proof.Ref1

@[expose] public section

set_option maxRecDepth 16384
set_option maxHeartbeats 1000000

noncomputable section

namespace Cert.Att.Ref

open Idealize.ShloMosaic Cert.ReferenceIdeal Cert.ReferenceIdeal.Read

variable {x0 : (⟨S2048x4096, .f32⟩ : BufTy).Contents (Elt Ideal)} {x1 : (⟨S2048x4096, .bf16⟩ : BufTy).Contents (Elt Ideal)}
    {x2 : (⟨S2048x128, .bf16⟩ : BufTy).Contents (Elt Ideal)} {x3 : (⟨S2048x3200, .f32⟩ : BufTy).Contents (Elt Ideal)}
    {x4 : (⟨S2048x2048, .f32⟩ : BufTy).Contents (Elt Ideal)} {x5 : (⟨S1x2048, .i32⟩ : BufTy).Contents (Elt Ideal)} {A : Arr}
    (H : Args x0 x1 x2 x3 x4 x5 A)
    (M : ∀ h t, val_main_v59 (F := Ideal) x0 x1 x2 x5 (ix2 h t) = (A.sh h t : EReal))

include H M

/-- A row's shift. -/
theorem v77 (h : Fin 16) (t k : Fin 2048) :
    val_main_v77 (F := Ideal) x0 x1 x2 x5 (ix3 h t k) = (A.sh h t : EReal) := by
  have e : idx_main_v76 (idx_main_v77 (ix3 h t k)) = ix2 h t := by
    funext a
    match a with
    | ⟨0, _⟩ => rfl
    | ⟨1, _⟩ => rfl
  rw [val_main_v77_apply, val_main_v76_apply, val_main_v66_apply, val_main_v65_apply, e, M]
  change max (Ideal.ofBits .f32 0xFF800000#32) _ = _
  rw [bot_bits, max_eq_right bot_le]

/-- The shifted scores. -/
theorem v78 (h : Fin 16) (t k : Fin 2048) :
    val_main_v78 (F := Ideal) x0 x1 x2 x5 (ix3 h t k) = (if k.val ≤ t.val then (A.s h t k : EReal) else ⊥) - (A.sh h t : EReal) := by
  rw [val_main_v78_apply, v57 H, v77 H M]
  rfl

/-- The shifted exponentials. -/
theorem v79 (h : Fin 16) (t k : Fin 2048) :
    val_main_v79 (F := Ideal) x0 x1 x2 x5 (ix3 h t k) = (A.e h t k : EReal) := by
  rw [val_main_v79_apply, v78 H M]
  change Ideal.exp _ = _
  simp only [Arr.e]
  split_ifs
  · rw [sub_coe, Ideal.exp_coe]
  · rw [EReal.bot_sub, Ideal.exp_bot]; rfl

/-- A row's sum of them. -/
theorem v80 (h : Fin 16) (t : Fin 2048) :
    val_main_v80 (F := Ideal) x0 x1 x2 x5 (ix2 h t) = (A.l h t : EReal) := by
  unfold val_main_v80
  pointwise [val_main_cst_13]
  simp only [v79 H M, sum_coe, Arr.l]

/-- The softmax. -/
theorem v83 (h : Fin 16) (t k : Fin 2048) :
    val_main_v83 (F := Ideal) x0 x1 x2 x5 (ix3 h t k) = (A.p h t k : EReal) := by
  unfold val_main_v83
  pointwise [val_main_v82, val_main_v81]
  rw [v79 H M, v80 H M, div_coe_coe _ (A.l_pos h t).ne', A.p_eq]

/-- The values. -/
theorem v58 (k : Fin 2048) (h : Fin 16) (d : Fin 128) :
    val_main_v58 (F := Ideal) x1 (ix3 k h d) = (A.v h k d : EReal) := by
  unfold val_main_v58
  pointwise [val_main_v4, val_main_v0]
  rw [H.kv]
  congr 2
  exact Fin.ext (by simp only [lane4, up]; omega)

/-- The attention's output. -/
theorem v88 (t : Fin 2048) (h : Fin 16) (d : Fin 128) :
    val_main_v88 (F := Ideal) x0 x1 x2 x5 (ix3 t h d) = (A.o h t d : EReal) := by
  unfold val_main_v88
  pointwise [val_main_v87]
  simp only [v83 H M, v58 H M, mul_coe, sum_coe, Arr.o, mul_comm]

/-- Its lanes side by side. -/
theorem v89 (t c : Fin 2048) :
    val_main_v89 (F := Ideal) x0 x1 x2 x5 (ix2 t c) = (A.o (hd2 c) t (ln2 c) : EReal) := by
  unfold val_main_v89
  pointwise []
  exact v88 H M t _ _

/-- The gate's logistic function. -/
theorem v90_2 (t c : Fin 2048) :
    val_main_v90_2 (F := Ideal) x3 (ix2 t c) = (Arr.sg (A.gate t c) : EReal) := by
  unfold val_main_v90_2
  pointwise [val_main_call1_v4, val_main_call1_cst_0, val_main_call1_v3, val_main_call1_v2, val_main_call1_cst, val_main_call1_v1, val_main_call1_v0, val_main_v2]
  have h1 : (1 : ℝ) + Real.exp (-A.gate t c) ≠ 0 := (by positivity : (0 : ℝ) < 1 + Real.exp (-A.gate t c)).ne'
  rw [H.gate, neg_coe, Ideal.exp_coe, one_coe, add_coe, div_coe_coe _ h1, one_div, Arr.sg]

/-- The output's cotangent before the gate. -/
theorem v96 (h : Fin 16) (d : Fin 128) (t : Fin 2048) :
    val_main_v96 (F := Ideal) x3 x4 (ix3 h d t) = (A.w h t d : EReal) := by
  unfold val_main_v96
  pointwise [val_main_v95, val_main_v93, val_main_v90_0, val_main_v2]
  have e1 : (⟨h.val * 128 + d.val, by omega⟩ : Fin 2048) = lane2 h d := Fin.ext (by simp only [lane2]; omega)
  have hg := H.gate t (lane2 h d)
  have hs := v90_2 H M t (lane2 h d)
  have e2 : (⟨h.val * 128 + d.val, by omega⟩ : Fin 3200) = ⟨(lane2 h d).val, by omega⟩ :=
    Fin.ext (by simp only [lane2]; omega)
  simp only [e1, e2, hs, hg, H.dog, mul_coe, Arr.w]

/-- The gate's cotangent. -/
theorem v156 (t c : Fin 2048) :
    val_main_v156 (F := Ideal) x0 x1 x2 x3 x4 x5 (ix2 t c) = (A.dg (hd2 c) t (ln2 c) : EReal) := by
  unfold val_main_v156
  pointwise [val_main_v94, val_main_call2_v1, val_main_v92, val_main_call2_v2, val_main_call2_v0, val_main_v2, val_main_v90_1, val_main_call1_v7, val_main_call1_v6, val_main_call1_cst_1]
  rw [v89 H M, v90_2 H M, H.gate, H.dog, one_coe]
  simp only [mul_coe, sub_coe, add_coe, Arr.dg, lane2_hd2]
  congr 1
  ring

end Cert.Att.Ref
-- ==== Proof.Ref3.lean ====
/-
  The reference's cotangents of scores, queries, keys and values over the real numbers.
-/
module

public import proofs.«01_k».proof.Proof.Ref2

@[expose] public section

set_option maxRecDepth 16384
set_option maxHeartbeats 1000000

noncomputable section

namespace Cert.Att.Ref

open Idealize.ShloMosaic Cert.ReferenceIdeal Cert.ReferenceIdeal.Read

variable {x0 : (⟨S2048x4096, .f32⟩ : BufTy).Contents (Elt Ideal)} {x1 : (⟨S2048x4096, .bf16⟩ : BufTy).Contents (Elt Ideal)}
    {x2 : (⟨S2048x128, .bf16⟩ : BufTy).Contents (Elt Ideal)} {x3 : (⟨S2048x3200, .f32⟩ : BufTy).Contents (Elt Ideal)}
    {x4 : (⟨S2048x2048, .f32⟩ : BufTy).Contents (Elt Ideal)} {x5 : (⟨S1x2048, .i32⟩ : BufTy).Contents (Elt Ideal)} {A : Arr}
    (H : Args x0 x1 x2 x3 x4 x5 A)
    (M : ∀ h t, val_main_v59 (F := Ideal) x0 x1 x2 x5 (ix2 h t) = (A.sh h t : EReal))

include H M

/-- The probabilities' cotangent. -/
theorem v97 (h : Fin 16) (t k : Fin 2048) :
    val_main_v97 (F := Ideal) x1 x3 x4 (ix3 h t k) = (A.dp h t k : EReal) := by
  unfold val_main_v97
  pointwise []
  simp only [v96 H M, v58 H M, mul_coe, sum_coe, Arr.dp]

/-- The values' cotangent. -/
theorem v99 (k : Fin 2048) (h : Fin 16) (d : Fin 128) :
    val_main_v99 (F := Ideal) x0 x1 x2 x3 x4 x5 (ix3 k h d) = (A.dv h k d : EReal) := by
  unfold val_main_v99
  pointwise [val_main_v98]
  simp only [v96 H M, v83 H M, mul_coe, sum_coe, Arr.dv, mul_comm]

/-- The reciprocal of the square of a row's sum. -/
theorem v100 (h : Fin 16) (t k : Fin 2048) :
    val_main_v100 (F := Ideal) x0 x1 x2 x5 (ix3 h t k) = ((1 / (A.l h t * A.l h t) : ℝ) : EReal) := by
  unfold val_main_v100
  pointwise [val_main_v86, val_main_v85, val_main_cst_14, val_main_v84, val_main_v81]
  rw [v80 H M, mul_coe, one_coe, div_coe_coe _ (mul_pos (A.l_pos h t) (A.l_pos h t)).ne']

/-- A row's sum over the keys in the quotient's rule. -/
theorem v103 (h : Fin 16) (t : Fin 2048) :
    val_main_v103 (F := Ideal) x0 x1 x2 x3 x4 x5 (ix2 h t)
      = ((∑ k', A.dp h t k' * (1 / (A.l h t * A.l h t)) * A.e h t k' : ℝ) : EReal) := by
  unfold val_main_v103
  pointwise [val_main_cst_15, val_main_v102, val_main_v101]
  simp only [v97 H M, v100 H M, v79 H M, mul_coe, sum_coe]

/-- Its negative, spread over the keys. -/
theorem v109 (h : Fin 16) (t k : Fin 2048) :
    val_main_v109 (F := Ideal) x0 x1 x2 x3 x4 x5 (ix3 h t k)
      = ((-(∑ k', A.dp h t k' * (1 / (A.l h t * A.l h t)) * A.e h t k') : ℝ) : EReal) := by
  unfold val_main_v109
  pointwise [val_main_v108, val_main_cst_16, val_main_v105, val_main_v104]
  simp only [v103 H M, neg_coe, Finset.univ_unique, Finset.sum_singleton]

/-- The scores' cotangent. -/
theorem v115 (h : Fin 16) (t k : Fin 2048) :
    val_main_v115 (F := Ideal) x0 x1 x2 x3 x4 x5 (ix3 h t k) = (A.ds h t k : EReal) := by
  unfold val_main_v115
  pointwise [val_main_v114, val_main_cst_18, val_main_v113, val_main_v57_1, val_main_v56, val_main_v54, val_main_v55, val_main_v53, val_main_v52, val_main_v51, val_main_call3_v0, val_main_call3_cst, val_main_v111, val_main_v110, val_main_v107, val_main_v106, val_main_v81]
  rw [select_sle _ _ (by omega) (by omega), v97 H M, v80 H M, v109 H M, v79 H M, div_coe_coe _ (A.l_pos h t).ne',
    show Ideal.ofBits .f32 0x3D93CD3A#32 = (A.c : EReal) from H.c, A.ds_eq]
  simp only [add_coe, mul_coe, zero_coe, ite_coe, ite_mul, zero_mul]

/-- The keys' cotangent at the lanes in use. -/
theorem v117 (k : Fin 2048) (h : Fin 16) (j : Fin 192) :
    val_main_v117 (F := Ideal) x0 x1 x2 x3 x4 x5 (ix3 k h j) = (A.dy h k (used j) : EReal) := by
  unfold val_main_v117
  pointwise [val_main_v116]
  simp only [v115 H M, v42 H, mul_coe, sum_coe, Arr.dy]

/-- The rotated queries' cotangent at the lanes in use. -/
theorem v119 (t : Fin 2048) (h : Fin 16) (j : Fin 192) :
    val_main_v119 (F := Ideal) x0 x1 x2 x3 x4 x5 (ix3 t h j) = (A.dx h t (used j) : EReal) := by
  unfold val_main_v119
  pointwise [val_main_v118]
  simp only [v115 H M, v47 H, mul_coe, sum_coe, Arr.dx]

/-- The shared key lanes' cotangent at the lanes in use. -/
theorem v124 (k : Fin 2048) (j : Fin 64) :
    val_main_v124 (F := Ideal) x0 x1 x2 x3 x4 x5 (ix2 k j) = ((∑ h, A.dy h k (used ⟨128 + j.val, by omega⟩) : ℝ) : EReal) := by
  unfold val_main_v124
  pointwise [val_main_cst_20, val_main_v123, val_main_v122, val_main_cst_19, val_main_v121]
  simp only [v117 H M, sum_coe, Finset.univ_unique, Finset.sum_singleton]

/-- The keys' and values' cotangent. -/
theorem v155 (k : Fin 2048) (c : Fin 4096) :
    val_main_v155 (F := Ideal) x0 x1 x2 x3 x4 x5 (ix2 k c)
      = ((if (ln4 c).val < 128 then A.dy (hd4 c) k (ln4 c) else A.dv (hd4 c) k (dn (ln4 c)) : ℝ) : EReal) := by
  unfold val_main_v155
  pointwise [val_main_v152, val_main_v126, val_main_v112, val_main_v125, val_main_cst_17, val_main_cst_21, val_main_v120]
  have eh : (⟨c.val / 256, by omega⟩ : Fin 16) = hd4 c := rfl
  by_cases h1 : c.val % 256 < 128
  · have e1 : used ⟨c.val % 256, by omega⟩ = ln4 c := Fin.ext (by simp only [used, ln4]; split_ifs <;> omega)
    rw [dif_neg (by omega), dif_pos ⟨by omega, h1⟩, v117 H M, zero_add, e1, eh, if_pos (show (ln4 c).val < 128 from h1)]
  · have e1 : (⟨c.val % 256 - 128, by omega⟩ : Fin 128) = dn (ln4 c) := Fin.ext (by simp only [dn, ln4]; omega)
    rw [dif_pos ⟨by omega, by omega, by omega⟩, dif_neg (by omega), v99 H M, add_zero, e1, eh,
      if_neg (show ¬ (ln4 c).val < 128 from h1)]

/-- The shared key lanes' cotangent. -/
theorem v135 (k : Fin 2048) (d : Fin 128) :
    val_main_v135 (F := Ideal) x0 x1 x2 x3 x4 x5 (ix2 k d) = (A.dkp k d : EReal) := by
  unfold val_main_v135
  pointwise [val_main_v133, val_main_v134, val_main_cst_23, val_main_cst_24, val_main_v127, val_main_v128]
  simp only [Arr.dkp]
  by_cases h1 : d.val < 32
  · have e1 : used ⟨128 + d.val, by omega⟩ = up d := Fin.ext (by simp only [used, up]; split_ifs <;> omega)
    rw [dif_neg (by omega), dif_pos h1, v124 H M, zero_add]
    simp only [e1]
  · rw [dif_neg h1]
    by_cases h2 : 64 ≤ d.val ∧ d.val - 64 < 32
    · have e1 : used ⟨128 + (32 + (d.val - 64)), by omega⟩ = up d := Fin.ext (by simp only [used, up]; split_ifs <;> omega)
      rw [dif_pos h2, v124 H M, add_zero]
      simp only [e1]
    · rw [dif_neg h2, add_zero, zero_coe]
      congr 1
      symm
      refine Finset.sum_eq_zero fun h _ => Finset.sum_eq_zero fun t _ => ?_
      rw [A.x_pad h t (up d) (by simp only [up]; omega), mul_zero]

end Cert.Att.Ref
-- ==== Proof.Ref4.lean ====
/-
  The reference's queries' cotangent over the real numbers.
-/
module

public import proofs.«01_k».proof.Proof.Ref3

@[expose] public section

set_option maxRecDepth 16384
set_option maxHeartbeats 1000000

noncomputable section

namespace Cert.Att.Ref

open Idealize.ShloMosaic Cert.ReferenceIdeal Cert.ReferenceIdeal.Read

variable {x0 : (⟨S2048x4096, .f32⟩ : BufTy).Contents (Elt Ideal)} {x1 : (⟨S2048x4096, .bf16⟩ : BufTy).Contents (Elt Ideal)}
    {x2 : (⟨S2048x128, .bf16⟩ : BufTy).Contents (Elt Ideal)} {x3 : (⟨S2048x3200, .f32⟩ : BufTy).Contents (Elt Ideal)}
    {x4 : (⟨S2048x2048, .f32⟩ : BufTy).Contents (Elt Ideal)} {x5 : (⟨S1x2048, .i32⟩ : BufTy).Contents (Elt Ideal)} {A : Arr}
    (H : Args x0 x1 x2 x3 x4 x5 A)
    (M : ∀ h t, val_main_v59 (F := Ideal) x0 x1 x2 x5 (ix2 h t) = (A.sh h t : EReal))

include H M

omit H M in
/-- The rotation undone, at a lane of the upper half. -/
theorem dq_up (A : Arr) (h : Fin 16) (t : Fin 2048) (d : Fin 256) (hd : ¬ d.val < 128) :
    A.dq h t d = A.dx h t d * A.cosT t (dn d) + A.dx h t (up (half (dn d))) * A.sinT t (half (dn d)) := by
  rw [Arr.dq, if_neg hd]

/-- The queries' cotangent. -/
theorem v154 (t : Fin 2048) (c : Fin 4096) :
    val_main_v154 (F := Ideal) x0 x1 x2 x3 x4 x5 (ix2 t c) = (A.dq (hd4 c) t (ln4 c) : EReal) := by
  unfold val_main_v154
  pointwise [val_main_v153, val_main_v151, val_main_v132, val_main_v150, val_main_v149, val_main_v148, val_main_v147, val_main_cst_22, val_main_cst_25, val_main_cst_26, val_main_cst_27, val_main_v129, val_main_v143, val_main_v146, val_main_v139, val_main_v142, val_main_v140, val_main_v137, val_main_v145, val_main_v130, val_main_v131, val_main_v136, val_main_v138, val_main_v141, val_main_v144, val_main_v23, val_main_v25]
  have hh : c.val / 256 < 16 := by omega
  by_cases h1 : c.val % 256 < 128
  · have h1' : ¬ 128 ≤ c.val % 256 := by omega
    have e1 : used ⟨c.val % 256, by omega⟩ = ln4 c := Fin.ext (by simp only [used, ln4]; split_ifs <;> omega)
    have hq : A.dq (hd4 c) t (ln4 c) = A.dx (hd4 c) t (ln4 c) := if_pos h1
    simp only [hh, h1, h1', true_and, false_and, ↓reduceDIte, add_zero]
    rw [hq]
    exact (v119 H M t _ _).trans (congrArg (fun z => ((A.dx (hd4 c) t z : ℝ) : EReal)) e1)
  have h1' : 128 ≤ c.val % 256 := by omega
  have h1'' : c.val % 256 - 128 < 128 := by omega
  simp only [hh, h1, h1', h1'', true_and, ↓reduceDIte, zero_add]
  have hn : ¬ (ln4 c).val < 128 := h1
  have hd : (dn (ln4 c)).val = c.val % 256 - 128 := by simp only [dn, ln4]; omega
  have hf : (half (dn (ln4 c))).val = (c.val % 256 - 128 + 64) % 128 := by simp only [half, hd]
  have hq := dq_up A (hd4 c) t (ln4 c) hn
  by_cases h2 : c.val % 256 - 128 < 32
  · have h3 : ¬ 64 ≤ c.val % 256 - 128 := by omega
    have e1 : used ⟨128 + (c.val % 256 - 128), by omega⟩ = ln4 c := Fin.ext (by simp only [used, ln4]; split_ifs <;> omega)
    have e2 : used ⟨160 + (c.val % 256 - 128), by omega⟩ = up (half (dn (ln4 c))) :=
      Fin.ext (by simp only [used, up, hf]; split_ifs <;> omega)
    have hc : A.cosT t (dn (ln4 c)) = A.cs t ⟨c.val % 256 - 128, by omega⟩ := by
      rw [Arr.cosT, dif_pos (by omega)]; exact congrArg _ (Fin.ext hd)
    have hs : A.sinT t (half (dn (ln4 c))) = A.sn t ⟨c.val % 256 - 128, by omega⟩ := by
      rw [Arr.sinT, dif_neg (by omega), dif_pos (by omega)]; exact congrArg _ (Fin.ext (by simp only [hf]; omega))
    simp only [h2, h3, false_and, ↓reduceDIte, zero_add]
    refine (congrArg₂ HAdd.hAdd
      (congrArg₂ HMul.hMul ((v119 H M t _ _).trans (congrArg (fun z => ((A.dx (hd4 c) t z : ℝ) : EReal)) e2))
        ((H.sn t _).trans (congrArg Real.toEReal hs.symm)))
      (congrArg₂ HMul.hMul ((v119 H M t _ _).trans (congrArg (fun z => ((A.dx (hd4 c) t z : ℝ) : EReal)) e1))
        ((H.cs t _).trans (congrArg Real.toEReal hc.symm)))).trans ?_
    rw [mul_coe, mul_coe, add_coe, hq, add_comm]
  by_cases h3 : 64 ≤ c.val % 256 - 128
  · by_cases h4 : c.val % 256 - 128 - 64 < 32
    · have e1 : used ⟨160 + (c.val % 256 - 128 - 64), by omega⟩ = ln4 c :=
        Fin.ext (by simp only [used, ln4]; split_ifs <;> omega)
      have e2 : used ⟨128 + (c.val % 256 - 128 - 64), by omega⟩ = up (half (dn (ln4 c))) :=
        Fin.ext (by simp only [used, up, hf]; split_ifs <;> omega)
      have hc : A.cosT t (dn (ln4 c)) = A.cs t ⟨c.val % 256 - 128 - 64, by omega⟩ := by
        rw [Arr.cosT, dif_neg (by omega), dif_pos (by omega)]; exact congrArg _ (Fin.ext (by simp only [hd]))
      have hs : A.sinT t (half (dn (ln4 c))) = -A.sn t ⟨c.val % 256 - 128 - 64, by omega⟩ := by
        rw [Arr.sinT, dif_pos (by omega)]; exact congrArg _ (congrArg _ (Fin.ext (by simp only [hf]; omega)))
      have hs' : A.sn t ⟨c.val % 256 - 128 - 64, by omega⟩ = -A.sinT t (half (dn (ln4 c))) := by rw [hs, neg_neg]
      simp only [h2, h3, h4, true_and, ↓reduceDIte, add_zero]
      refine (congrArg₂ HAdd.hAdd
        (congrArg₂ HMul.hMul ((v119 H M t _ _).trans (congrArg (fun z => ((A.dx (hd4 c) t z : ℝ) : EReal)) e1))
          ((H.cs t _).trans (congrArg Real.toEReal hc.symm)))
        (congrArg₂ HMul.hMul
          (congrArg Neg.neg ((v119 H M t _ _).trans (congrArg (fun z => ((A.dx (hd4 c) t z : ℝ) : EReal)) e2)))
          ((H.sn t _).trans (congrArg Real.toEReal hs')))).trans ?_
      rw [neg_coe, mul_coe, mul_coe, add_coe, neg_mul_neg, hq]
    · have hc : A.cosT t (dn (ln4 c)) = 0 := A.cosT_pad t _ (by omega)
      have hs : A.sinT t (half (dn (ln4 c))) = 0 := A.sinT_pad t _ (by omega)
      simp only [h2, h4, and_false, ↓reduceDIte, add_zero]
      rw [hq, hc, hs, mul_zero, mul_zero, add_zero]
      rfl
  · have hc : A.cosT t (dn (ln4 c)) = 0 := A.cosT_pad t _ (by omega)
    have hs : A.sinT t (half (dn (ln4 c))) = 0 := A.sinT_pad t _ (by omega)
    simp only [h2, h3, false_and, ↓reduceDIte, add_zero]
    rw [hq, hc, hs, mul_zero, mul_zero, add_zero]
    rfl

end Cert.Att.Ref
-- ==== Proof.Finite.lean ====
/-
The arguments are finite, so every entry is a real number, and so are the rotation's
cosines and sines.
-/
module

public import proofs.«01_k».proof.Proof.Ref1
public import proofs.«01_k».proof.Proof.Gen.Pre_finite
public import proofs.«01_k».proof.Defs
public import proofs.«01_k».proof.Proof.Point
public import Idealize.ShloMosaic.Lib.Pipeline.ValueKit

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

variable (m : (ℓ : Loc nD τ sig) → Buf (Elt Ideal) ℓ) (c : Dev nD)

theorem inf_bits : Ideal.ofBits .f32 0x7F800000#32 = ⊤ := by
  simp [Ideal.ofBits, Ideal.ieee]

/-- A number whose magnitude is below infinity is real. -/
theorem real_of_abs (x : EReal) (h : BitVec.ofBool (decide ((FloatOps.absf (F := Ideal) (φ := .f32) x : EReal) < Ideal.ofBits .f32 0x7F800000#32)) = 1#1) :
    ∃ r : ℝ, x = (r : EReal) := by
  rw [inf_bits] at h
  induction x using EReal.rec with
  | bot => exact absurd h (by simp [FloatOps.absf])
  | coe r => exact ⟨r, rfl⟩
  | top => exact absurd h (by simp [FloatOps.absf])

section
variable (x0 : (⟨S2048x4096, .f32⟩ : BufTy).Contents (Elt Ideal)) (x1 : (⟨S2048x4096, .bf16⟩ : BufTy).Contents (Elt Ideal)) (x2 : (⟨S2048x128, .bf16⟩ : BufTy).Contents (Elt Ideal)) (x3 : (⟨S2048x3200, .f32⟩ : BufTy).Contents (Elt Ideal)) (x4 : (⟨S2048x2048, .f32⟩ : BufTy).Contents (Elt Ideal)) (x5 : (⟨S1x2048, .i32⟩ : BufTy).Contents (Elt Ideal))

theorem fin0 (h : (Cert.Pre_finite.fn (F := Ideal) x0 x1 x2 x3 x4 x5).1 = fun _ => 1#1) (i : S2048x4096.Idx) : ∃ r : ℝ, (x0 i : EReal) = r := by
  have := congrFun h i
  unfold Cert.Pre_finite.fn at this
  pointwise [] at this
  exact real_of_abs _ this

theorem fin1 (h : (Cert.Pre_finite.fn (F := Ideal) x0 x1 x2 x3 x4 x5).2.1 = fun _ => 1#1) (i : S2048x4096.Idx) : ∃ r : ℝ, (x1 i : EReal) = r := by
  have := congrFun h i
  unfold Cert.Pre_finite.fn at this
  pointwise [] at this
  exact real_of_abs _ this

theorem fin2 (h : (Cert.Pre_finite.fn (F := Ideal) x0 x1 x2 x3 x4 x5).2.2.1 = fun _ => 1#1) (i : S2048x128.Idx) : ∃ r : ℝ, (x2 i : EReal) = r := by
  have := congrFun h i
  unfold Cert.Pre_finite.fn at this
  pointwise [] at this
  exact real_of_abs _ this

theorem fin3 (h : (Cert.Pre_finite.fn (F := Ideal) x0 x1 x2 x3 x4 x5).2.2.2.1 = fun _ => 1#1) (i : S2048x3200.Idx) : ∃ r : ℝ, (x3 i : EReal) = r := by
  have := congrFun h i
  unfold Cert.Pre_finite.fn at this
  pointwise [] at this
  exact real_of_abs _ this

theorem fin4 (h : (Cert.Pre_finite.fn (F := Ideal) x0 x1 x2 x3 x4 x5).2.2.2.2 = fun _ => 1#1) (i : S2048x2048.Idx) : ∃ r : ℝ, (x4 i : EReal) = r := by
  have := congrFun h i
  unfold Cert.Pre_finite.fn at this
  pointwise [] at this
  exact real_of_abs _ this
end
open Cert.ReferenceIdeal.Read

/-- A pattern whose exponent is not all ones is a real number. -/
theorem real_ieee (b : BitVec 32) (h : (b.extractLsb' 23 8).toNat ≠ 2 ^ 8 - 1) : ∃ r : ℝ, Ideal.ofBits .f32 b = (r : EReal) := by
  show ∃ r : ℝ, Ideal.ieee 8 23 b = (r : EReal)
  unfold Ideal.ieee
  dsimp only
  rw [if_neg h]
  by_cases h0 : (b.extractLsb' 23 8).toNat = 0
  · rw [if_pos h0]; exact ⟨_, rfl⟩
  · rw [if_neg h0]; exact ⟨_, rfl⟩

theorem bits_64 : Ideal.ofBits .f32 0x42800000#32 = ((64 : ℝ) : EReal) := by
  simp [Ideal.ofBits, Ideal.ieee]
  norm_num
  exact_mod_cast (by norm_num : (8388608 : ℝ) * (1 / 131072) = 64)

/-- The rotation's angles are real. -/
theorem real_angle (x5 : (⟨S1x2048, .i32⟩ : BufTy).Contents (Elt Ideal)) (t : Fin 2048) (d : Fin 32) : ∃ r : ℝ, val_main_v21 (F := Ideal) x5 (ix2 t d) = (r : EReal) := by
  unfold val_main_v21
  pointwise [val_main_v19, val_main_v20, val_main_v17, val_main_v18, val_main_v16, val_main_v15, val_main_v14, val_main_v13, val_main_cst_2, val_main_v12, val_main_v11, val_main_cst_1, val_main_v10, val_main_v9, val_main_v8, val_main_cst_0, val_main_v7, val_main_v6, val_main_cst, val_main_v5]
  obtain ⟨r1, h1⟩ := real_ieee 0x461C4000#32 (by decide)
  obtain ⟨r2, h2⟩ := real_ieee 0x40000000#32 (by decide)
  change ∃ r : ℝ, ((((x5 (ix2 0 t)).toInt : ℝ) : EReal)) * Ideal.pow (Ideal.ofBits FTy.f32 0x461C4000#32)
          (Ideal.div (-(Ideal.ofBits FTy.f32 0x40000000#32 * ((((BitVec.ofNat 32 d.val).toInt : ℝ) : EReal)))) (Ideal.ofBits FTy.f32 0x42800000#32)) = (r : EReal)
  rw [h1, h2, bits_64, ← EReal.coe_mul, ← EReal.coe_neg, Ideal.div_coe (by norm_num), ← EReal.coe_mul, Ideal.pow_coe_coe, ← EReal.coe_mul]
  exact ⟨_, rfl⟩

theorem real_cos (x5 : (⟨S1x2048, .i32⟩ : BufTy).Contents (Elt Ideal)) (t : Fin 2048) (d : Fin 32) : ∃ r : ℝ, val_main_v22 (F := Ideal) x5 (ix2 t d) = (r : EReal) := by
  obtain ⟨r, h⟩ := real_angle x5 t d
  refine ⟨Real.cos r, ?_⟩
  show Ideal.cos (val_main_v21 (F := Ideal) x5 (ix2 t d)) = _
  rw [h, Ideal.cos_coe]

theorem real_sin (x5 : (⟨S1x2048, .i32⟩ : BufTy).Contents (Elt Ideal)) (t : Fin 2048) (d : Fin 32) : ∃ r : ℝ, val_main_v24 (F := Ideal) x5 (ix2 t d) = (r : EReal) := by
  obtain ⟨r, h⟩ := real_angle x5 t d
  refine ⟨Real.sin r, ?_⟩
  show Ideal.sin (val_main_v21 (F := Ideal) x5 (ix2 t d)) = _
  rw [h, Ideal.sin_coe]

/-- A real extended number is the extension of its real part. -/
theorem coe_of {x : EReal} (h : ∃ r : ℝ, x = (r : EReal)) : x = (x.toReal : EReal) := by
  obtain ⟨r, rfl⟩ := h
  rw [EReal.toReal_coe]

end Cert.Att
end
-- ==== Proof.Window.lean ====
/-
The blocks the kernel's windows bring of each array: at point `8 * g + i` the rows from
`256 * i` and the lanes of head pair `g`.
-/
module

public import proofs.«01_k».proof.Proof.Ref1
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

variable (m : (ℓ : Loc nD τ sig) → Buf (Elt Ideal) ℓ) (c : Dev nD)

theorem index0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)

theorem read0 (X : (⟨S2048x4096, .f32⟩ : BufTy).Contents (Elt Ideal)) (t : Fin cfg0.N) (r : Fin 256) (d : Fin 512) (r' : Fin 2048) (d' : Fin 4096)
    (h0 : r'.val = t.val % 8 * 256 + r.val) (h1 : d'.val = t.val / 8 * 512 + d.val) :
    (((cfg0.win 0).blk t).view.read (Elt Ideal) X : Vec Ideal S256x512 .f32) (ix2 r d) = X (ix2 r' d') := by
  have hi := index0 t
  rw [View.read_apply]
  refine congrArg X ?_
  funext a
  apply Fin.ext
  match a with
  | ⟨0, _⟩ => show win0_0.index t 0 * 256 + 1 * r.val = r'.val; rw [hi.1, h0]; omega
  | ⟨1, _⟩ => show win0_0.index t 1 * 512 + 1 * d.val = d'.val; rw [hi.2, h1]; omega

theorem blk0 (t : Fin cfg0.N) (r : Fin 256) (d : Fin 512) (r' : Fin 2048) (d' : Fin 4096)
    (h0 : r'.val = t.val % 8 * 256 + r.val) (h1 : d'.val = t.val / 8 * 512 + d.val) :
    (iblk (F := Ideal) m c 0 t : Vec Ideal S256x512 .f32) (ix2 r d) = V (F := Ideal) m c main_arg0 (ix2 r' d') :=
  read0 (V (F := Ideal) m c main_arg0) t r d r' d' h0 h1

theorem index1 : ∀ t : Fin cfg0.N, win0_1.index t 0 = t.val % 8 ∧ win0_1.index t 1 = 0 :=
  (by decide +kernel : ∀ t : Fin grid0.N, win0_1.index t 0 = t.val % 8 ∧ win0_1.index t 1 = 0)

theorem read1 (X : (⟨S2048x128, .f32⟩ : BufTy).Contents (Elt Ideal)) (t : Fin cfg0.N) (r : Fin 256) (d : Fin 128) (r' : Fin 2048) (d' : Fin 128)
    (h0 : r'.val = t.val % 8 * 256 + r.val) (h1 : d'.val = 0 * 128 + d.val) :
    (((cfg0.win 1).blk t).view.read (Elt Ideal) X : Vec Ideal S256x128 .f32) (ix2 r d) = X (ix2 r' d') := by
  have hi := index1 t
  rw [View.read_apply]
  refine congrArg X ?_
  funext a
  apply Fin.ext
  match a with
  | ⟨0, _⟩ => show win0_1.index t 0 * 256 + 1 * r.val = r'.val; rw [hi.1, h0]; omega
  | ⟨1, _⟩ => show win0_1.index t 1 * 128 + 1 * d.val = d'.val; rw [hi.2, h1]; omega

theorem blk1 (t : Fin cfg0.N) (r : Fin 256) (d : Fin 128) (r' : Fin 2048) (d' : Fin 128)
    (h0 : r'.val = t.val % 8 * 256 + r.val) (h1 : d'.val = 0 * 128 + d.val) :
    (iblk (F := Ideal) m c 1 t : Vec Ideal S256x128 .f32) (ix2 r d) = V (F := Ideal) m c main_v20 (ix2 r' d') :=
  read1 (V (F := Ideal) m c main_v20) t r d r' d' h0 h1

theorem index2 : ∀ t : Fin cfg0.N, win0_2.index t 0 = t.val % 8 ∧ win0_2.index t 1 = 0 :=
  (by decide +kernel : ∀ t : Fin grid0.N, win0_2.index t 0 = t.val % 8 ∧ win0_2.index t 1 = 0)

theorem read2 (X : (⟨S2048x128, .f32⟩ : BufTy).Contents (Elt Ideal)) (t : Fin cfg0.N) (r : Fin 256) (d : Fin 128) (r' : Fin 2048) (d' : Fin 128)
    (h0 : r'.val = t.val % 8 * 256 + r.val) (h1 : d'.val = 0 * 128 + d.val) :
    (((cfg0.win 2).blk t).view.read (Elt Ideal) X : Vec Ideal S256x128 .f32) (ix2 r d) = X (ix2 r' d') := by
  have hi := index2 t
  rw [View.read_apply]
  refine congrArg X ?_
  funext a
  apply Fin.ext
  match a with
  | ⟨0, _⟩ => show win0_2.index t 0 * 256 + 1 * r.val = r'.val; rw [hi.1, h0]; omega
  | ⟨1, _⟩ => show win0_2.index t 1 * 128 + 1 * d.val = d'.val; rw [hi.2, h1]; omega

theorem blk2 (t : Fin cfg0.N) (r : Fin 256) (d : Fin 128) (r' : Fin 2048) (d' : Fin 128)
    (h0 : r'.val = t.val % 8 * 256 + r.val) (h1 : d'.val = 0 * 128 + d.val) :
    (iblk (F := Ideal) m c 2 t : Vec Ideal S256x128 .f32) (ix2 r d) = V (F := Ideal) m c main_v22 (ix2 r' d') :=
  read2 (V (F := Ideal) m c main_v22) t r d r' d' h0 h1

theorem index3 : ∀ t : Fin cfg0.N, win0_3.index t 0 = 0 ∧ win0_3.index t 1 = t.val / 8 :=
  (by decide +kernel : ∀ t : Fin grid0.N, win0_3.index t 0 = 0 ∧ win0_3.index t 1 = t.val / 8)

theorem read3 (X : (⟨S2048x4096, .bf16⟩ : BufTy).Contents (Elt Ideal)) (t : Fin cfg0.N) (r : Fin 2048) (d : Fin 512) (r' : Fin 2048) (d' : Fin 4096)
    (h0 : r'.val = 0 * 2048 + r.val) (h1 : d'.val = t.val / 8 * 512 + d.val) :
    (((cfg0.win 3).blk t).view.read (Elt Ideal) X : Vec Ideal S2048x512 .bf16) (ix2 r d) = X (ix2 r' d') := by
  have hi := index3 t
  rw [View.read_apply]
  refine congrArg X ?_
  funext a
  apply Fin.ext
  match a with
  | ⟨0, _⟩ => show win0_3.index t 0 * 2048 + 1 * r.val = r'.val; rw [hi.1, h0]; omega
  | ⟨1, _⟩ => show win0_3.index t 1 * 512 + 1 * d.val = d'.val; rw [hi.2, h1]; omega

theorem blk3 (t : Fin cfg0.N) (r : Fin 2048) (d : Fin 512) (r' : Fin 2048) (d' : Fin 4096)
    (h0 : r'.val = 0 * 2048 + r.val) (h1 : d'.val = t.val / 8 * 512 + d.val) :
    (iblk (F := Ideal) m c 3 t : Vec Ideal S2048x512 .bf16) (ix2 r d) = V (F := Ideal) m c main_arg1 (ix2 r' d') :=
  read3 (V (F := Ideal) m c main_arg1) t r d r' d' h0 h1

theorem index4 : ∀ t : Fin cfg0.N, win0_4.index t 0 = 0 ∧ win0_4.index t 1 = 0 :=
  (by decide +kernel : ∀ t : Fin grid0.N, win0_4.index t 0 = 0 ∧ win0_4.index t 1 = 0)

theorem read4 (X : (⟨S2048x128, .bf16⟩ : BufTy).Contents (Elt Ideal)) (t : Fin cfg0.N) (r : Fin 2048) (d : Fin 128) (r' : Fin 2048) (d' : Fin 128)
    (h0 : r'.val = 0 * 2048 + r.val) (h1 : d'.val = 0 * 128 + d.val) :
    (((cfg0.win 4).blk t).view.read (Elt Ideal) X : Vec Ideal S2048x128 .bf16) (ix2 r d) = X (ix2 r' d') := by
  have hi := index4 t
  rw [View.read_apply]
  refine congrArg X ?_
  funext a
  apply Fin.ext
  match a with
  | ⟨0, _⟩ => show win0_4.index t 0 * 2048 + 1 * r.val = r'.val; rw [hi.1, h0]; omega
  | ⟨1, _⟩ => show win0_4.index t 1 * 128 + 1 * d.val = d'.val; rw [hi.2, h1]; omega

theorem blk4 (t : Fin cfg0.N) (r : Fin 2048) (d : Fin 128) (r' : Fin 2048) (d' : Fin 128)
    (h0 : r'.val = 0 * 2048 + r.val) (h1 : d'.val = 0 * 128 + d.val) :
    (iblk (F := Ideal) m c 4 t : Vec Ideal S2048x128 .bf16) (ix2 r d) = V (F := Ideal) m c main_arg2 (ix2 r' d') :=
  read4 (V (F := Ideal) m c main_arg2) t r d r' d' h0 h1

theorem index5 : ∀ t : Fin cfg0.N, win0_5.index t 0 = t.val % 8 ∧ win0_5.index t 1 = t.val / 8 :=
  (by decide +kernel : ∀ t : Fin grid0.N, win0_5.index t 0 = t.val % 8 ∧ win0_5.index t 1 = t.val / 8)

theorem read5 (X : (⟨S2048x2048, .f32⟩ : BufTy).Contents (Elt Ideal)) (t : Fin cfg0.N) (r : Fin 256) (d : Fin 256) (r' : Fin 2048) (d' : Fin 2048)
    (h0 : r'.val = t.val % 8 * 256 + r.val) (h1 : d'.val = t.val / 8 * 256 + d.val) :
    (((cfg0.win 5).blk t).view.read (Elt Ideal) X : Vec Ideal S256x256 .f32) (ix2 r d) = X (ix2 r' d') := by
  have hi := index5 t
  rw [View.read_apply]
  refine congrArg X ?_
  funext a
  apply Fin.ext
  match a with
  | ⟨0, _⟩ => show win0_5.index t 0 * 256 + 1 * r.val = r'.val; rw [hi.1, h0]; omega
  | ⟨1, _⟩ => show win0_5.index t 1 * 256 + 1 * d.val = d'.val; rw [hi.2, h1]; omega

theorem blk5 (t : Fin cfg0.N) (r : Fin 256) (d : Fin 256) (r' : Fin 2048) (d' : Fin 2048)
    (h0 : r'.val = t.val % 8 * 256 + r.val) (h1 : d'.val = t.val / 8 * 256 + d.val) :
    (iblk (F := Ideal) m c 5 t : Vec Ideal S256x256 .f32) (ix2 r d) = V (F := Ideal) m c main_v94 (ix2 r' d') :=
  read5 (V (F := Ideal) m c main_v94) t r d r' d' h0 h1

theorem index6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

theorem read6 (X : (⟨S16x2048x1, .f32⟩ : BufTy).Contents (Elt Ideal)) (t : Fin cfg0.N) (r : Fin 2) (d : Fin 256) (r' : Fin 16) (d' : Fin 2048)
    (h0 : r'.val = t.val / 8 * 2 + r.val) (h1 : d'.val = t.val % 8 * 256 + d.val) :
    (((cfg0.win 6).blk t).view.read (Elt Ideal) X : Vec Ideal S2x256x1 .f32) (ix3 r d 0) = X (ix3 r' d' 0) := by
  have hi := index6 t
  rw [View.read_apply]
  refine congrArg X ?_
  funext a
  apply Fin.ext
  match a with
  | ⟨0, _⟩ => show win0_6.index t 0 * 2 + 1 * r.val = r'.val; rw [hi.1, h0]; omega
  | ⟨1, _⟩ => show win0_6.index t 1 * 256 + 1 * d.val = d'.val; rw [hi.2.1, h1]; omega
  | ⟨2, _⟩ => show win0_6.index t 2 * 1 + 1 * 0 = 0; rw [hi.2.2]

theorem blk6 (t : Fin cfg0.N) (r : Fin 2) (d : Fin 256) (r' : Fin 16) (d' : Fin 2048)
    (h0 : r'.val = t.val / 8 * 2 + r.val) (h1 : d'.val = t.val % 8 * 256 + d.val) :
    (iblk (F := Ideal) m c 6 t : Vec Ideal S2x256x1 .f32) (ix3 r d 0) = V (F := Ideal) m c main_v103 (ix3 r' d' 0) :=
  read6 (V (F := Ideal) m c main_v103) t r d r' d' h0 h1

theorem index7 : ∀ t : Fin cfg0.N, win0_7.index t 0 = t.val % 8 ∧ win0_7.index t 1 = t.val / 8 :=
  (by decide +kernel : ∀ t : Fin grid0.N, win0_7.index t 0 = t.val % 8 ∧ win0_7.index t 1 = t.val / 8)

theorem read7 (X : (⟨S2048x2048, .f32⟩ : BufTy).Contents (Elt Ideal)) (t : Fin cfg0.N) (r : Fin 256) (d : Fin 256) (r' : Fin 2048) (d' : Fin 2048)
    (h0 : r'.val = t.val % 8 * 256 + r.val) (h1 : d'.val = t.val / 8 * 256 + d.val) :
    (((cfg0.win 7).blk t).view.read (Elt Ideal) X : Vec Ideal S256x256 .f32) (ix2 r d) = X (ix2 r' d') := by
  have hi := index7 t
  rw [View.read_apply]
  refine congrArg X ?_
  funext a
  apply Fin.ext
  match a with
  | ⟨0, _⟩ => show win0_7.index t 0 * 256 + 1 * r.val = r'.val; rw [hi.1, h0]; omega
  | ⟨1, _⟩ => show win0_7.index t 1 * 256 + 1 * d.val = d'.val; rw [hi.2, h1]; omega

theorem blk7 (t : Fin cfg0.N) (r : Fin 256) (d : Fin 256) (r' : Fin 2048) (d' : Fin 2048)
    (h0 : r'.val = t.val % 8 * 256 + r.val) (h1 : d'.val = t.val / 8 * 256 + d.val) :
    (iblk (F := Ideal) m c 7 t : Vec Ideal S256x256 .f32) (ix2 r d) = V (F := Ideal) m c main_arg4 (ix2 r' d') :=
  read7 (V (F := Ideal) m c main_arg4) t r d r' d' h0 h1

theorem index8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)

theorem read8 (X : (⟨S2048x3200, .f32⟩ : BufTy).Contents (Elt Ideal)) (t : Fin cfg0.N) (r : Fin 256) (d : Fin 256) (r' : Fin 2048) (d' : Fin 3200)
    (h0 : r'.val = t.val % 8 * 256 + r.val) (h1 : d'.val = t.val / 8 * 256 + d.val) :
    ((cfg0.win 8).fill (cfg0.grid.coords t) dflt0_8 (((cfg0.win 8).blk t).view.read (Elt Ideal) X) : Vec Ideal S256x256 .f32) (ix2 r d) = X (ix2 r' d') := by
  have hi := index8 t
  unfold Pipeline.Window.fill
  rw [dif_pos (moved0_8 t _)]
  rw [View.read_apply]
  refine congrArg X ?_
  funext a
  apply Fin.ext
  match a with
  | ⟨0, _⟩ => show win0_8.index t 0 * 256 + 1 * r.val = r'.val; rw [hi.1, h0]; omega
  | ⟨1, _⟩ => show win0_8.index t 1 * 256 + 1 * d.val = d'.val; rw [hi.2, h1]; omega

theorem blk8 (t : Fin cfg0.N) (r : Fin 256) (d : Fin 256) (r' : Fin 2048) (d' : Fin 3200)
    (h0 : r'.val = t.val % 8 * 256 + r.val) (h1 : d'.val = t.val / 8 * 256 + d.val) :
    (X0_8 (F := Ideal) m c t : Vec Ideal S256x256 .f32) (ix2 r d) = V (F := Ideal) m c main_arg3 (ix2 r' d') :=
  read8 (V (F := Ideal) m c main_arg3) t r d r' d' h0 h1

end Cert.Att
end
-- ==== Proof.Block256.lean ====
/-
  The block of 256 keys (query block 0): what the body computes for its two heads, as real numbers.
-/
module

public import proofs.«01_k».proof.Proof.Lift
public import proofs.«01_k».proof.Proof.Gen.KernelIdeal.Skeleton

@[expose] public section

set_option maxRecDepth 16384

noncomputable section

namespace Cert.Att.K256

open Idealize.ShloMosaic Idealize.SL.Sem Cert.KernelIdeal Cert.KernelIdeal.Gen

/-- A row of the query block. -/
abbrev tr (r : Fin 256) : Fin 2048 := row 0 (by omega) r
/-- A key of the block. -/
abbrev kk (j : Fin 256) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x256x256 .bf16)
  (vl : Vec Ideal S1x256x1 .f32) (vo vg vd : Vec Ideal S256x128 .f32) (vv : Vec Ideal S256x128 .bf16)
  (vk' : Vec Ideal S1x256x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (0 : EReal))

include hq hc hs in
/-- The rotated query. -/
theorem x0 (r : Fin 256) (d : Fin 256) : (k0_pay8 vq vc vs) (ix2 r d) = (A.x h (tr r) d : EReal) := by
  pointwise [k0_pay8]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 256) : (k0_pay9 vq vc vs vk vl) (ix2 r j) = (A.p h (tr r) (kk j) : EReal) := by
  have hx := x0 A h vq vc vs hq hc hs r
  pointwise [k0_pay9]
  rw [select_sle _ _ (by omega) (by omega)]
  split_ifs with hm
  · exact lift_p A h (tr r) (kk j) _ (fun d => vk (ix3 0 j d)) _ _ hx (hk j) hcc (hl r) (by simp only [row, key]; omega)
  · rw [A.p_zero h (tr r) (kk j) (by simp only [row, key]; omega)]; rfl

include hg hd hcn in
/-- The cotangent of the output before the gate. -/
theorem w0 (r : Fin 256) (d : Fin 128) : (k0_pay14 vg vd (k0_pay11 vg) cc) (ix2 r d) = (A.w h (tr r) d : EReal) := by
  pointwise [k0_pay11, k0_pay12, k0_pay13, k0_pay14]
  simp only [hg, hd, hcn]
  rw [lift_sg, mul_coe, mul_coe, Arr.w]

include ho hg hd hcn in
/-- The gate's cotangent. -/
theorem dg0 (r : Fin 256) (d : Fin 128) : (k0_pay15 (k0_pay10 vo) vg vd (k0_pay11 vg) cc) (ix2 r d) = (A.dg h (tr r) d : EReal) := by
  pointwise [k0_pay10, k0_pay11, k0_pay12, k0_pay13, k0_pay15]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds0 (r : Fin 256) (j : Fin 256) : (k0_pay16 (k0_pay9 vq vc vs vk vl) (k0_pay10 vo) vg vd (k0_pay11 vg) cc vv) (ix2 r j) = (A.ds h (tr r) (kk j) : EReal) := by
  have hp := p0 A h hcc vq vc vs vk vl hq hc hs hk hl r j
  have hw := w0 A h vg vd cc hg hd hcn r
  pointwise [k0_pay10, k0_pay16]
  exact lift_ds A h (tr r) (kk j) _ _ (fun d => (k0_pay14 vg vd (k0_pay11 vg) cc) (ix2 r d)) (fun d => vv (ix2 j d)) (fun d => vo (ix2 r d))
    hp hw (hv j) (ho r) hcc

include hcc hq hc hs hk hl ho hg hd hv hk' hc' hs' hcn in
/-- The query's cotangent. -/
theorem dq0 (r : Fin 256) (d : Fin 256) :
    (k0_pay21 (k0_pay18 (k0_pay9 vq vc vs vk vl) (k0_pay10 vo) vg vd (k0_pay11 vg) cc vv vk') (k0_pay19 (k0_pay9 vq vc vs vk vl) (k0_pay10 vo) vg vd (k0_pay11 vg) cc vv vk') (k0_pay20 vc') vs') (ix2 r d) = (A.dq h (tr r) d : EReal) := by
  have hds := ds0 A h hcc vq vc vs vk vl vo vg vd vv cc hq hc hs hk hl ho hg hd hv hcn r
  pointwise [k0_pay17, k0_pay18, k0_pay19, k0_pay20, k0_pay21]
  exact lift_dq A h (tr r) (fun d => ∑ j, (k0_pay16 (k0_pay9 vq vc vs vk vl) (k0_pay10 vo) vg vd (k0_pay11 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv0 (z : Vec Ideal S1x256x128 .f32) (a : ℝ) (j : Fin 256) (d : Fin 128) (hz : z (ix3 0 j d) = (a : EReal)) :
    (k0_pay22 (k0_pay9 vq vc vs vk vl) (k0_pay14 vg vd (k0_pay11 vg) cc) z) (ix3 0 j d)
      = ((a + ∑ r, A.p h (tr r) (kk j) * A.w h (tr r) d : ℝ) : EReal) := by
  have hp := fun r => p0 A h hcc vq vc vs vk vl hq hc hs hk hl r j
  have hw := fun r => w0 A h vg vd cc hg hd hcn r d
  pointwise [k0_pay22]
  exact lift_add _ (fun r => (k0_pay9 vq vc vs vk vl) (ix2 r j)) (fun r => (k0_pay14 vg vd (k0_pay11 vg) cc) (ix2 r d)) a _ _ hz hp hw

include hcc hq hc hs hk hl ho hg hd hv hcn in
/-- The keys' cotangent, this block's rows added. -/
theorem dk0 (z : Vec Ideal S1x256x256 .f32) (a : ℝ) (j : Fin 256) (d : Fin 256) (hz : z (ix3 0 j d) = (a : EReal)) :
    (k0_pay23 (k0_pay8 vq vc vs) (k0_pay16 (k0_pay9 vq vc vs vk vl) (k0_pay10 vo) vg vd (k0_pay11 vg) cc vv) z) (ix3 0 j d)
      = ((a + ∑ r, A.ds h (tr r) (kk j) * A.x h (tr r) d : ℝ) : EReal) := by
  have hds := fun r => ds0 A h hcc vq vc vs vk vl vo vg vd vv cc hq hc hs hk hl ho hg hd hv hcn r j
  have hx := fun r => x0 A h vq vc vs hq hc hs r d
  pointwise [k0_pay23]
  exact lift_add _ (fun r => (k0_pay16 (k0_pay9 vq vc vs vk vl) (k0_pay10 vo) vg vd (k0_pay11 vg) cc vv) (ix2 r j)) (fun r => (k0_pay8 vq vc vs) (ix2 r d)) a _ _ hz hds hx

end

section
variable (vq : Vec Ideal S256x256 .f32) (vc vs : Vec Ideal S256x128 .f32) (vk : Vec Ideal S1x256x256 .bf16)
  (vl : Vec Ideal S1x256x1 .f32) (vo vg vd : Vec Ideal S256x128 .f32) (vv : Vec Ideal S256x128 .bf16)
  (vk' : Vec Ideal S1x256x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x1 (r : Fin 256) (d : Fin 256) : (k0_pay28 (k0_pay24 vq) (k0_pay25 vq) (k0_pay26 vs) (k0_pay27 vq vc) 64#32) (ix2 r d) = (A.x h (tr r) d : EReal) := by
  pointwise [k0_pay24, k0_pay25, k0_pay26, k0_pay27, k0_pay28]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 256) : (k0_pay29 (k0_pay24 vq) (k0_pay25 vq) (k0_pay26 vs) (k0_pay27 vq vc) 64#32 vk vl) (ix2 r j) = (A.p h (tr r) (kk j) : EReal) := by
  have hx := x1 A h vq vc vs hq hc hs r
  pointwise [k0_pay29]
  rw [select_sle _ _ (by omega) (by omega)]
  split_ifs with hm
  · exact lift_p A h (tr r) (kk j) _ (fun d => vk (ix3 0 j d)) _ _ hx (hk j) hcc (hl r) (by simp only [row, key]; omega)
  · rw [A.p_zero h (tr r) (kk j) (by simp only [row, key]; omega)]; rfl

include hg hd in
/-- The cotangent of the output before the gate. -/
theorem w1 (r : Fin 256) (d : Fin 128) : (k0_pay33 vg vd) (ix2 r d) = (A.w h (tr r) d : EReal) := by
  pointwise [k0_pay31, k0_pay32, k0_pay33]
  simp only [hg, hd]
  rw [lift_sg, mul_coe, mul_coe, Arr.w]

include ho hg hd in
/-- The gate's cotangent. -/
theorem dg1 (r : Fin 256) (d : Fin 128) : (k0_pay34 (k0_pay30 vo) vd (k0_pay31 vg) (k0_pay32 vg)) (ix2 r d) = (A.dg h (tr r) d : EReal) := by
  pointwise [k0_pay30, k0_pay31, k0_pay32, k0_pay34]
  simp only [hg, hd, ho]
  rw [lift_sg, one_coe, sub_coe, mul_coe, mul_coe, mul_coe, add_coe, mul_coe, Arr.dg]

include hcc hq hc hs hk hl ho hg hd hv in
/-- The scores' cotangent. -/
theorem ds1 (r : Fin 256) (j : Fin 256) : (k0_pay35 (k0_pay29 (k0_pay24 vq) (k0_pay25 vq) (k0_pay26 vs) (k0_pay27 vq vc) 64#32 vk vl) (k0_pay30 vo) (k0_pay33 vg vd) vv) (ix2 r j) = (A.ds h (tr r) (kk j) : EReal) := by
  have hp := p1 A h hcc vq vc vs vk vl hq hc hs hk hl r j
  have hw := w1 A h vg vd hg hd r
  pointwise [k0_pay30, k0_pay35]
  exact lift_ds A h (tr r) (kk j) _ _ (fun d => (k0_pay33 vg vd) (ix2 r d)) (fun d => vv (ix2 j d)) (fun d => vo (ix2 r d))
    hp hw (hv j) (ho r) hcc

include hcc hq hc hs hk hl ho hg hd hv hk' hc' hs' in
/-- The query's cotangent. -/
theorem dq1 (r : Fin 256) (d : Fin 256) :
    (k0_pay36 (k0_pay29 (k0_pay24 vq) (k0_pay25 vq) (k0_pay26 vs) (k0_pay27 vq vc) 64#32 vk vl) (k0_pay30 vo) (k0_pay33 vg vd) vv vk' vc' vs') (ix2 r d) = (A.dq h (tr r) d : EReal) := by
  have hds := ds1 A h hcc vq vc vs vk vl vo vg vd vv hq hc hs hk hl ho hg hd hv r
  pointwise [k0_pay36]
  exact lift_dq A h (tr r) (fun d => ∑ j, (k0_pay35 (k0_pay29 (k0_pay24 vq) (k0_pay25 vq) (k0_pay26 vs) (k0_pay27 vq vc) 64#32 vk vl) (k0_pay30 vo) (k0_pay33 vg vd) vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv1 (z : Vec Ideal S1x256x128 .f32) (a : ℝ) (j : Fin 256) (d : Fin 128) (hz : z (ix3 0 j d) = (a : EReal)) :
    (k0_pay267 (k0_pay29 (k0_pay24 vq) (k0_pay25 vq) (k0_pay26 vs) (k0_pay27 vq vc) 64#32 vk vl) (k0_pay33 vg vd) z) (ix3 0 j d)
      = ((a + ∑ r, A.p h (tr r) (kk j) * A.w h (tr r) d : ℝ) : EReal) := by
  have hp := fun r => p1 A h hcc vq vc vs vk vl hq hc hs hk hl r j
  have hw := fun r => w1 A h vg vd hg hd r d
  pointwise [k0_pay267]
  exact lift_add _ (fun r => (k0_pay29 (k0_pay24 vq) (k0_pay25 vq) (k0_pay26 vs) (k0_pay27 vq vc) 64#32 vk vl) (ix2 r j)) (fun r => (k0_pay33 vg vd) (ix2 r d)) a _ _ hz hp hw

include hcc hq hc hs hk hl ho hg hd hv in
/-- The keys' cotangent, this block's rows added. -/
theorem dk1 (z : Vec Ideal S1x256x256 .f32) (a : ℝ) (j : Fin 256) (d : Fin 256) (hz : z (ix3 0 j d) = (a : EReal)) :
    (k0_pay268 (k0_pay28 (k0_pay24 vq) (k0_pay25 vq) (k0_pay26 vs) (k0_pay27 vq vc) 64#32) (k0_pay35 (k0_pay29 (k0_pay24 vq) (k0_pay25 vq) (k0_pay26 vs) (k0_pay27 vq vc) 64#32 vk vl) (k0_pay30 vo) (k0_pay33 vg vd) vv) z) (ix3 0 j d)
      = ((a + ∑ r, A.ds h (tr r) (kk j) * A.x h (tr r) d : ℝ) : EReal) := by
  have hds := fun r => ds1 A h hcc vq vc vs vk vl vo vg vd vv hq hc hs hk hl ho hg hd hv r j
  have hx := fun r => x1 A h vq vc vs hq hc hs r d
  pointwise [k0_pay268]
  exact lift_add _ (fun r => (k0_pay35 (k0_pay29 (k0_pay24 vq) (k0_pay25 vq) (k0_pay26 vs) (k0_pay27 vq vc) 64#32 vk vl) (k0_pay30 vo) (k0_pay33 vg vd) vv) (ix2 r j)) (fun r => (k0_pay28 (k0_pay24 vq) (k0_pay25 vq) (k0_pay26 vs) (k0_pay27 vq vc) 64#32) (ix2 r d)) a _ _ hz hds hx

end

end Cert.Att.K256

end
-- ==== Proof.Step256.lean ====
/-
  The grid points of query block 0: the keys laid out, the accumulators cleared, the first rows added.
-/
module

public import proofs.«01_k».proof.Proof.Block256
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K256

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)
  (h : t.val % 8 = 0) (I : In m c A t g 0 (by omega))

include I

/-- The own lanes of the first head's keys. -/
theorem own0 (inb) (j : Fin 2048) (d : Fin 128) :
    k0_pay261 (F := Ideal) (View.ld (iblk (F := Ideal) m c 3 t : Vec Ideal S2048x512 .bf16) (Rect.unit (s := S2048x512) ![0, 0] ![2048, 128] inb)) (ix3 0 j d)
      = (A.y (h0 g) j ⟨d.val, by omega⟩ : EReal) := by
  pointwise [k0_pay261]
  refine (I.kv j ⟨d.val, by omega⟩).trans ?_
  rw [Arr.y, if_pos (by exact d.isLt)]
  congr 2; exact Fin.ext (by simp only [lane4, h0]; omega)

/-- The own lanes of the second head's keys. -/
theorem own1 (inb) (j : Fin 2048) (d : Fin 128) :
    k0_pay263 (F := Ideal) (View.ld (iblk (F := Ideal) m c 3 t : Vec Ideal S2048x512 .bf16) (Rect.unit (s := S2048x512) ![0, 256] ![2048, 128] inb)) (ix3 0 j d)
      = (A.y (h1 g) j ⟨d.val, by omega⟩ : EReal) := by
  pointwise [k0_pay263]
  refine (I.kv j ⟨256 + d.val, by omega⟩).trans ?_
  rw [Arr.y, if_pos (by exact d.isLt)]
  congr 2; exact Fin.ext (by simp only [lane4, h1]; omega)

/-- The shared lanes. -/
theorem shared0 (j : Fin 2048) (d : Fin 128) :
    k0_pay262 (F := Ideal) (iblk (F := Ideal) m c 4 t : Vec Ideal S2048x128 .bf16) (ix3 0 j d) = (A.y (h0 g) j ⟨128 + d.val, by omega⟩ : EReal) := by
  pointwise [k0_pay262]
  refine (I.kp j d).trans ?_
  rw [Arr.y, if_neg (by simp)]
  congr 2; exact Fin.ext (by simp only [dn]; omega)

theorem shared1 (j : Fin 2048) (d : Fin 128) :
    k0_pay264 (F := Ideal) (iblk (F := Ideal) m c 4 t : Vec Ideal S2048x128 .bf16) (ix3 0 j d) = (A.y (h1 g) j ⟨128 + d.val, by omega⟩ : EReal) := by
  pointwise [k0_pay264]
  refine (I.kp j d).trans ?_
  rw [Arr.y, if_neg (by simp)]
  congr 2; exact Fin.ext (by simp only [dn]; omega)

/-- The first head's keys read back. -/
theorem back0 (inb3 inb1 inb0) (L) (j : Fin 256) (d : Fin 256) :
    (View.whole cc0_scratch0).readCov (Val := Elt Ideal) ((⟨Rect.unit (s := S2x2048x256) ![0, 0, 128] ![1, 2048, 128] inb1, k0_pay262 (F := Ideal) (iblk (F := Ideal) m c 4 t : Vec Ideal S2048x128 .bf16)⟩ : View.Piece (Elt Ideal) S2x2048x256 .bf16) ::
      ⟨Rect.unit (s := S2x2048x256) ![0, 0, 0] ![1, 2048, 128] inb0,
        k0_pay261 (F := Ideal) (View.ld (iblk (F := Ideal) m c 3 t : Vec Ideal S2048x512 .bf16) (Rect.unit (s := S2048x512) ![0, 0] ![2048, 128] inb_S2048x512_S2048x128_0_0))⟩ :: L)
      (Rect.unit (s := S2x2048x256) ![0, 0, 0] ![1, 256, 256] inb3).toLoadRect (ix3 0 j d) = (A.y (h0 g) (kk j) d : EReal) := by
  refine (cov3 (Val := Elt Ideal) (e := .bf16) _ inb3 _ 0 j d 0 (kk j) d rfl (by simp only [key]; omega) (by omega)).trans ?_
  by_cases hd : d.val < 128
  · refine (canon3_skip (Val := Elt Ideal) (e := .bf16) inb1 _ _ 0 (kk j) d (by omega)).trans ?_
    exact (canon3_mem (Val := Elt Ideal) (e := .bf16) inb0 _ _ 0 (kk j) ⟨d.val, hd⟩ 0 (kk j) d rfl (by omega) (by simp)).trans (own0 m c A t g I _ _ _)
  · have e : (⟨128 + (d.val - 128), by omega⟩ : Fin 256) = d := Fin.ext (by dsimp only; omega)
    refine (canon3_mem (Val := Elt Ideal) (e := .bf16) inb1 _ _ 0 (kk j) ⟨d.val - 128, by omega⟩ 0 (kk j) d rfl (by omega) (by dsimp only; omega)).trans ?_
    exact (shared0 m c A t g I _ _).trans (congrArg (fun x => ((A.y (h0 g) (kk j) x : ℝ) : EReal)) e)

/-- The second head's keys read back. -/
theorem back1 (inb3 inb1 inb0) (L) (j : Fin 256) (d : Fin 256) :
    (View.whole cc0_scratch0).readCov (Val := Elt Ideal) ((⟨Rect.unit (s := S2x2048x256) ![1, 0, 128] ![1, 2048, 128] inb1, k0_pay264 (F := Ideal) (iblk (F := Ideal) m c 4 t : Vec Ideal S2048x128 .bf16)⟩ : View.Piece (Elt Ideal) S2x2048x256 .bf16) ::
      ⟨Rect.unit (s := S2x2048x256) ![1, 0, 0] ![1, 2048, 128] inb0,
        k0_pay263 (F := Ideal) (View.ld (iblk (F := Ideal) m c 3 t : Vec Ideal S2048x512 .bf16) (Rect.unit (s := S2048x512) ![0, 256] ![2048, 128] inb_S2048x512_S2048x128_0_256))⟩ :: L)
      (Rect.unit (s := S2x2048x256) ![1, 0, 0] ![1, 256, 256] inb3).toLoadRect (ix3 0 j d) = (A.y (h1 g) (kk j) d : EReal) := by
  refine (cov3 (Val := Elt Ideal) (e := .bf16) _ inb3 _ 0 j d 1 (kk j) d rfl (by simp only [key]; omega) (by omega)).trans ?_
  by_cases hd : d.val < 128
  · refine (canon3_skip (Val := Elt Ideal) (e := .bf16) inb1 _ _ 1 (kk j) d (by omega)).trans ?_
    exact (canon3_mem (Val := Elt Ideal) (e := .bf16) inb0 _ _ 0 (kk j) ⟨d.val, hd⟩ 1 (kk j) d rfl (by omega) (by simp)).trans (own1 m c A t g I _ _ _)
  · have e : (⟨128 + (d.val - 128), by omega⟩ : Fin 256) = d := Fin.ext (by dsimp only; omega)
    refine (canon3_mem (Val := Elt Ideal) (e := .bf16) inb1 _ _ 0 (kk j) ⟨d.val - 128, by omega⟩ 1 (kk j) d rfl (by omega) (by dsimp only; omega)).trans ?_
    exact (shared1 m c A t g I _ _).trans (congrArg (fun x => ((A.y (h1 g) (kk j) x : ℝ) : EReal)) e)

omit I in
/-- The cleared accumulators. -/
theorem clear_dv (x : S2x2048x128.Idx) : k0_pay265 (F := Ideal) x = (0 : EReal) := by pointwise [k0_pay265]

omit I in
theorem clear_dk (x : S2x2048x256.Idx) : k0_pay266 (F := Ideal) x = (0 : EReal) := by pointwise [k0_pay266]

include h

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_A m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  refine half_planes (Val := Elt Ideal) (e := .bf16) (K := 2048) (n := 128) (N := 256) rfl _ _ _ _ _ _ _ _
    (fun p j d => (A.y (hp g p) j d : EReal)) (fun j d => ?_) (fun j d => ?_) (fun j d => ?_) (fun j d => ?_) p j d
  · exact own0 m c A t g I _ j d
  · exact shared0 m c A t g I j d
  · exact own1 m c A t g I _ j d
  · exact shared1 m c A t g I j d

theorem keep_dv (p : Fin 2) (j : Fin 2048) (d : Fin 128) :
    (outsAt0 (F := Ideal) m c t.val t.isLt).2.2.2.2.2.2 (ix3 p j d)
      = (part (fun t => A.p (hp g p) t j * A.w (hp g p) t d) 256 : EReal) := by
  have hN : t.val < 64 := lt_of_lt_of_eq t.isLt N_0
  rw [outsAt0_A m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  refine fill_planes (Val := Elt Ideal) (e := .f32) (K := 256) (n := 128) (by omega) _ _ _ _ _ _
    (fun p j d => (part (fun t => A.p (hp g p) t j * A.w (hp g p) t d) 256 : EReal)) (fun j d => ?_) (fun j d => ?_) (fun p j d hj => ?_) p j d
  · refine (dv0 A (h0 g) I.cc _ _ _ _ _ _ _ _ (I.q0 _) I.cs I.sn (back0 m c A t g I _ _ _ _) (I.l0 _) (I.g0 _) (I.d0 _) Ideal.ofBits_zero_f32 _ 0 j d ?_).trans ?_
    · exact clear_dv _
    · refine congrArg Real.toEReal (Eq.trans ?_ (part_step (fun t => A.p (h0 g) t (kk j) * A.w (h0 g) t d) 0 (by omega)).symm)
      rw [part_zero]
  · refine (dv1 A (h1 g) I.cc _ _ _ _ _ _ _ (I.q1 _) I.cs I.sn (back1 m c A t g I _ _ _ _) (I.l1 _) (I.g1 _) (I.d1 _) _ 0 j d ?_).trans ?_
    · exact clear_dv _
    · refine congrArg Real.toEReal (Eq.trans ?_ (part_step (fun t => A.p (h1 g) t (kk j) * A.w (h1 g) t d) 0 (by omega)).symm)
      rw [part_zero]
  · refine (clear_dv _).trans (congrArg Real.toEReal ?_)
    exact ((part_dv A (hp g p) j d 0 (by omega) (by omega)).trans (part_zero _)).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 256 : EReal) := by
  have hN : t.val < 64 := lt_of_lt_of_eq t.isLt N_0
  rw [outsAt0_A m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  refine fill_planes (Val := Elt Ideal) (e := .f32) (K := 256) (n := 256) (by omega) _ _ _ _ _ _
    (fun p j d => (part (fun t => A.ds (hp g p) t j * A.x (hp g p) t d) 256 : EReal)) (fun j d => ?_) (fun j d => ?_) (fun p j d hj => ?_) p j d
  · refine (dk0 A (h0 g) I.cc _ _ _ _ _ _ _ _ _ _ (I.q0 _) I.cs I.sn (back0 m c A t g I _ _ _ _) (I.l0 _) (I.o0 _) (I.g0 _) (I.d0 _) (I.v0 _ _) Ideal.ofBits_zero_f32 _ 0 j d ?_).trans ?_
    · exact clear_dk _
    · refine congrArg Real.toEReal (Eq.trans ?_ (part_step (fun t => A.ds (h0 g) t (kk j) * A.x (h0 g) t d) 0 (by omega)).symm)
      rw [part_zero]
  · refine (dk1 A (h1 g) I.cc _ _ _ _ _ _ _ _ _ (I.q1 _) I.cs I.sn (back1 m c A t g I _ _ _ _) (I.l1 _) (I.o1 _) (I.g1 _) (I.d1 _) (I.v1 _ _) _ 0 j d ?_).trans ?_
    · exact clear_dk _
    · refine congrArg Real.toEReal (Eq.trans ?_ (part_step (fun t => A.ds (h1 g) t (kk j) * A.x (h1 g) t d) 0 (by omega)).symm)
      rw [part_zero]
  · refine (clear_dk _).trans (congrArg Real.toEReal ?_)
    exact ((part_dk A (hp g p) j d 0 (by omega) (by omega)).trans (part_zero _)).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_A m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ _ (I.q0 _) I.cs I.sn (back0 m c A t g I _ _ _ _) (I.l0 _) (I.o0 _) (I.g0 _) (I.d0 _) (I.v0 _ _) (back0 m c A t g I _ _ _ _) I.cs I.sn Ideal.ofBits_zero_f32 r d
  · exact dq1 A (h1 g) I.cc _ _ _ _ _ _ _ _ _ _ _ _ (I.q1 _) I.cs I.sn (back1 m c A t g I _ _ _ _) (I.l1 _) (I.o1 _) (I.g1 _) (I.d1 _) (I.v1 _ _) (back1 m c A t g I _ _ _ _) I.cs I.sn r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_A m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ _ (I.o0 _) (I.g0 _) (I.d0 _) Ideal.ofBits_zero_f32 r d
  · exact dg1 A (h1 g) _ _ _ (I.o1 _) (I.g1 _) (I.d1 _) r d

/-- The point's step. -/
theorem step : St m c A t.val t.isLt g 256 ∧ Out m c A t.val t.isLt g 0 (by omega) :=
  ⟨⟨keep_k m c A t g h I, keep_dk m c A t g h I, keep_dv m c A t g h I⟩, ⟨out_dq m c A t g h I, out_dg m c A t g h I⟩⟩

end Cert.Att.K256

end
-- ==== Proof.Block512.lean ====
/-
  The block of 512 keys (query block 1): what the body computes for its two heads, as real numbers.
-/
module

public import proofs.«01_k».proof.Proof.Lift
public import proofs.«01_k».proof.Proof.Gen.KernelIdeal.Skeleton

@[expose] public section

set_option maxRecDepth 16384

noncomputable section

namespace Cert.Att.K512

open Idealize.ShloMosaic Idealize.SL.Sem Cert.KernelIdeal Cert.KernelIdeal.Gen

/-- A row of the query block. -/
abbrev tr (r : Fin 256) : Fin 2048 := row 256 (by omega) r
/-- A key of the block. -/
abbrev kk (j : Fin 512) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x512x256 .bf16)
  (vl : Vec Ideal S1x256x1 .f32) (vo vg vd : Vec Ideal S256x128 .f32) (vv : Vec Ideal S512x128 .bf16)
  (vk' : Vec Ideal S1x512x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay37 vq vc vs) (ix2 r d) = (A.x h (tr r) d : EReal) := by
  pointwise [k0_pay37]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 512) : (k0_pay38 vq vc vs vk vl) (ix2 r j) = (A.p h (tr r) (kk j) : EReal) := by
  have hx := x0 A h vq vc vs hq hc hs r
  pointwise [k0_pay38]
  by_cases hj : j.val < 256
  · rw [dif_pos hj]
    exact lift_p A h (tr r) (kk j) _ (fun d => vk (ix3 0 j d)) _ _ hx (hk j) hcc (hl r) (by simp only [row, key]; omega)
  · have e : (⟨256 + (j.val - 256), by omega⟩ : Fin 512) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay44 vg vd (k0_pay40 vg) k0_pay41) (ix2 r d) = (A.w h (tr r) d : EReal) := by
  pointwise [k0_pay40, k0_pay41, k0_pay42, k0_pay43, k0_pay44]
  simp only [hg, hd]
  rw [lift_sg, mul_coe, mul_coe, Arr.w]

include ho hg hd in
/-- The gate's cotangent. -/
theorem dg0 (r : Fin 256) (d : Fin 128) : (k0_pay45 (k0_pay39 vo) vg vd (k0_pay40 vg) k0_pay41) (ix2 r d) = (A.dg h (tr r) d : EReal) := by
  pointwise [k0_pay39, k0_pay40, k0_pay41, k0_pay42, k0_pay43, k0_pay45]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 512) : (k0_pay46 (k0_pay38 vq vc vs vk vl) (k0_pay39 vo) vg vd (k0_pay40 vg) k0_pay41 vv) (ix2 r j) = (A.ds h (tr r) (kk j) : EReal) := by
  have hp := p0 A h hcc vq vc vs vk vl hq hc hs hk hl r j
  have hw := w0 A h vg vd hg hd r
  pointwise [k0_pay39, k0_pay46]
  exact lift_ds A h (tr r) (kk j) _ _ (fun d => (k0_pay44 vg vd (k0_pay40 vg) k0_pay41) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay51 (k0_pay48 (k0_pay38 vq vc vs vk vl) (k0_pay39 vo) vg vd (k0_pay40 vg) k0_pay41 vv vk') (k0_pay49 (k0_pay38 vq vc vs vk vl) (k0_pay39 vo) vg vd (k0_pay40 vg) k0_pay41 vv vk') (k0_pay50 vc') vs') (ix2 r d) = (A.dq h (tr r) d : EReal) := by
  have hds := ds0 A h hcc vq vc vs vk vl vo vg vd vv hq hc hs hk hl ho hg hd hv r
  pointwise [k0_pay47, k0_pay48, k0_pay49, k0_pay50, k0_pay51]
  exact lift_dq A h (tr r) (fun d => ∑ j, (k0_pay46 (k0_pay38 vq vc vs vk vl) (k0_pay39 vo) vg vd (k0_pay40 vg) k0_pay41 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x512x128 .f32) (a : ℝ) (j : Fin 512) (d : Fin 128) (hz : z (ix3 0 j d) = (a : EReal)) :
    (k0_pay52 (k0_pay38 vq vc vs vk vl) (k0_pay44 vg vd (k0_pay40 vg) k0_pay41) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay52]
  exact lift_add _ (fun r => (k0_pay38 vq vc vs vk vl) (ix2 r j)) (fun r => (k0_pay44 vg vd (k0_pay40 vg) k0_pay41) (ix2 r d)) a _ _ hz hp hw

include hcc hq hc hs hk hl ho hg hd hv in
/-- The keys' cotangent, this block's rows added. -/
theorem dk0 (z : Vec Ideal S1x512x256 .f32) (a : ℝ) (j : Fin 512) (d : Fin 256) (hz : z (ix3 0 j d) = (a : EReal)) :
    (k0_pay53 (k0_pay37 vq vc vs) (k0_pay46 (k0_pay38 vq vc vs vk vl) (k0_pay39 vo) vg vd (k0_pay40 vg) k0_pay41 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay53]
  exact lift_add _ (fun r => (k0_pay46 (k0_pay38 vq vc vs vk vl) (k0_pay39 vo) vg vd (k0_pay40 vg) k0_pay41 vv) (ix2 r j)) (fun r => (k0_pay37 vq vc vs) (ix2 r d)) a _ _ hz hds hx

end

section
variable (vq : Vec Ideal S256x256 .f32) (vc vs : Vec Ideal S256x128 .f32) (vk : Vec Ideal S1x512x256 .bf16)
  (vl : Vec Ideal S1x256x1 .f32) (vo vg vd : Vec Ideal S256x128 .f32) (vv : Vec Ideal S512x128 .bf16)
  (vk' : Vec Ideal S1x512x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay57 (k0_pay54 vq) (k0_pay55 vq) (k0_pay56 vc) vs) (ix2 r d) = (A.x h (tr r) d : EReal) := by
  pointwise [k0_pay54, k0_pay55, k0_pay56, k0_pay57]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 512) : (k0_pay58 (k0_pay54 vq) (k0_pay55 vq) (k0_pay56 vc) vs vk vl) (ix2 r j) = (A.p h (tr r) (kk j) : EReal) := by
  have hx := x1 A h vq vc vs hq hc hs r
  pointwise [k0_pay58]
  by_cases hj : j.val < 256
  · rw [dif_pos hj]
    exact lift_p A h (tr r) (kk j) _ (fun d => vk (ix3 0 j d)) _ _ hx (hk j) hcc (hl r) (by simp only [row, key]; omega)
  · have e : (⟨256 + (j.val - 256), by omega⟩ : Fin 512) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay65 vg vd (k0_pay60 vg) (k0_pay61 vg) (k0_pay62 vg) cc) (ix2 r d) = (A.w h (tr r) d : EReal) := by
  pointwise [k0_pay60, k0_pay61, k0_pay62, k0_pay63, k0_pay64, k0_pay65]
  simp only [hg, hd, hcn]
  rw [lift_sg, mul_coe, mul_coe, Arr.w]

include ho hg hd hcn in
/-- The gate's cotangent. -/
theorem dg1 (r : Fin 256) (d : Fin 128) : (k0_pay66 (k0_pay59 vo) vg vd (k0_pay60 vg) (k0_pay61 vg) (k0_pay62 vg) cc) (ix2 r d) = (A.dg h (tr r) d : EReal) := by
  pointwise [k0_pay59, k0_pay60, k0_pay61, k0_pay62, k0_pay63, k0_pay64, k0_pay66]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 512) : (k0_pay67 (k0_pay58 (k0_pay54 vq) (k0_pay55 vq) (k0_pay56 vc) vs vk vl) (k0_pay59 vo) vg vd (k0_pay60 vg) (k0_pay61 vg) (k0_pay62 vg) cc vv) (ix2 r j) = (A.ds h (tr r) (kk j) : EReal) := by
  have hp := p1 A h hcc vq vc vs vk vl hq hc hs hk hl r j
  have hw := w1 A h vg vd cc hg hd hcn r
  pointwise [k0_pay59, k0_pay67]
  exact lift_ds A h (tr r) (kk j) _ _ (fun d => (k0_pay65 vg vd (k0_pay60 vg) (k0_pay61 vg) (k0_pay62 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay68 (k0_pay58 (k0_pay54 vq) (k0_pay55 vq) (k0_pay56 vc) vs vk vl) (k0_pay59 vo) vg vd (k0_pay60 vg) (k0_pay61 vg) (k0_pay62 vg) cc vv vk' vc' vs') (ix2 r d) = (A.dq h (tr r) d : EReal) := by
  have hds := ds1 A h hcc vq vc vs vk vl vo vg vd vv cc hq hc hs hk hl ho hg hd hv hcn r
  pointwise [k0_pay68]
  exact lift_dq A h (tr r) (fun d => ∑ j, (k0_pay67 (k0_pay58 (k0_pay54 vq) (k0_pay55 vq) (k0_pay56 vc) vs vk vl) (k0_pay59 vo) vg vd (k0_pay60 vg) (k0_pay61 vg) (k0_pay62 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x512x128 .f32) (a : ℝ) (j : Fin 512) (d : Fin 128) (hz : z (ix3 0 j d) = (a : EReal)) :
    (k0_pay269 (k0_pay58 (k0_pay54 vq) (k0_pay55 vq) (k0_pay56 vc) vs vk vl) (k0_pay65 vg vd (k0_pay60 vg) (k0_pay61 vg) (k0_pay62 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay269]
  exact lift_add _ (fun r => (k0_pay58 (k0_pay54 vq) (k0_pay55 vq) (k0_pay56 vc) vs vk vl) (ix2 r j)) (fun r => (k0_pay65 vg vd (k0_pay60 vg) (k0_pay61 vg) (k0_pay62 vg) cc) (ix2 r d)) a _ _ hz hp hw

include hcc hq hc hs hk hl ho hg hd hv hcn in
/-- The keys' cotangent, this block's rows added. -/
theorem dk1 (z : Vec Ideal S1x512x256 .f32) (a : ℝ) (j : Fin 512) (d : Fin 256) (hz : z (ix3 0 j d) = (a : EReal)) :
    (k0_pay270 (k0_pay57 (k0_pay54 vq) (k0_pay55 vq) (k0_pay56 vc) vs) (k0_pay67 (k0_pay58 (k0_pay54 vq) (k0_pay55 vq) (k0_pay56 vc) vs vk vl) (k0_pay59 vo) vg vd (k0_pay60 vg) (k0_pay61 vg) (k0_pay62 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay270]
  exact lift_add _ (fun r => (k0_pay67 (k0_pay58 (k0_pay54 vq) (k0_pay55 vq) (k0_pay56 vc) vs vk vl) (k0_pay59 vo) vg vd (k0_pay60 vg) (k0_pay61 vg) (k0_pay62 vg) cc vv) (ix2 r j)) (fun r => (k0_pay57 (k0_pay54 vq) (k0_pay55 vq) (k0_pay56 vc) vs) (ix2 r d)) a _ _ hz hds hx

end

end Cert.Att.K512

end
-- ==== Proof.Step512.lean ====
/-
  The grid points of query block 1: from what the point before left to what this one leaves.
-/
module

public import proofs.«01_k».proof.Proof.Block512
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K512

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 1) (ht : t.val - 1 < cfg0.N) (I : In m c A t g 256 (by omega)) (S : St m c A (t.val - 1) ht g 256)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_B m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 512 : EReal) := by
  have hN : t.val < 64 := lt_of_lt_of_eq t.isLt N_0
  rw [outsAt0_B m c t (by omega) (by omega) (by omega) (by omega) (by omega) (by omega) (by omega) (by omega) (by omega) (by omega) (by omega) (by omega) (by omega) (by omega)]
  frame_out
  simp only [read_unread_whole]
  refine planes (Val := Elt Ideal) (e := .f32) (K := 512) (n := 128) (by omega) _ _ _ _ _ _
    (fun p j d => (part (fun t => A.p (hp g p) t j * A.w (hp g p) t d) 512 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 256 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 256 (by omega)).symm)
  · rw [read_unread_whole, S.dv p j d]
    exact congrArg Real.toEReal (part_dv A (hp g p) j d 256 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 512 : EReal) := by
  have hN : t.val < 64 := lt_of_lt_of_eq t.isLt N_0
  rw [outsAt0_B m c t (by omega) (by omega) (by omega) (by omega) (by omega) (by omega) (by omega) (by omega) (by omega) (by omega) (by omega) (by omega) (by omega) (by omega)]
  frame_out
  simp only [read_unread_whole]
  refine planes (Val := Elt Ideal) (e := .f32) (K := 512) (n := 256) (by omega) _ _ _ _ _ _
    (fun p j d => (part (fun t => A.ds (hp g p) t j * A.x (hp g p) t d) 512 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 256 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 256 (by omega)).symm)
  · rw [read_unread_whole, S.dk p j d]
    exact congrArg Real.toEReal (part_dk A (hp g p) j d 256 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_B m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_B m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 512 ∧ Out m c A t.val t.isLt g 256 (by omega) :=
  ⟨⟨keep_k m c A t g h ht S, keep_dk m c A t g h ht I S, keep_dv m c A t g h ht I S⟩,
    ⟨out_dq m c A t g h ht I S, out_dg m c A t g h ht I S⟩⟩

end

end Cert.Att.K512

end
-- ==== Proof.Block768.lean ====
/-
  The block of 768 keys (query block 2): what the body computes for its two heads, as real numbers.
-/
module

public import proofs.«01_k».proof.Proof.Lift
public import proofs.«01_k».proof.Proof.Gen.KernelIdeal.Skeleton

@[expose] public section

set_option maxRecDepth 16384

noncomputable section

namespace Cert.Att.K768

open Idealize.ShloMosaic Idealize.SL.Sem Cert.KernelIdeal Cert.KernelIdeal.Gen

/-- A row of the query block. -/
abbrev tr (r : Fin 256) : Fin 2048 := row 512 (by omega) r
/-- A key of the block. -/
abbrev kk (j : Fin 768) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x768x256 .bf16)
  (vl : Vec Ideal S1x256x1 .f32) (vo vg vd : Vec Ideal S256x128 .f32) (vv : Vec Ideal S768x128 .bf16)
  (vk' : Vec Ideal S1x768x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay69 vq vc vs) (ix2 r d) = (A.x h (tr r) d : EReal) := by
  pointwise [k0_pay69]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 768) : (k0_pay70 vq vc vs vk vl) (ix2 r j) = (A.p h (tr r) (kk j) : EReal) := by
  have hx := x0 A h vq vc vs hq hc hs r
  pointwise [k0_pay70]
  by_cases hj : j.val < 512
  · rw [dif_pos hj]
    exact lift_p A h (tr r) (kk j) _ (fun d => vk (ix3 0 j d)) _ _ hx (hk j) hcc (hl r) (by simp only [row, key]; omega)
  · have e : (⟨512 + (j.val - 512), by omega⟩ : Fin 768) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay76 vg vd (k0_pay72 vg) k0_pay73) (ix2 r d) = (A.w h (tr r) d : EReal) := by
  pointwise [k0_pay72, k0_pay73, k0_pay74, k0_pay75, k0_pay76]
  simp only [hg, hd]
  rw [lift_sg, mul_coe, mul_coe, Arr.w]

include ho hg hd in
/-- The gate's cotangent. -/
theorem dg0 (r : Fin 256) (d : Fin 128) : (k0_pay77 (k0_pay71 vo) vg vd (k0_pay72 vg) k0_pay73) (ix2 r d) = (A.dg h (tr r) d : EReal) := by
  pointwise [k0_pay71, k0_pay72, k0_pay73, k0_pay74, k0_pay75, k0_pay77]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 768) : (k0_pay78 (k0_pay70 vq vc vs vk vl) (k0_pay71 vo) vg vd (k0_pay72 vg) k0_pay73 vv) (ix2 r j) = (A.ds h (tr r) (kk j) : EReal) := by
  have hp := p0 A h hcc vq vc vs vk vl hq hc hs hk hl r j
  have hw := w0 A h vg vd hg hd r
  pointwise [k0_pay71, k0_pay78]
  exact lift_ds A h (tr r) (kk j) _ _ (fun d => (k0_pay76 vg vd (k0_pay72 vg) k0_pay73) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay83 (k0_pay80 (k0_pay70 vq vc vs vk vl) (k0_pay71 vo) vg vd (k0_pay72 vg) k0_pay73 vv vk') (k0_pay81 (k0_pay70 vq vc vs vk vl) (k0_pay71 vo) vg vd (k0_pay72 vg) k0_pay73 vv vk') (k0_pay82 vc') vs') (ix2 r d) = (A.dq h (tr r) d : EReal) := by
  have hds := ds0 A h hcc vq vc vs vk vl vo vg vd vv hq hc hs hk hl ho hg hd hv r
  pointwise [k0_pay79, k0_pay80, k0_pay81, k0_pay82, k0_pay83]
  exact lift_dq A h (tr r) (fun d => ∑ j, (k0_pay78 (k0_pay70 vq vc vs vk vl) (k0_pay71 vo) vg vd (k0_pay72 vg) k0_pay73 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x768x128 .f32) (a : ℝ) (j : Fin 768) (d : Fin 128) (hz : z (ix3 0 j d) = (a : EReal)) :
    (k0_pay84 (k0_pay70 vq vc vs vk vl) (k0_pay76 vg vd (k0_pay72 vg) k0_pay73) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay84]
  exact lift_add _ (fun r => (k0_pay70 vq vc vs vk vl) (ix2 r j)) (fun r => (k0_pay76 vg vd (k0_pay72 vg) k0_pay73) (ix2 r d)) a _ _ hz hp hw

include hcc hq hc hs hk hl ho hg hd hv in
/-- The keys' cotangent, this block's rows added. -/
theorem dk0 (z : Vec Ideal S1x768x256 .f32) (a : ℝ) (j : Fin 768) (d : Fin 256) (hz : z (ix3 0 j d) = (a : EReal)) :
    (k0_pay85 (k0_pay69 vq vc vs) (k0_pay78 (k0_pay70 vq vc vs vk vl) (k0_pay71 vo) vg vd (k0_pay72 vg) k0_pay73 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay85]
  exact lift_add _ (fun r => (k0_pay78 (k0_pay70 vq vc vs vk vl) (k0_pay71 vo) vg vd (k0_pay72 vg) k0_pay73 vv) (ix2 r j)) (fun r => (k0_pay69 vq vc vs) (ix2 r d)) a _ _ hz hds hx

end

section
variable (vq : Vec Ideal S256x256 .f32) (vc vs : Vec Ideal S256x128 .f32) (vk : Vec Ideal S1x768x256 .bf16)
  (vl : Vec Ideal S1x256x1 .f32) (vo vg vd : Vec Ideal S256x128 .f32) (vv : Vec Ideal S768x128 .bf16)
  (vk' : Vec Ideal S1x768x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay89 (k0_pay86 vq) (k0_pay87 vq) (k0_pay88 vc) vs) (ix2 r d) = (A.x h (tr r) d : EReal) := by
  pointwise [k0_pay86, k0_pay87, k0_pay88, k0_pay89]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 768) : (k0_pay90 (k0_pay86 vq) (k0_pay87 vq) (k0_pay88 vc) vs vk vl) (ix2 r j) = (A.p h (tr r) (kk j) : EReal) := by
  have hx := x1 A h vq vc vs hq hc hs r
  pointwise [k0_pay90]
  by_cases hj : j.val < 512
  · rw [dif_pos hj]
    exact lift_p A h (tr r) (kk j) _ (fun d => vk (ix3 0 j d)) _ _ hx (hk j) hcc (hl r) (by simp only [row, key]; omega)
  · have e : (⟨512 + (j.val - 512), by omega⟩ : Fin 768) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay97 vg vd (k0_pay92 vg) (k0_pay93 vg) (k0_pay94 vg) cc) (ix2 r d) = (A.w h (tr r) d : EReal) := by
  pointwise [k0_pay92, k0_pay93, k0_pay94, k0_pay95, k0_pay96, k0_pay97]
  simp only [hg, hd, hcn]
  rw [lift_sg, mul_coe, mul_coe, Arr.w]

include ho hg hd hcn in
/-- The gate's cotangent. -/
theorem dg1 (r : Fin 256) (d : Fin 128) : (k0_pay98 (k0_pay91 vo) vg vd (k0_pay92 vg) (k0_pay93 vg) (k0_pay94 vg) cc) (ix2 r d) = (A.dg h (tr r) d : EReal) := by
  pointwise [k0_pay91, k0_pay92, k0_pay93, k0_pay94, k0_pay95, k0_pay96, k0_pay98]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 768) : (k0_pay99 (k0_pay90 (k0_pay86 vq) (k0_pay87 vq) (k0_pay88 vc) vs vk vl) (k0_pay91 vo) vg vd (k0_pay92 vg) (k0_pay93 vg) (k0_pay94 vg) cc vv) (ix2 r j) = (A.ds h (tr r) (kk j) : EReal) := by
  have hp := p1 A h hcc vq vc vs vk vl hq hc hs hk hl r j
  have hw := w1 A h vg vd cc hg hd hcn r
  pointwise [k0_pay91, k0_pay99]
  exact lift_ds A h (tr r) (kk j) _ _ (fun d => (k0_pay97 vg vd (k0_pay92 vg) (k0_pay93 vg) (k0_pay94 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay100 (k0_pay90 (k0_pay86 vq) (k0_pay87 vq) (k0_pay88 vc) vs vk vl) (k0_pay91 vo) vg vd (k0_pay92 vg) (k0_pay93 vg) (k0_pay94 vg) cc vv vk' vc' vs') (ix2 r d) = (A.dq h (tr r) d : EReal) := by
  have hds := ds1 A h hcc vq vc vs vk vl vo vg vd vv cc hq hc hs hk hl ho hg hd hv hcn r
  pointwise [k0_pay100]
  exact lift_dq A h (tr r) (fun d => ∑ j, (k0_pay99 (k0_pay90 (k0_pay86 vq) (k0_pay87 vq) (k0_pay88 vc) vs vk vl) (k0_pay91 vo) vg vd (k0_pay92 vg) (k0_pay93 vg) (k0_pay94 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x768x128 .f32) (a : ℝ) (j : Fin 768) (d : Fin 128) (hz : z (ix3 0 j d) = (a : EReal)) :
    (k0_pay271 (k0_pay90 (k0_pay86 vq) (k0_pay87 vq) (k0_pay88 vc) vs vk vl) (k0_pay97 vg vd (k0_pay92 vg) (k0_pay93 vg) (k0_pay94 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay271]
  exact lift_add _ (fun r => (k0_pay90 (k0_pay86 vq) (k0_pay87 vq) (k0_pay88 vc) vs vk vl) (ix2 r j)) (fun r => (k0_pay97 vg vd (k0_pay92 vg) (k0_pay93 vg) (k0_pay94 vg) cc) (ix2 r d)) a _ _ hz hp hw

include hcc hq hc hs hk hl ho hg hd hv hcn in
/-- The keys' cotangent, this block's rows added. -/
theorem dk1 (z : Vec Ideal S1x768x256 .f32) (a : ℝ) (j : Fin 768) (d : Fin 256) (hz : z (ix3 0 j d) = (a : EReal)) :
    (k0_pay272 (k0_pay89 (k0_pay86 vq) (k0_pay87 vq) (k0_pay88 vc) vs) (k0_pay99 (k0_pay90 (k0_pay86 vq) (k0_pay87 vq) (k0_pay88 vc) vs vk vl) (k0_pay91 vo) vg vd (k0_pay92 vg) (k0_pay93 vg) (k0_pay94 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay272]
  exact lift_add _ (fun r => (k0_pay99 (k0_pay90 (k0_pay86 vq) (k0_pay87 vq) (k0_pay88 vc) vs vk vl) (k0_pay91 vo) vg vd (k0_pay92 vg) (k0_pay93 vg) (k0_pay94 vg) cc vv) (ix2 r j)) (fun r => (k0_pay89 (k0_pay86 vq) (k0_pay87 vq) (k0_pay88 vc) vs) (ix2 r d)) a _ _ hz hds hx

end

end Cert.Att.K768

end
-- ==== Proof.Step768.lean ====
/-
  The grid points of query block 2: from what the point before left to what this one leaves.
-/
module

public import proofs.«01_k».proof.Proof.Block768
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K768

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 2) (ht : t.val - 1 < cfg0.N) (I : In m c A t g 512 (by omega)) (S : St m c A (t.val - 1) ht g 512)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_C m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 768 : EReal) := by
  have hN : t.val < 64 := lt_of_lt_of_eq t.isLt N_0
  rw [outsAt0_C m c t (by omega) (by omega) (by omega) (by omega) (by omega) (by omega) (by omega) (by omega) (by omega) (by omega) (by omega) (by omega) (by omega) (by omega)]
  frame_out
  simp only [read_unread_whole]
  refine planes (Val := Elt Ideal) (e := .f32) (K := 768) (n := 128) (by omega) _ _ _ _ _ _
    (fun p j d => (part (fun t => A.p (hp g p) t j * A.w (hp g p) t d) 768 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 512 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 512 (by omega)).symm)
  · rw [read_unread_whole, S.dv p j d]
    exact congrArg Real.toEReal (part_dv A (hp g p) j d 512 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 768 : EReal) := by
  have hN : t.val < 64 := lt_of_lt_of_eq t.isLt N_0
  rw [outsAt0_C m c t (by omega) (by omega) (by omega) (by omega) (by omega) (by omega) (by omega) (by omega) (by omega) (by omega) (by omega) (by omega) (by omega) (by omega)]
  frame_out
  simp only [read_unread_whole]
  refine planes (Val := Elt Ideal) (e := .f32) (K := 768) (n := 256) (by omega) _ _ _ _ _ _
    (fun p j d => (part (fun t => A.ds (hp g p) t j * A.x (hp g p) t d) 768 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 512 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 512 (by omega)).symm)
  · rw [read_unread_whole, S.dk p j d]
    exact congrArg Real.toEReal (part_dk A (hp g p) j d 512 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_C m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_C m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 768 ∧ Out m c A t.val t.isLt g 512 (by omega) :=
  ⟨⟨keep_k m c A t g h ht S, keep_dk m c A t g h ht I S, keep_dv m c A t g h ht I S⟩,
    ⟨out_dq m c A t g h ht I S, out_dg m c A t g h ht I S⟩⟩

end

end Cert.Att.K768

end
-- ==== Proof.Block1024.lean ====
/-
  The block of 1024 keys (query block 3): what the body computes for its two heads, as real numbers.
-/
module

public import proofs.«01_k».proof.Proof.Lift
public import proofs.«01_k».proof.Proof.Gen.KernelIdeal.Skeleton

@[expose] public section

set_option maxRecDepth 16384

noncomputable section

namespace Cert.Att.K1024

open Idealize.ShloMosaic Idealize.SL.Sem Cert.KernelIdeal Cert.KernelIdeal.Gen

/-- A row of the query block. -/
abbrev tr (r : Fin 256) : Fin 2048 := row 768 (by omega) r
/-- A key of the block. -/
abbrev kk (j : Fin 1024) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x1024x256 .bf16)
  (vl : Vec Ideal S1x256x1 .f32) (vo vg vd : Vec Ideal S256x128 .f32) (vv : Vec Ideal S1024x128 .bf16)
  (vk' : Vec Ideal S1x1024x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay101 vq vc vs) (ix2 r d) = (A.x h (tr r) d : EReal) := by
  pointwise [k0_pay101]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 1024) : (k0_pay102 vq vc vs vk vl) (ix2 r j) = (A.p h (tr r) (kk j) : EReal) := by
  have hx := x0 A h vq vc vs hq hc hs r
  pointwise [k0_pay102]
  by_cases hj : j.val < 768
  · rw [dif_pos hj]
    exact lift_p A h (tr r) (kk j) _ (fun d => vk (ix3 0 j d)) _ _ hx (hk j) hcc (hl r) (by simp only [row, key]; omega)
  · have e : (⟨768 + (j.val - 768), by omega⟩ : Fin 1024) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay108 vg vd (k0_pay104 vg) k0_pay105) (ix2 r d) = (A.w h (tr r) d : EReal) := by
  pointwise [k0_pay104, k0_pay105, k0_pay106, k0_pay107, k0_pay108]
  simp only [hg, hd]
  rw [lift_sg, mul_coe, mul_coe, Arr.w]

include ho hg hd in
/-- The gate's cotangent. -/
theorem dg0 (r : Fin 256) (d : Fin 128) : (k0_pay109 (k0_pay103 vo) vg vd (k0_pay104 vg) k0_pay105) (ix2 r d) = (A.dg h (tr r) d : EReal) := by
  pointwise [k0_pay103, k0_pay104, k0_pay105, k0_pay106, k0_pay107, k0_pay109]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 1024) : (k0_pay110 (k0_pay102 vq vc vs vk vl) (k0_pay103 vo) vg vd (k0_pay104 vg) k0_pay105 vv) (ix2 r j) = (A.ds h (tr r) (kk j) : EReal) := by
  have hp := p0 A h hcc vq vc vs vk vl hq hc hs hk hl r j
  have hw := w0 A h vg vd hg hd r
  pointwise [k0_pay103, k0_pay110]
  exact lift_ds A h (tr r) (kk j) _ _ (fun d => (k0_pay108 vg vd (k0_pay104 vg) k0_pay105) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay115 (k0_pay112 (k0_pay102 vq vc vs vk vl) (k0_pay103 vo) vg vd (k0_pay104 vg) k0_pay105 vv vk') (k0_pay113 (k0_pay102 vq vc vs vk vl) (k0_pay103 vo) vg vd (k0_pay104 vg) k0_pay105 vv vk') (k0_pay114 vc') vs') (ix2 r d) = (A.dq h (tr r) d : EReal) := by
  have hds := ds0 A h hcc vq vc vs vk vl vo vg vd vv hq hc hs hk hl ho hg hd hv r
  pointwise [k0_pay111, k0_pay112, k0_pay113, k0_pay114, k0_pay115]
  exact lift_dq A h (tr r) (fun d => ∑ j, (k0_pay110 (k0_pay102 vq vc vs vk vl) (k0_pay103 vo) vg vd (k0_pay104 vg) k0_pay105 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x1024x128 .f32) (a : ℝ) (j : Fin 1024) (d : Fin 128) (hz : z (ix3 0 j d) = (a : EReal)) :
    (k0_pay116 (k0_pay102 vq vc vs vk vl) (k0_pay108 vg vd (k0_pay104 vg) k0_pay105) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay116]
  exact lift_add _ (fun r => (k0_pay102 vq vc vs vk vl) (ix2 r j)) (fun r => (k0_pay108 vg vd (k0_pay104 vg) k0_pay105) (ix2 r d)) a _ _ hz hp hw

include hcc hq hc hs hk hl ho hg hd hv in
/-- The keys' cotangent, this block's rows added. -/
theorem dk0 (z : Vec Ideal S1x1024x256 .f32) (a : ℝ) (j : Fin 1024) (d : Fin 256) (hz : z (ix3 0 j d) = (a : EReal)) :
    (k0_pay117 (k0_pay101 vq vc vs) (k0_pay110 (k0_pay102 vq vc vs vk vl) (k0_pay103 vo) vg vd (k0_pay104 vg) k0_pay105 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay117]
  exact lift_add _ (fun r => (k0_pay110 (k0_pay102 vq vc vs vk vl) (k0_pay103 vo) vg vd (k0_pay104 vg) k0_pay105 vv) (ix2 r j)) (fun r => (k0_pay101 vq vc vs) (ix2 r d)) a _ _ hz hds hx

end

section
variable (vq : Vec Ideal S256x256 .f32) (vc vs : Vec Ideal S256x128 .f32) (vk : Vec Ideal S1x1024x256 .bf16)
  (vl : Vec Ideal S1x256x1 .f32) (vo vg vd : Vec Ideal S256x128 .f32) (vv : Vec Ideal S1024x128 .bf16)
  (vk' : Vec Ideal S1x1024x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay121 (k0_pay118 vq) (k0_pay119 vq) (k0_pay120 vc) vs) (ix2 r d) = (A.x h (tr r) d : EReal) := by
  pointwise [k0_pay118, k0_pay119, k0_pay120, k0_pay121]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 1024) : (k0_pay122 (k0_pay118 vq) (k0_pay119 vq) (k0_pay120 vc) vs vk vl) (ix2 r j) = (A.p h (tr r) (kk j) : EReal) := by
  have hx := x1 A h vq vc vs hq hc hs r
  pointwise [k0_pay122]
  by_cases hj : j.val < 768
  · rw [dif_pos hj]
    exact lift_p A h (tr r) (kk j) _ (fun d => vk (ix3 0 j d)) _ _ hx (hk j) hcc (hl r) (by simp only [row, key]; omega)
  · have e : (⟨768 + (j.val - 768), by omega⟩ : Fin 1024) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay129 vg vd (k0_pay124 vg) (k0_pay125 vg) (k0_pay126 vg) cc) (ix2 r d) = (A.w h (tr r) d : EReal) := by
  pointwise [k0_pay124, k0_pay125, k0_pay126, k0_pay127, k0_pay128, k0_pay129]
  simp only [hg, hd, hcn]
  rw [lift_sg, mul_coe, mul_coe, Arr.w]

include ho hg hd hcn in
/-- The gate's cotangent. -/
theorem dg1 (r : Fin 256) (d : Fin 128) : (k0_pay130 (k0_pay123 vo) vg vd (k0_pay124 vg) (k0_pay125 vg) (k0_pay126 vg) cc) (ix2 r d) = (A.dg h (tr r) d : EReal) := by
  pointwise [k0_pay123, k0_pay124, k0_pay125, k0_pay126, k0_pay127, k0_pay128, k0_pay130]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 1024) : (k0_pay131 (k0_pay122 (k0_pay118 vq) (k0_pay119 vq) (k0_pay120 vc) vs vk vl) (k0_pay123 vo) vg vd (k0_pay124 vg) (k0_pay125 vg) (k0_pay126 vg) cc vv) (ix2 r j) = (A.ds h (tr r) (kk j) : EReal) := by
  have hp := p1 A h hcc vq vc vs vk vl hq hc hs hk hl r j
  have hw := w1 A h vg vd cc hg hd hcn r
  pointwise [k0_pay123, k0_pay131]
  exact lift_ds A h (tr r) (kk j) _ _ (fun d => (k0_pay129 vg vd (k0_pay124 vg) (k0_pay125 vg) (k0_pay126 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay132 (k0_pay122 (k0_pay118 vq) (k0_pay119 vq) (k0_pay120 vc) vs vk vl) (k0_pay123 vo) vg vd (k0_pay124 vg) (k0_pay125 vg) (k0_pay126 vg) cc vv vk' vc' vs') (ix2 r d) = (A.dq h (tr r) d : EReal) := by
  have hds := ds1 A h hcc vq vc vs vk vl vo vg vd vv cc hq hc hs hk hl ho hg hd hv hcn r
  pointwise [k0_pay132]
  exact lift_dq A h (tr r) (fun d => ∑ j, (k0_pay131 (k0_pay122 (k0_pay118 vq) (k0_pay119 vq) (k0_pay120 vc) vs vk vl) (k0_pay123 vo) vg vd (k0_pay124 vg) (k0_pay125 vg) (k0_pay126 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x1024x128 .f32) (a : ℝ) (j : Fin 1024) (d : Fin 128) (hz : z (ix3 0 j d) = (a : EReal)) :
    (k0_pay273 (k0_pay122 (k0_pay118 vq) (k0_pay119 vq) (k0_pay120 vc) vs vk vl) (k0_pay129 vg vd (k0_pay124 vg) (k0_pay125 vg) (k0_pay126 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay273]
  exact lift_add _ (fun r => (k0_pay122 (k0_pay118 vq) (k0_pay119 vq) (k0_pay120 vc) vs vk vl) (ix2 r j)) (fun r => (k0_pay129 vg vd (k0_pay124 vg) (k0_pay125 vg) (k0_pay126 vg) cc) (ix2 r d)) a _ _ hz hp hw

include hcc hq hc hs hk hl ho hg hd hv hcn in
/-- The keys' cotangent, this block's rows added. -/
theorem dk1 (z : Vec Ideal S1x1024x256 .f32) (a : ℝ) (j : Fin 1024) (d : Fin 256) (hz : z (ix3 0 j d) = (a : EReal)) :
    (k0_pay274 (k0_pay121 (k0_pay118 vq) (k0_pay119 vq) (k0_pay120 vc) vs) (k0_pay131 (k0_pay122 (k0_pay118 vq) (k0_pay119 vq) (k0_pay120 vc) vs vk vl) (k0_pay123 vo) vg vd (k0_pay124 vg) (k0_pay125 vg) (k0_pay126 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay274]
  exact lift_add _ (fun r => (k0_pay131 (k0_pay122 (k0_pay118 vq) (k0_pay119 vq) (k0_pay120 vc) vs vk vl) (k0_pay123 vo) vg vd (k0_pay124 vg) (k0_pay125 vg) (k0_pay126 vg) cc vv) (ix2 r j)) (fun r => (k0_pay121 (k0_pay118 vq) (k0_pay119 vq) (k0_pay120 vc) vs) (ix2 r d)) a _ _ hz hds hx

end

end Cert.Att.K1024

end
-- ==== Proof.Step1024.lean ====
/-
  The grid points of query block 3: from what the point before left to what this one leaves.
-/
module

public import proofs.«01_k».proof.Proof.Block1024
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K1024

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 3) (ht : t.val - 1 < cfg0.N) (I : In m c A t g 768 (by omega)) (S : St m c A (t.val - 1) ht g 768)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_D m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 1024 : EReal) := by
  have hN : t.val < 64 := lt_of_lt_of_eq t.isLt N_0
  rw [outsAt0_D m c t (by omega) (by omega) (by omega) (by omega) (by omega) (by omega) (by omega) (by omega) (by omega) (by omega) (by omega) (by omega) (by omega) (by omega)]
  frame_out
  simp only [read_unread_whole]
  refine planes (Val := Elt Ideal) (e := .f32) (K := 1024) (n := 128) (by omega) _ _ _ _ _ _
    (fun p j d => (part (fun t => A.p (hp g p) t j * A.w (hp g p) t d) 1024 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 768 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 768 (by omega)).symm)
  · rw [read_unread_whole, S.dv p j d]
    exact congrArg Real.toEReal (part_dv A (hp g p) j d 768 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 1024 : EReal) := by
  have hN : t.val < 64 := lt_of_lt_of_eq t.isLt N_0
  rw [outsAt0_D m c t (by omega) (by omega) (by omega) (by omega) (by omega) (by omega) (by omega) (by omega) (by omega) (by omega) (by omega) (by omega) (by omega) (by omega)]
  frame_out
  simp only [read_unread_whole]
  refine planes (Val := Elt Ideal) (e := .f32) (K := 1024) (n := 256) (by omega) _ _ _ _ _ _
    (fun p j d => (part (fun t => A.ds (hp g p) t j * A.x (hp g p) t d) 1024 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 768 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 768 (by omega)).symm)
  · rw [read_unread_whole, S.dk p j d]
    exact congrArg Real.toEReal (part_dk A (hp g p) j d 768 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_D m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_D m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 1024 ∧ Out m c A t.val t.isLt g 768 (by omega) :=
  ⟨⟨keep_k m c A t g h ht S, keep_dk m c A t g h ht I S, keep_dv m c A t g h ht I S⟩,
    ⟨out_dq m c A t g h ht I S, out_dg m c A t g h ht I S⟩⟩

end

end Cert.Att.K1024

end
-- ==== Proof.Block1280.lean ====
/-
  The block of 1280 keys (query block 4): what the body computes for its two heads, as real numbers.
-/
module

public import proofs.«01_k».proof.Proof.Lift
public import proofs.«01_k».proof.Proof.Gen.KernelIdeal.Skeleton

@[expose] public section

set_option maxRecDepth 16384

noncomputable section

namespace Cert.Att.K1280

open Idealize.ShloMosaic Idealize.SL.Sem Cert.KernelIdeal Cert.KernelIdeal.Gen

/-- A row of the query block. -/
abbrev tr (r : Fin 256) : Fin 2048 := row 1024 (by omega) r
/-- A key of the block. -/
abbrev kk (j : Fin 1280) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x1280x256 .bf16)
  (vl : Vec Ideal S1x256x1 .f32) (vo vg vd : Vec Ideal S256x128 .f32) (vv : Vec Ideal S1280x128 .bf16)
  (vk' : Vec Ideal S1x1280x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay133 vq vc vs) (ix2 r d) = (A.x h (tr r) d : EReal) := by
  pointwise [k0_pay133]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 1280) : (k0_pay134 vq vc vs vk vl) (ix2 r j) = (A.p h (tr r) (kk j) : EReal) := by
  have hx := x0 A h vq vc vs hq hc hs r
  pointwise [k0_pay134]
  by_cases hj : j.val < 1024
  · rw [dif_pos hj]
    exact lift_p A h (tr r) (kk j) _ (fun d => vk (ix3 0 j d)) _ _ hx (hk j) hcc (hl r) (by simp only [row, key]; omega)
  · have e : (⟨1024 + (j.val - 1024), by omega⟩ : Fin 1280) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay140 vg vd (k0_pay136 vg) k0_pay137) (ix2 r d) = (A.w h (tr r) d : EReal) := by
  pointwise [k0_pay136, k0_pay137, k0_pay138, k0_pay139, k0_pay140]
  simp only [hg, hd]
  rw [lift_sg, mul_coe, mul_coe, Arr.w]

include ho hg hd in
/-- The gate's cotangent. -/
theorem dg0 (r : Fin 256) (d : Fin 128) : (k0_pay141 (k0_pay135 vo) vg vd (k0_pay136 vg) k0_pay137) (ix2 r d) = (A.dg h (tr r) d : EReal) := by
  pointwise [k0_pay135, k0_pay136, k0_pay137, k0_pay138, k0_pay139, k0_pay141]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 1280) : (k0_pay142 (k0_pay134 vq vc vs vk vl) (k0_pay135 vo) vg vd (k0_pay136 vg) k0_pay137 vv) (ix2 r j) = (A.ds h (tr r) (kk j) : EReal) := by
  have hp := p0 A h hcc vq vc vs vk vl hq hc hs hk hl r j
  have hw := w0 A h vg vd hg hd r
  pointwise [k0_pay135, k0_pay142]
  exact lift_ds A h (tr r) (kk j) _ _ (fun d => (k0_pay140 vg vd (k0_pay136 vg) k0_pay137) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay147 (k0_pay144 (k0_pay134 vq vc vs vk vl) (k0_pay135 vo) vg vd (k0_pay136 vg) k0_pay137 vv vk') (k0_pay145 (k0_pay134 vq vc vs vk vl) (k0_pay135 vo) vg vd (k0_pay136 vg) k0_pay137 vv vk') (k0_pay146 vc') vs') (ix2 r d) = (A.dq h (tr r) d : EReal) := by
  have hds := ds0 A h hcc vq vc vs vk vl vo vg vd vv hq hc hs hk hl ho hg hd hv r
  pointwise [k0_pay143, k0_pay144, k0_pay145, k0_pay146, k0_pay147]
  exact lift_dq A h (tr r) (fun d => ∑ j, (k0_pay142 (k0_pay134 vq vc vs vk vl) (k0_pay135 vo) vg vd (k0_pay136 vg) k0_pay137 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x1280x128 .f32) (a : ℝ) (j : Fin 1280) (d : Fin 128) (hz : z (ix3 0 j d) = (a : EReal)) :
    (k0_pay148 (k0_pay134 vq vc vs vk vl) (k0_pay140 vg vd (k0_pay136 vg) k0_pay137) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay148]
  exact lift_add _ (fun r => (k0_pay134 vq vc vs vk vl) (ix2 r j)) (fun r => (k0_pay140 vg vd (k0_pay136 vg) k0_pay137) (ix2 r d)) a _ _ hz hp hw

include hcc hq hc hs hk hl ho hg hd hv in
/-- The keys' cotangent, this block's rows added. -/
theorem dk0 (z : Vec Ideal S1x1280x256 .f32) (a : ℝ) (j : Fin 1280) (d : Fin 256) (hz : z (ix3 0 j d) = (a : EReal)) :
    (k0_pay149 (k0_pay133 vq vc vs) (k0_pay142 (k0_pay134 vq vc vs vk vl) (k0_pay135 vo) vg vd (k0_pay136 vg) k0_pay137 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay149]
  exact lift_add _ (fun r => (k0_pay142 (k0_pay134 vq vc vs vk vl) (k0_pay135 vo) vg vd (k0_pay136 vg) k0_pay137 vv) (ix2 r j)) (fun r => (k0_pay133 vq vc vs) (ix2 r d)) a _ _ hz hds hx

end

section
variable (vq : Vec Ideal S256x256 .f32) (vc vs : Vec Ideal S256x128 .f32) (vk : Vec Ideal S1x1280x256 .bf16)
  (vl : Vec Ideal S1x256x1 .f32) (vo vg vd : Vec Ideal S256x128 .f32) (vv : Vec Ideal S1280x128 .bf16)
  (vk' : Vec Ideal S1x1280x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay153 (k0_pay150 vq) (k0_pay151 vq) (k0_pay152 vc) vs) (ix2 r d) = (A.x h (tr r) d : EReal) := by
  pointwise [k0_pay150, k0_pay151, k0_pay152, k0_pay153]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 1280) : (k0_pay154 (k0_pay150 vq) (k0_pay151 vq) (k0_pay152 vc) vs vk vl) (ix2 r j) = (A.p h (tr r) (kk j) : EReal) := by
  have hx := x1 A h vq vc vs hq hc hs r
  pointwise [k0_pay154]
  by_cases hj : j.val < 1024
  · rw [dif_pos hj]
    exact lift_p A h (tr r) (kk j) _ (fun d => vk (ix3 0 j d)) _ _ hx (hk j) hcc (hl r) (by simp only [row, key]; omega)
  · have e : (⟨1024 + (j.val - 1024), by omega⟩ : Fin 1280) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay161 vg vd (k0_pay156 vg) (k0_pay157 vg) (k0_pay158 vg) cc) (ix2 r d) = (A.w h (tr r) d : EReal) := by
  pointwise [k0_pay156, k0_pay157, k0_pay158, k0_pay159, k0_pay160, k0_pay161]
  simp only [hg, hd, hcn]
  rw [lift_sg, mul_coe, mul_coe, Arr.w]

include ho hg hd hcn in
/-- The gate's cotangent. -/
theorem dg1 (r : Fin 256) (d : Fin 128) : (k0_pay162 (k0_pay155 vo) vg vd (k0_pay156 vg) (k0_pay157 vg) (k0_pay158 vg) cc) (ix2 r d) = (A.dg h (tr r) d : EReal) := by
  pointwise [k0_pay155, k0_pay156, k0_pay157, k0_pay158, k0_pay159, k0_pay160, k0_pay162]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 1280) : (k0_pay163 (k0_pay154 (k0_pay150 vq) (k0_pay151 vq) (k0_pay152 vc) vs vk vl) (k0_pay155 vo) vg vd (k0_pay156 vg) (k0_pay157 vg) (k0_pay158 vg) cc vv) (ix2 r j) = (A.ds h (tr r) (kk j) : EReal) := by
  have hp := p1 A h hcc vq vc vs vk vl hq hc hs hk hl r j
  have hw := w1 A h vg vd cc hg hd hcn r
  pointwise [k0_pay155, k0_pay163]
  exact lift_ds A h (tr r) (kk j) _ _ (fun d => (k0_pay161 vg vd (k0_pay156 vg) (k0_pay157 vg) (k0_pay158 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay164 (k0_pay154 (k0_pay150 vq) (k0_pay151 vq) (k0_pay152 vc) vs vk vl) (k0_pay155 vo) vg vd (k0_pay156 vg) (k0_pay157 vg) (k0_pay158 vg) cc vv vk' vc' vs') (ix2 r d) = (A.dq h (tr r) d : EReal) := by
  have hds := ds1 A h hcc vq vc vs vk vl vo vg vd vv cc hq hc hs hk hl ho hg hd hv hcn r
  pointwise [k0_pay164]
  exact lift_dq A h (tr r) (fun d => ∑ j, (k0_pay163 (k0_pay154 (k0_pay150 vq) (k0_pay151 vq) (k0_pay152 vc) vs vk vl) (k0_pay155 vo) vg vd (k0_pay156 vg) (k0_pay157 vg) (k0_pay158 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x1280x128 .f32) (a : ℝ) (j : Fin 1280) (d : Fin 128) (hz : z (ix3 0 j d) = (a : EReal)) :
    (k0_pay275 (k0_pay154 (k0_pay150 vq) (k0_pay151 vq) (k0_pay152 vc) vs vk vl) (k0_pay161 vg vd (k0_pay156 vg) (k0_pay157 vg) (k0_pay158 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay275]
  exact lift_add _ (fun r => (k0_pay154 (k0_pay150 vq) (k0_pay151 vq) (k0_pay152 vc) vs vk vl) (ix2 r j)) (fun r => (k0_pay161 vg vd (k0_pay156 vg) (k0_pay157 vg) (k0_pay158 vg) cc) (ix2 r d)) a _ _ hz hp hw

include hcc hq hc hs hk hl ho hg hd hv hcn in
/-- The keys' cotangent, this block's rows added. -/
theorem dk1 (z : Vec Ideal S1x1280x256 .f32) (a : ℝ) (j : Fin 1280) (d : Fin 256) (hz : z (ix3 0 j d) = (a : EReal)) :
    (k0_pay276 (k0_pay153 (k0_pay150 vq) (k0_pay151 vq) (k0_pay152 vc) vs) (k0_pay163 (k0_pay154 (k0_pay150 vq) (k0_pay151 vq) (k0_pay152 vc) vs vk vl) (k0_pay155 vo) vg vd (k0_pay156 vg) (k0_pay157 vg) (k0_pay158 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay276]
  exact lift_add _ (fun r => (k0_pay163 (k0_pay154 (k0_pay150 vq) (k0_pay151 vq) (k0_pay152 vc) vs vk vl) (k0_pay155 vo) vg vd (k0_pay156 vg) (k0_pay157 vg) (k0_pay158 vg) cc vv) (ix2 r j)) (fun r => (k0_pay153 (k0_pay150 vq) (k0_pay151 vq) (k0_pay152 vc) vs) (ix2 r d)) a _ _ hz hds hx

end

end Cert.Att.K1280

end
-- ==== Proof.Step1280.lean ====
/-
  The grid points of query block 4: from what the point before left to what this one leaves.
-/
module

public import proofs.«01_k».proof.Proof.Block1280
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K1280

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 4) (ht : t.val - 1 < cfg0.N) (I : In m c A t g 1024 (by omega)) (S : St m c A (t.val - 1) ht g 1024)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_E m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 1280 : EReal) := by
  have hN : t.val < 64 := lt_of_lt_of_eq t.isLt N_0
  rw [outsAt0_E m c t (by omega) (by omega) (by omega) (by omega) (by omega) (by omega) (by omega) (by omega) (by omega) (by omega) (by omega) (by omega) (by omega) (by omega)]
  frame_out
  simp only [read_unread_whole]
  refine planes (Val := Elt Ideal) (e := .f32) (K := 1280) (n := 128) (by omega) _ _ _ _ _ _
    (fun p j d => (part (fun t => A.p (hp g p) t j * A.w (hp g p) t d) 1280 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 1024 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 1024 (by omega)).symm)
  · rw [read_unread_whole, S.dv p j d]
    exact congrArg Real.toEReal (part_dv A (hp g p) j d 1024 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 1280 : EReal) := by
  have hN : t.val < 64 := lt_of_lt_of_eq t.isLt N_0
  rw [outsAt0_E m c t (by omega) (by omega) (by omega) (by omega) (by omega) (by omega) (by omega) (by omega) (by omega) (by omega) (by omega) (by omega) (by omega) (by omega)]
  frame_out
  simp only [read_unread_whole]
  refine planes (Val := Elt Ideal) (e := .f32) (K := 1280) (n := 256) (by omega) _ _ _ _ _ _
    (fun p j d => (part (fun t => A.ds (hp g p) t j * A.x (hp g p) t d) 1280 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 1024 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 1024 (by omega)).symm)
  · rw [read_unread_whole, S.dk p j d]
    exact congrArg Real.toEReal (part_dk A (hp g p) j d 1024 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_E m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_E m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 1280 ∧ Out m c A t.val t.isLt g 1024 (by omega) :=
  ⟨⟨keep_k m c A t g h ht S, keep_dk m c A t g h ht I S, keep_dv m c A t g h ht I S⟩,
    ⟨out_dq m c A t g h ht I S, out_dg m c A t g h ht I S⟩⟩

end

end Cert.Att.K1280

end
-- ==== Proof.Block1536.lean ====
/-
  The block of 1536 keys (query block 5): what the body computes for its two heads, as real numbers.
-/
module

public import proofs.«01_k».proof.Proof.Lift
public import proofs.«01_k».proof.Proof.Gen.KernelIdeal.Skeleton

@[expose] public section

set_option maxRecDepth 16384

noncomputable section

namespace Cert.Att.K1536

open Idealize.ShloMosaic Idealize.SL.Sem Cert.KernelIdeal Cert.KernelIdeal.Gen

/-- A row of the query block. -/
abbrev tr (r : Fin 256) : Fin 2048 := row 1280 (by omega) r
/-- A key of the block. -/
abbrev kk (j : Fin 1536) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x1536x256 .bf16)
  (vl : Vec Ideal S1x256x1 .f32) (vo vg vd : Vec Ideal S256x128 .f32) (vv : Vec Ideal S1536x128 .bf16)
  (vk' : Vec Ideal S1x1536x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay165 vq vc vs) (ix2 r d) = (A.x h (tr r) d : EReal) := by
  pointwise [k0_pay165]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 1536) : (k0_pay166 vq vc vs vk vl) (ix2 r j) = (A.p h (tr r) (kk j) : EReal) := by
  have hx := x0 A h vq vc vs hq hc hs r
  pointwise [k0_pay166]
  by_cases hj : j.val < 1280
  · rw [dif_pos hj]
    exact lift_p A h (tr r) (kk j) _ (fun d => vk (ix3 0 j d)) _ _ hx (hk j) hcc (hl r) (by simp only [row, key]; omega)
  · have e : (⟨1280 + (j.val - 1280), by omega⟩ : Fin 1536) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay172 vg vd (k0_pay168 vg) k0_pay169) (ix2 r d) = (A.w h (tr r) d : EReal) := by
  pointwise [k0_pay168, k0_pay169, k0_pay170, k0_pay171, k0_pay172]
  simp only [hg, hd]
  rw [lift_sg, mul_coe, mul_coe, Arr.w]

include ho hg hd in
/-- The gate's cotangent. -/
theorem dg0 (r : Fin 256) (d : Fin 128) : (k0_pay173 (k0_pay167 vo) vg vd (k0_pay168 vg) k0_pay169) (ix2 r d) = (A.dg h (tr r) d : EReal) := by
  pointwise [k0_pay167, k0_pay168, k0_pay169, k0_pay170, k0_pay171, k0_pay173]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 1536) : (k0_pay174 (k0_pay166 vq vc vs vk vl) (k0_pay167 vo) vg vd (k0_pay168 vg) k0_pay169 vv) (ix2 r j) = (A.ds h (tr r) (kk j) : EReal) := by
  have hp := p0 A h hcc vq vc vs vk vl hq hc hs hk hl r j
  have hw := w0 A h vg vd hg hd r
  pointwise [k0_pay167, k0_pay174]
  exact lift_ds A h (tr r) (kk j) _ _ (fun d => (k0_pay172 vg vd (k0_pay168 vg) k0_pay169) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay179 (k0_pay176 (k0_pay166 vq vc vs vk vl) (k0_pay167 vo) vg vd (k0_pay168 vg) k0_pay169 vv vk') (k0_pay177 (k0_pay166 vq vc vs vk vl) (k0_pay167 vo) vg vd (k0_pay168 vg) k0_pay169 vv vk') (k0_pay178 vc') vs') (ix2 r d) = (A.dq h (tr r) d : EReal) := by
  have hds := ds0 A h hcc vq vc vs vk vl vo vg vd vv hq hc hs hk hl ho hg hd hv r
  pointwise [k0_pay175, k0_pay176, k0_pay177, k0_pay178, k0_pay179]
  exact lift_dq A h (tr r) (fun d => ∑ j, (k0_pay174 (k0_pay166 vq vc vs vk vl) (k0_pay167 vo) vg vd (k0_pay168 vg) k0_pay169 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x1536x128 .f32) (a : ℝ) (j : Fin 1536) (d : Fin 128) (hz : z (ix3 0 j d) = (a : EReal)) :
    (k0_pay180 (k0_pay166 vq vc vs vk vl) (k0_pay172 vg vd (k0_pay168 vg) k0_pay169) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay180]
  exact lift_add _ (fun r => (k0_pay166 vq vc vs vk vl) (ix2 r j)) (fun r => (k0_pay172 vg vd (k0_pay168 vg) k0_pay169) (ix2 r d)) a _ _ hz hp hw

include hcc hq hc hs hk hl ho hg hd hv in
/-- The keys' cotangent, this block's rows added. -/
theorem dk0 (z : Vec Ideal S1x1536x256 .f32) (a : ℝ) (j : Fin 1536) (d : Fin 256) (hz : z (ix3 0 j d) = (a : EReal)) :
    (k0_pay181 (k0_pay165 vq vc vs) (k0_pay174 (k0_pay166 vq vc vs vk vl) (k0_pay167 vo) vg vd (k0_pay168 vg) k0_pay169 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay181]
  exact lift_add _ (fun r => (k0_pay174 (k0_pay166 vq vc vs vk vl) (k0_pay167 vo) vg vd (k0_pay168 vg) k0_pay169 vv) (ix2 r j)) (fun r => (k0_pay165 vq vc vs) (ix2 r d)) a _ _ hz hds hx

end

section
variable (vq : Vec Ideal S256x256 .f32) (vc vs : Vec Ideal S256x128 .f32) (vk : Vec Ideal S1x1536x256 .bf16)
  (vl : Vec Ideal S1x256x1 .f32) (vo vg vd : Vec Ideal S256x128 .f32) (vv : Vec Ideal S1536x128 .bf16)
  (vk' : Vec Ideal S1x1536x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay185 (k0_pay182 vq) (k0_pay183 vq) (k0_pay184 vc) vs) (ix2 r d) = (A.x h (tr r) d : EReal) := by
  pointwise [k0_pay182, k0_pay183, k0_pay184, k0_pay185]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 1536) : (k0_pay186 (k0_pay182 vq) (k0_pay183 vq) (k0_pay184 vc) vs vk vl) (ix2 r j) = (A.p h (tr r) (kk j) : EReal) := by
  have hx := x1 A h vq vc vs hq hc hs r
  pointwise [k0_pay186]
  by_cases hj : j.val < 1280
  · rw [dif_pos hj]
    exact lift_p A h (tr r) (kk j) _ (fun d => vk (ix3 0 j d)) _ _ hx (hk j) hcc (hl r) (by simp only [row, key]; omega)
  · have e : (⟨1280 + (j.val - 1280), by omega⟩ : Fin 1536) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay193 vg vd (k0_pay188 vg) (k0_pay189 vg) (k0_pay190 vg) cc) (ix2 r d) = (A.w h (tr r) d : EReal) := by
  pointwise [k0_pay188, k0_pay189, k0_pay190, k0_pay191, k0_pay192, k0_pay193]
  simp only [hg, hd, hcn]
  rw [lift_sg, mul_coe, mul_coe, Arr.w]

include ho hg hd hcn in
/-- The gate's cotangent. -/
theorem dg1 (r : Fin 256) (d : Fin 128) : (k0_pay194 (k0_pay187 vo) vg vd (k0_pay188 vg) (k0_pay189 vg) (k0_pay190 vg) cc) (ix2 r d) = (A.dg h (tr r) d : EReal) := by
  pointwise [k0_pay187, k0_pay188, k0_pay189, k0_pay190, k0_pay191, k0_pay192, k0_pay194]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 1536) : (k0_pay195 (k0_pay186 (k0_pay182 vq) (k0_pay183 vq) (k0_pay184 vc) vs vk vl) (k0_pay187 vo) vg vd (k0_pay188 vg) (k0_pay189 vg) (k0_pay190 vg) cc vv) (ix2 r j) = (A.ds h (tr r) (kk j) : EReal) := by
  have hp := p1 A h hcc vq vc vs vk vl hq hc hs hk hl r j
  have hw := w1 A h vg vd cc hg hd hcn r
  pointwise [k0_pay187, k0_pay195]
  exact lift_ds A h (tr r) (kk j) _ _ (fun d => (k0_pay193 vg vd (k0_pay188 vg) (k0_pay189 vg) (k0_pay190 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay196 (k0_pay186 (k0_pay182 vq) (k0_pay183 vq) (k0_pay184 vc) vs vk vl) (k0_pay187 vo) vg vd (k0_pay188 vg) (k0_pay189 vg) (k0_pay190 vg) cc vv vk' vc' vs') (ix2 r d) = (A.dq h (tr r) d : EReal) := by
  have hds := ds1 A h hcc vq vc vs vk vl vo vg vd vv cc hq hc hs hk hl ho hg hd hv hcn r
  pointwise [k0_pay196]
  exact lift_dq A h (tr r) (fun d => ∑ j, (k0_pay195 (k0_pay186 (k0_pay182 vq) (k0_pay183 vq) (k0_pay184 vc) vs vk vl) (k0_pay187 vo) vg vd (k0_pay188 vg) (k0_pay189 vg) (k0_pay190 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x1536x128 .f32) (a : ℝ) (j : Fin 1536) (d : Fin 128) (hz : z (ix3 0 j d) = (a : EReal)) :
    (k0_pay277 (k0_pay186 (k0_pay182 vq) (k0_pay183 vq) (k0_pay184 vc) vs vk vl) (k0_pay193 vg vd (k0_pay188 vg) (k0_pay189 vg) (k0_pay190 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay277]
  exact lift_add _ (fun r => (k0_pay186 (k0_pay182 vq) (k0_pay183 vq) (k0_pay184 vc) vs vk vl) (ix2 r j)) (fun r => (k0_pay193 vg vd (k0_pay188 vg) (k0_pay189 vg) (k0_pay190 vg) cc) (ix2 r d)) a _ _ hz hp hw

include hcc hq hc hs hk hl ho hg hd hv hcn in
/-- The keys' cotangent, this block's rows added. -/
theorem dk1 (z : Vec Ideal S1x1536x256 .f32) (a : ℝ) (j : Fin 1536) (d : Fin 256) (hz : z (ix3 0 j d) = (a : EReal)) :
    (k0_pay278 (k0_pay185 (k0_pay182 vq) (k0_pay183 vq) (k0_pay184 vc) vs) (k0_pay195 (k0_pay186 (k0_pay182 vq) (k0_pay183 vq) (k0_pay184 vc) vs vk vl) (k0_pay187 vo) vg vd (k0_pay188 vg) (k0_pay189 vg) (k0_pay190 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay278]
  exact lift_add _ (fun r => (k0_pay195 (k0_pay186 (k0_pay182 vq) (k0_pay183 vq) (k0_pay184 vc) vs vk vl) (k0_pay187 vo) vg vd (k0_pay188 vg) (k0_pay189 vg) (k0_pay190 vg) cc vv) (ix2 r j)) (fun r => (k0_pay185 (k0_pay182 vq) (k0_pay183 vq) (k0_pay184 vc) vs) (ix2 r d)) a _ _ hz hds hx

end

end Cert.Att.K1536

end
-- ==== Proof.Step1536.lean ====
/-
  The grid points of query block 5: from what the point before left to what this one leaves.
-/
module

public import proofs.«01_k».proof.Proof.Block1536
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K1536

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 5) (ht : t.val - 1 < cfg0.N) (I : In m c A t g 1280 (by omega)) (S : St m c A (t.val - 1) ht g 1280)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_F m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 1536 : EReal) := by
  have hN : t.val < 64 := lt_of_lt_of_eq t.isLt N_0
  rw [outsAt0_F m c t (by omega) (by omega) (by omega) (by omega) (by omega) (by omega) (by omega) (by omega) (by omega) (by omega) (by omega) (by omega) (by omega) (by omega)]
  frame_out
  simp only [read_unread_whole]
  refine planes (Val := Elt Ideal) (e := .f32) (K := 1536) (n := 128) (by omega) _ _ _ _ _ _
    (fun p j d => (part (fun t => A.p (hp g p) t j * A.w (hp g p) t d) 1536 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 1280 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 1280 (by omega)).symm)
  · rw [read_unread_whole, S.dv p j d]
    exact congrArg Real.toEReal (part_dv A (hp g p) j d 1280 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 1536 : EReal) := by
  have hN : t.val < 64 := lt_of_lt_of_eq t.isLt N_0
  rw [outsAt0_F m c t (by omega) (by omega) (by omega) (by omega) (by omega) (by omega) (by omega) (by omega) (by omega) (by omega) (by omega) (by omega) (by omega) (by omega)]
  frame_out
  simp only [read_unread_whole]
  refine planes (Val := Elt Ideal) (e := .f32) (K := 1536) (n := 256) (by omega) _ _ _ _ _ _
    (fun p j d => (part (fun t => A.ds (hp g p) t j * A.x (hp g p) t d) 1536 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 1280 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 1280 (by omega)).symm)
  · rw [read_unread_whole, S.dk p j d]
    exact congrArg Real.toEReal (part_dk A (hp g p) j d 1280 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_F m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_F m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 1536 ∧ Out m c A t.val t.isLt g 1280 (by omega) :=
  ⟨⟨keep_k m c A t g h ht S, keep_dk m c A t g h ht I S, keep_dv m c A t g h ht I S⟩,
    ⟨out_dq m c A t g h ht I S, out_dg m c A t g h ht I S⟩⟩

end

end Cert.Att.K1536

end
-- ==== Proof.Block1792.lean ====
/-
  The block of 1792 keys (query block 6): what the body computes for its two heads, as real numbers.
-/
module

public import proofs.«01_k».proof.Proof.Lift
public import proofs.«01_k».proof.Proof.Gen.KernelIdeal.Skeleton

@[expose] public section

set_option maxRecDepth 16384

noncomputable section

namespace Cert.Att.K1792

open Idealize.ShloMosaic Idealize.SL.Sem Cert.KernelIdeal Cert.KernelIdeal.Gen

/-- A row of the query block. -/
abbrev tr (r : Fin 256) : Fin 2048 := row 1536 (by omega) r
/-- A key of the block. -/
abbrev kk (j : Fin 1792) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x1792x256 .bf16)
  (vl : Vec Ideal S1x256x1 .f32) (vo vg vd : Vec Ideal S256x128 .f32) (vv : Vec Ideal S1792x128 .bf16)
  (vk' : Vec Ideal S1x1792x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay197 vq vc vs) (ix2 r d) = (A.x h (tr r) d : EReal) := by
  pointwise [k0_pay197]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 1792) : (k0_pay198 vq vc vs vk vl) (ix2 r j) = (A.p h (tr r) (kk j) : EReal) := by
  have hx := x0 A h vq vc vs hq hc hs r
  pointwise [k0_pay198]
  by_cases hj : j.val < 1536
  · rw [dif_pos hj]
    exact lift_p A h (tr r) (kk j) _ (fun d => vk (ix3 0 j d)) _ _ hx (hk j) hcc (hl r) (by simp only [row, key]; omega)
  · have e : (⟨1536 + (j.val - 1536), by omega⟩ : Fin 1792) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay204 vg vd (k0_pay200 vg) k0_pay201) (ix2 r d) = (A.w h (tr r) d : EReal) := by
  pointwise [k0_pay200, k0_pay201, k0_pay202, k0_pay203, k0_pay204]
  simp only [hg, hd]
  rw [lift_sg, mul_coe, mul_coe, Arr.w]

include ho hg hd in
/-- The gate's cotangent. -/
theorem dg0 (r : Fin 256) (d : Fin 128) : (k0_pay205 (k0_pay199 vo) vg vd (k0_pay200 vg) k0_pay201) (ix2 r d) = (A.dg h (tr r) d : EReal) := by
  pointwise [k0_pay199, k0_pay200, k0_pay201, k0_pay202, k0_pay203, k0_pay205]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 1792) : (k0_pay206 (k0_pay198 vq vc vs vk vl) (k0_pay199 vo) vg vd (k0_pay200 vg) k0_pay201 vv) (ix2 r j) = (A.ds h (tr r) (kk j) : EReal) := by
  have hp := p0 A h hcc vq vc vs vk vl hq hc hs hk hl r j
  have hw := w0 A h vg vd hg hd r
  pointwise [k0_pay199, k0_pay206]
  exact lift_ds A h (tr r) (kk j) _ _ (fun d => (k0_pay204 vg vd (k0_pay200 vg) k0_pay201) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay211 (k0_pay208 (k0_pay198 vq vc vs vk vl) (k0_pay199 vo) vg vd (k0_pay200 vg) k0_pay201 vv vk') (k0_pay209 (k0_pay198 vq vc vs vk vl) (k0_pay199 vo) vg vd (k0_pay200 vg) k0_pay201 vv vk') (k0_pay210 vc') vs') (ix2 r d) = (A.dq h (tr r) d : EReal) := by
  have hds := ds0 A h hcc vq vc vs vk vl vo vg vd vv hq hc hs hk hl ho hg hd hv r
  pointwise [k0_pay207, k0_pay208, k0_pay209, k0_pay210, k0_pay211]
  exact lift_dq A h (tr r) (fun d => ∑ j, (k0_pay206 (k0_pay198 vq vc vs vk vl) (k0_pay199 vo) vg vd (k0_pay200 vg) k0_pay201 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x1792x128 .f32) (a : ℝ) (j : Fin 1792) (d : Fin 128) (hz : z (ix3 0 j d) = (a : EReal)) :
    (k0_pay212 (k0_pay198 vq vc vs vk vl) (k0_pay204 vg vd (k0_pay200 vg) k0_pay201) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay212]
  exact lift_add _ (fun r => (k0_pay198 vq vc vs vk vl) (ix2 r j)) (fun r => (k0_pay204 vg vd (k0_pay200 vg) k0_pay201) (ix2 r d)) a _ _ hz hp hw

include hcc hq hc hs hk hl ho hg hd hv in
/-- The keys' cotangent, this block's rows added. -/
theorem dk0 (z : Vec Ideal S1x1792x256 .f32) (a : ℝ) (j : Fin 1792) (d : Fin 256) (hz : z (ix3 0 j d) = (a : EReal)) :
    (k0_pay213 (k0_pay197 vq vc vs) (k0_pay206 (k0_pay198 vq vc vs vk vl) (k0_pay199 vo) vg vd (k0_pay200 vg) k0_pay201 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay213]
  exact lift_add _ (fun r => (k0_pay206 (k0_pay198 vq vc vs vk vl) (k0_pay199 vo) vg vd (k0_pay200 vg) k0_pay201 vv) (ix2 r j)) (fun r => (k0_pay197 vq vc vs) (ix2 r d)) a _ _ hz hds hx

end

section
variable (vq : Vec Ideal S256x256 .f32) (vc vs : Vec Ideal S256x128 .f32) (vk : Vec Ideal S1x1792x256 .bf16)
  (vl : Vec Ideal S1x256x1 .f32) (vo vg vd : Vec Ideal S256x128 .f32) (vv : Vec Ideal S1792x128 .bf16)
  (vk' : Vec Ideal S1x1792x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay217 (k0_pay214 vq) (k0_pay215 vq) (k0_pay216 vc) vs) (ix2 r d) = (A.x h (tr r) d : EReal) := by
  pointwise [k0_pay214, k0_pay215, k0_pay216, k0_pay217]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 1792) : (k0_pay218 (k0_pay214 vq) (k0_pay215 vq) (k0_pay216 vc) vs vk vl) (ix2 r j) = (A.p h (tr r) (kk j) : EReal) := by
  have hx := x1 A h vq vc vs hq hc hs r
  pointwise [k0_pay218]
  by_cases hj : j.val < 1536
  · rw [dif_pos hj]
    exact lift_p A h (tr r) (kk j) _ (fun d => vk (ix3 0 j d)) _ _ hx (hk j) hcc (hl r) (by simp only [row, key]; omega)
  · have e : (⟨1536 + (j.val - 1536), by omega⟩ : Fin 1792) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay225 vg vd (k0_pay220 vg) (k0_pay221 vg) (k0_pay222 vg) cc) (ix2 r d) = (A.w h (tr r) d : EReal) := by
  pointwise [k0_pay220, k0_pay221, k0_pay222, k0_pay223, k0_pay224, k0_pay225]
  simp only [hg, hd, hcn]
  rw [lift_sg, mul_coe, mul_coe, Arr.w]

include ho hg hd hcn in
/-- The gate's cotangent. -/
theorem dg1 (r : Fin 256) (d : Fin 128) : (k0_pay226 (k0_pay219 vo) vg vd (k0_pay220 vg) (k0_pay221 vg) (k0_pay222 vg) cc) (ix2 r d) = (A.dg h (tr r) d : EReal) := by
  pointwise [k0_pay219, k0_pay220, k0_pay221, k0_pay222, k0_pay223, k0_pay224, k0_pay226]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 1792) : (k0_pay227 (k0_pay218 (k0_pay214 vq) (k0_pay215 vq) (k0_pay216 vc) vs vk vl) (k0_pay219 vo) vg vd (k0_pay220 vg) (k0_pay221 vg) (k0_pay222 vg) cc vv) (ix2 r j) = (A.ds h (tr r) (kk j) : EReal) := by
  have hp := p1 A h hcc vq vc vs vk vl hq hc hs hk hl r j
  have hw := w1 A h vg vd cc hg hd hcn r
  pointwise [k0_pay219, k0_pay227]
  exact lift_ds A h (tr r) (kk j) _ _ (fun d => (k0_pay225 vg vd (k0_pay220 vg) (k0_pay221 vg) (k0_pay222 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay228 (k0_pay218 (k0_pay214 vq) (k0_pay215 vq) (k0_pay216 vc) vs vk vl) (k0_pay219 vo) vg vd (k0_pay220 vg) (k0_pay221 vg) (k0_pay222 vg) cc vv vk' vc' vs') (ix2 r d) = (A.dq h (tr r) d : EReal) := by
  have hds := ds1 A h hcc vq vc vs vk vl vo vg vd vv cc hq hc hs hk hl ho hg hd hv hcn r
  pointwise [k0_pay228]
  exact lift_dq A h (tr r) (fun d => ∑ j, (k0_pay227 (k0_pay218 (k0_pay214 vq) (k0_pay215 vq) (k0_pay216 vc) vs vk vl) (k0_pay219 vo) vg vd (k0_pay220 vg) (k0_pay221 vg) (k0_pay222 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x1792x128 .f32) (a : ℝ) (j : Fin 1792) (d : Fin 128) (hz : z (ix3 0 j d) = (a : EReal)) :
    (k0_pay279 (k0_pay218 (k0_pay214 vq) (k0_pay215 vq) (k0_pay216 vc) vs vk vl) (k0_pay225 vg vd (k0_pay220 vg) (k0_pay221 vg) (k0_pay222 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay279]
  exact lift_add _ (fun r => (k0_pay218 (k0_pay214 vq) (k0_pay215 vq) (k0_pay216 vc) vs vk vl) (ix2 r j)) (fun r => (k0_pay225 vg vd (k0_pay220 vg) (k0_pay221 vg) (k0_pay222 vg) cc) (ix2 r d)) a _ _ hz hp hw

include hcc hq hc hs hk hl ho hg hd hv hcn in
/-- The keys' cotangent, this block's rows added. -/
theorem dk1 (z : Vec Ideal S1x1792x256 .f32) (a : ℝ) (j : Fin 1792) (d : Fin 256) (hz : z (ix3 0 j d) = (a : EReal)) :
    (k0_pay280 (k0_pay217 (k0_pay214 vq) (k0_pay215 vq) (k0_pay216 vc) vs) (k0_pay227 (k0_pay218 (k0_pay214 vq) (k0_pay215 vq) (k0_pay216 vc) vs vk vl) (k0_pay219 vo) vg vd (k0_pay220 vg) (k0_pay221 vg) (k0_pay222 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay280]
  exact lift_add _ (fun r => (k0_pay227 (k0_pay218 (k0_pay214 vq) (k0_pay215 vq) (k0_pay216 vc) vs vk vl) (k0_pay219 vo) vg vd (k0_pay220 vg) (k0_pay221 vg) (k0_pay222 vg) cc vv) (ix2 r j)) (fun r => (k0_pay217 (k0_pay214 vq) (k0_pay215 vq) (k0_pay216 vc) vs) (ix2 r d)) a _ _ hz hds hx

end

end Cert.Att.K1792

end
-- ==== Proof.Step1792.lean ====
/-
  The grid points of query block 6: from what the point before left to what this one leaves.
-/
module

public import proofs.«01_k».proof.Proof.Block1792
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K1792

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 6) (ht : t.val - 1 < cfg0.N) (I : In m c A t g 1536 (by omega)) (S : St m c A (t.val - 1) ht g 1536)

include h S

theorem keep_k (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_G m c t (by omega) (by omega) (by omega) (by omega) (by omega) (by omega) (by omega) (by omega) (by omega) (by omega) (by omega) (by omega) (by omega) (by omega)]
  exact S.k p j d

include I

theorem keep_dv (p : Fin 2) (j : Fin 2048) (d : Fin 128) :
    (outsAt0 (F := Ideal) m c t.val t.isLt).2.2.2.2.2.2 (ix3 p j d)
      = (part (fun t => A.p (hp g p) t j * A.w (hp g p) t d) 1792 : EReal) := by
  have hN : t.val < 64 := lt_of_lt_of_eq t.isLt N_0
  rw [outsAt0_G m c t (by omega) (by omega) (by omega) (by omega) (by omega) (by omega) (by omega) (by omega) (by omega) (by omega) (by omega) (by omega) (by omega) (by omega)]
  frame_out
  simp only [read_unread_whole]
  refine planes (Val := Elt Ideal) (e := .f32) (K := 1792) (n := 128) (by omega) _ _ _ _ _ _
    (fun p j d => (part (fun t => A.p (hp g p) t j * A.w (hp g p) t d) 1792 : EReal)) (fun j d => ?_) (fun j d => ?_) (fun p j d hj => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 1536 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 1536 (by omega)).symm)
  · rw [read_unread_whole, S.dv p j d]
    exact congrArg Real.toEReal (part_dv A (hp g p) j d 1536 (by omega) hj).symm

theorem keep_dk (p : Fin 2) (j : Fin 2048) (d : Fin 256) :
    (outsAt0 (F := Ideal) m c t.val t.isLt).2.2.2.2.2.1 (ix3 p j d)
      = (part (fun t => A.ds (hp g p) t j * A.x (hp g p) t d) 1792 : EReal) := by
  have hN : t.val < 64 := lt_of_lt_of_eq t.isLt N_0
  rw [outsAt0_G m c t (by omega) (by omega) (by omega) (by omega) (by omega) (by omega) (by omega) (by omega) (by omega) (by omega) (by omega) (by omega) (by omega) (by omega)]
  frame_out
  simp only [read_unread_whole]
  refine planes (Val := Elt Ideal) (e := .f32) (K := 1792) (n := 256) (by omega) _ _ _ _ _ _
    (fun p j d => (part (fun t => A.ds (hp g p) t j * A.x (hp g p) t d) 1792 : EReal)) (fun j d => ?_) (fun j d => ?_) (fun p j d hj => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 1536 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 1536 (by omega)).symm)
  · rw [read_unread_whole, S.dk p j d]
    exact congrArg Real.toEReal (part_dk A (hp g p) j d 1536 (by omega) hj).symm

theorem out_dq (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_G m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_G m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step : St m c A t.val t.isLt g 1792 ∧ Out m c A t.val t.isLt g 1536 (by omega) :=
  ⟨⟨keep_k m c A t g h ht S, keep_dk m c A t g h ht I S, keep_dv m c A t g h ht I S⟩,
    ⟨out_dq m c A t g h ht I S, out_dg m c A t g h ht I S⟩⟩

end

end Cert.Att.K1792

end
-- ==== Proof.Block2048.lean ====
/-
  The block of 2048 keys (query block 7): what the body computes for its two heads, as real numbers.
-/
module

public import proofs.«01_k».proof.Proof.Lift
public import proofs.«01_k».proof.Proof.Gen.KernelIdeal.Skeleton

@[expose] public section

set_option maxRecDepth 16384

noncomputable section

namespace Cert.Att.K2048

open Idealize.ShloMosaic Idealize.SL.Sem Cert.KernelIdeal Cert.KernelIdeal.Gen

/-- A row of the query block. -/
abbrev tr (r : Fin 256) : Fin 2048 := row 1792 (by omega) r
/-- A key of the block. -/
abbrev kk (j : Fin 2048) : Fin 2048 := key (by omega) j

variable (A : Arr) (h : Fin 16)
  (hcc : Ideal.ofBits FTy.f32 0x3D93CD3A#32 = (A.c : EReal))

section
variable (vq : Vec Ideal S256x256 .f32) (vc vs : Vec Ideal S256x128 .f32) (vk : Vec Ideal S1x2048x256 .bf16)
  (vl : Vec Ideal S1x256x1 .f32) (vo vg vd : Vec Ideal S256x128 .f32) (vv : Vec Ideal S2048x128 .bf16)
  (vk' : Vec Ideal S1x2048x256 .bf16) (vc' vs' : Vec Ideal S256x128 .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal))

include hq hc hs in
/-- The rotated query. -/
theorem x0 (r : Fin 256) (d : Fin 256) : (k0_pay229 vq vc vs) (ix2 r d) = (A.x h (tr r) d : EReal) := by
  pointwise [k0_pay229]
  exact lift_x A h (tr r) (fun d => vq (ix2 r d)) (fun d => vc (ix2 r d)) (fun d => vs (ix2 r d)) (hq r) (hc r) (hs r) d

include hcc hq hc hs hk hl in
/-- The probabilities. -/
theorem p0 (r : Fin 256) (j : Fin 2048) : (k0_pay230 vq vc vs vk vl) (ix2 r j) = (A.p h (tr r) (kk j) : EReal) := by
  have hx := x0 A h vq vc vs hq hc hs r
  pointwise [k0_pay230]
  by_cases hj : j.val < 1792
  · rw [dif_pos hj]
    exact lift_p A h (tr r) (kk j) _ (fun d => vk (ix3 0 j d)) _ _ hx (hk j) hcc (hl r) (by simp only [row, key]; omega)
  · have e : (⟨1792 + (j.val - 1792), by omega⟩ : Fin 2048) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd in
/-- The cotangent of the output before the gate. -/
theorem w0 (r : Fin 256) (d : Fin 128) : (k0_pay236 vg vd (k0_pay232 vg) k0_pay233) (ix2 r d) = (A.w h (tr r) d : EReal) := by
  pointwise [k0_pay232, k0_pay233, k0_pay234, k0_pay235, k0_pay236]
  simp only [hg, hd]
  rw [lift_sg, mul_coe, mul_coe, Arr.w]

include ho hg hd in
/-- The gate's cotangent. -/
theorem dg0 (r : Fin 256) (d : Fin 128) : (k0_pay237 (k0_pay231 vo) vg vd (k0_pay232 vg) k0_pay233) (ix2 r d) = (A.dg h (tr r) d : EReal) := by
  pointwise [k0_pay231, k0_pay232, k0_pay233, k0_pay234, k0_pay235, k0_pay237]
  simp only [hg, hd, ho]
  rw [lift_sg, one_coe, sub_coe, mul_coe, mul_coe, mul_coe, add_coe, mul_coe, Arr.dg]

include hcc hq hc hs hk hl ho hg hd hv in
/-- The scores' cotangent. -/
theorem ds0 (r : Fin 256) (j : Fin 2048) : (k0_pay238 (k0_pay230 vq vc vs vk vl) (k0_pay231 vo) vg vd (k0_pay232 vg) k0_pay233 vv) (ix2 r j) = (A.ds h (tr r) (kk j) : EReal) := by
  have hp := p0 A h hcc vq vc vs vk vl hq hc hs hk hl r j
  have hw := w0 A h vg vd hg hd r
  pointwise [k0_pay231, k0_pay238]
  exact lift_ds A h (tr r) (kk j) _ _ (fun d => (k0_pay236 vg vd (k0_pay232 vg) k0_pay233) (ix2 r d)) (fun d => vv (ix2 j d)) (fun d => vo (ix2 r d))
    hp hw (hv j) (ho r) hcc

include hcc hq hc hs hk hl ho hg hd hv hk' hc' hs' in
/-- The query's cotangent. -/
theorem dq0 (r : Fin 256) (d : Fin 256) :
    (k0_pay243 (k0_pay240 (k0_pay230 vq vc vs vk vl) (k0_pay231 vo) vg vd (k0_pay232 vg) k0_pay233 vv vk') (k0_pay241 (k0_pay230 vq vc vs vk vl) (k0_pay231 vo) vg vd (k0_pay232 vg) k0_pay233 vv vk') (k0_pay242 vc') vs') (ix2 r d) = (A.dq h (tr r) d : EReal) := by
  have hds := ds0 A h hcc vq vc vs vk vl vo vg vd vv hq hc hs hk hl ho hg hd hv r
  pointwise [k0_pay239, k0_pay240, k0_pay241, k0_pay242, k0_pay243]
  exact lift_dq A h (tr r) (fun d => ∑ j, (k0_pay238 (k0_pay230 vq vc vs vk vl) (k0_pay231 vo) vg vd (k0_pay232 vg) k0_pay233 vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd in
/-- The values' cotangent, this block's rows added. -/
theorem dv0 (z : Vec Ideal S1x2048x128 .f32) (a : ℝ) (j : Fin 2048) (d : Fin 128) (hz : z (ix3 0 j d) = (a : EReal)) :
    (k0_pay244 (k0_pay230 vq vc vs vk vl) (k0_pay236 vg vd (k0_pay232 vg) k0_pay233) z) (ix3 0 j d)
      = ((a + ∑ r, A.p h (tr r) (kk j) * A.w h (tr r) d : ℝ) : EReal) := by
  have hp := fun r => p0 A h hcc vq vc vs vk vl hq hc hs hk hl r j
  have hw := fun r => w0 A h vg vd hg hd r d
  pointwise [k0_pay244]
  exact lift_add _ (fun r => (k0_pay230 vq vc vs vk vl) (ix2 r j)) (fun r => (k0_pay236 vg vd (k0_pay232 vg) k0_pay233) (ix2 r d)) a _ _ hz hp hw

include hcc hq hc hs hk hl ho hg hd hv in
/-- The keys' cotangent, this block's rows added. -/
theorem dk0 (z : Vec Ideal S1x2048x256 .f32) (a : ℝ) (j : Fin 2048) (d : Fin 256) (hz : z (ix3 0 j d) = (a : EReal)) :
    (k0_pay245 (k0_pay229 vq vc vs) (k0_pay238 (k0_pay230 vq vc vs vk vl) (k0_pay231 vo) vg vd (k0_pay232 vg) k0_pay233 vv) z) (ix3 0 j d)
      = ((a + ∑ r, A.ds h (tr r) (kk j) * A.x h (tr r) d : ℝ) : EReal) := by
  have hds := fun r => ds0 A h hcc vq vc vs vk vl vo vg vd vv hq hc hs hk hl ho hg hd hv r j
  have hx := fun r => x0 A h vq vc vs hq hc hs r d
  pointwise [k0_pay245]
  exact lift_add _ (fun r => (k0_pay238 (k0_pay230 vq vc vs vk vl) (k0_pay231 vo) vg vd (k0_pay232 vg) k0_pay233 vv) (ix2 r j)) (fun r => (k0_pay229 vq vc vs) (ix2 r d)) a _ _ hz hds hx

end

section
variable (vq : Vec Ideal S256x256 .f32) (vc vs : Vec Ideal S256x128 .f32) (vk : Vec Ideal S1x2048x256 .bf16)
  (vl : Vec Ideal S1x256x1 .f32) (vo vg vd : Vec Ideal S256x128 .f32) (vv : Vec Ideal S2048x128 .bf16)
  (vk' : Vec Ideal S1x2048x256 .bf16) (vc' vs' : Vec Ideal S256x128 .f32) (cc : Ideal .f32)
  (hq : ∀ r d, vq (ix2 r d) = (A.q (tr r) (lane4 h d) : EReal))
  (hc : ∀ r d, vc (ix2 r d) = (A.cosT (tr r) d : EReal)) (hs : ∀ r d, vs (ix2 r d) = (A.sinT (tr r) d : EReal))
  (hk : ∀ j d, vk (ix3 0 j d) = (A.y h (kk j) d : EReal)) (hl : ∀ r, vl (ix3 0 r 0) = (A.lse h (tr r) : EReal))
  (ho : ∀ r d, vo (ix2 r d) = (A.o h (tr r) d : EReal))
  (hg : ∀ r d, vg (ix2 r d) = (A.gate (tr r) (lane2 h d) : EReal))
  (hd : ∀ r d, vd (ix2 r d) = (A.dog (tr r) (lane2 h d) : EReal))
  (hv : ∀ j d, vv (ix2 j d) = (A.v h (kk j) d : EReal)) (hk' : ∀ j d, vk' (ix3 0 j d) = (A.y h (kk j) d : EReal))
  (hc' : ∀ r d, vc' (ix2 r d) = (A.cosT (tr r) d : EReal)) (hs' : ∀ r d, vs' (ix2 r d) = (A.sinT (tr r) d : EReal)) (hcn : cc = (1 : EReal))

include hq hc hs in
/-- The rotated query. -/
theorem x1 (r : Fin 256) (d : Fin 256) : (k0_pay249 (k0_pay246 vq) (k0_pay247 vq) (k0_pay248 vc) vs) (ix2 r d) = (A.x h (tr r) d : EReal) := by
  pointwise [k0_pay246, k0_pay247, k0_pay248, k0_pay249]
  exact lift_x A h (tr r) (fun d => vq (ix2 r d)) (fun d => vc (ix2 r d)) (fun d => vs (ix2 r d)) (hq r) (hc r) (hs r) d

include hcc hq hc hs hk hl in
/-- The probabilities. -/
theorem p1 (r : Fin 256) (j : Fin 2048) : (k0_pay250 (k0_pay246 vq) (k0_pay247 vq) (k0_pay248 vc) vs vk vl) (ix2 r j) = (A.p h (tr r) (kk j) : EReal) := by
  have hx := x1 A h vq vc vs hq hc hs r
  pointwise [k0_pay250]
  by_cases hj : j.val < 1792
  · rw [dif_pos hj]
    exact lift_p A h (tr r) (kk j) _ (fun d => vk (ix3 0 j d)) _ _ hx (hk j) hcc (hl r) (by simp only [row, key]; omega)
  · have e : (⟨1792 + (j.val - 1792), by omega⟩ : Fin 2048) = j := Fin.ext (by dsimp only; omega)
    rw [dif_neg hj, e, select_sle _ _ (by omega) (by omega)]
    split_ifs with hm
    · exact lift_p A h (tr r) (kk j) _ (fun d => vk (ix3 0 j d)) _ _ hx (hk j) hcc (hl r) (by simp only [row, key]; omega)
    · rw [A.p_zero h (tr r) (kk j) (by simp only [row, key]; omega)]; rfl

include hg hd hcn in
/-- The cotangent of the output before the gate. -/
theorem w1 (r : Fin 256) (d : Fin 128) : (k0_pay257 vg vd (k0_pay252 vg) (k0_pay253 vg) (k0_pay254 vg) cc) (ix2 r d) = (A.w h (tr r) d : EReal) := by
  pointwise [k0_pay252, k0_pay253, k0_pay254, k0_pay255, k0_pay256, k0_pay257]
  simp only [hg, hd, hcn]
  rw [lift_sg, mul_coe, mul_coe, Arr.w]

include ho hg hd hcn in
/-- The gate's cotangent. -/
theorem dg1 (r : Fin 256) (d : Fin 128) : (k0_pay258 (k0_pay251 vo) vg vd (k0_pay252 vg) (k0_pay253 vg) (k0_pay254 vg) cc) (ix2 r d) = (A.dg h (tr r) d : EReal) := by
  pointwise [k0_pay251, k0_pay252, k0_pay253, k0_pay254, k0_pay255, k0_pay256, k0_pay258]
  simp only [hg, hd, ho, hcn]
  rw [lift_sg, one_coe, sub_coe, mul_coe, mul_coe, mul_coe, add_coe, mul_coe, Arr.dg]

include hcc hq hc hs hk hl ho hg hd hv hcn in
/-- The scores' cotangent. -/
theorem ds1 (r : Fin 256) (j : Fin 2048) : (k0_pay259 (k0_pay250 (k0_pay246 vq) (k0_pay247 vq) (k0_pay248 vc) vs vk vl) (k0_pay251 vo) vg vd (k0_pay252 vg) (k0_pay253 vg) (k0_pay254 vg) cc vv) (ix2 r j) = (A.ds h (tr r) (kk j) : EReal) := by
  have hp := p1 A h hcc vq vc vs vk vl hq hc hs hk hl r j
  have hw := w1 A h vg vd cc hg hd hcn r
  pointwise [k0_pay251, k0_pay259]
  exact lift_ds A h (tr r) (kk j) _ _ (fun d => (k0_pay257 vg vd (k0_pay252 vg) (k0_pay253 vg) (k0_pay254 vg) cc) (ix2 r d)) (fun d => vv (ix2 j d)) (fun d => vo (ix2 r d))
    hp hw (hv j) (ho r) hcc

include hcc hq hc hs hk hl ho hg hd hv hk' hc' hs' hcn in
/-- The query's cotangent. -/
theorem dq1 (r : Fin 256) (d : Fin 256) :
    (k0_pay260 (k0_pay250 (k0_pay246 vq) (k0_pay247 vq) (k0_pay248 vc) vs vk vl) (k0_pay251 vo) vg vd (k0_pay252 vg) (k0_pay253 vg) (k0_pay254 vg) cc vv vk' vc' vs') (ix2 r d) = (A.dq h (tr r) d : EReal) := by
  have hds := ds1 A h hcc vq vc vs vk vl vo vg vd vv cc hq hc hs hk hl ho hg hd hv hcn r
  pointwise [k0_pay260]
  exact lift_dq A h (tr r) (fun d => ∑ j, (k0_pay259 (k0_pay250 (k0_pay246 vq) (k0_pay247 vq) (k0_pay248 vc) vs vk vl) (k0_pay251 vo) vg vd (k0_pay252 vg) (k0_pay253 vg) (k0_pay254 vg) cc vv) (ix2 r j) * vk' (ix3 0 j d)) (fun d => vc' (ix2 r d)) (fun d => vs' (ix2 r d))
    (fun d => lift_dx A h (tr r) d (by omega) (by simp only [row]; omega) _ _ hds (fun j => hk' j d)) (hc' r) (hs' r) d

include hcc hq hc hs hk hl hg hd hcn in
/-- The values' cotangent, this block's rows added. -/
theorem dv1 (z : Vec Ideal S1x2048x128 .f32) (a : ℝ) (j : Fin 2048) (d : Fin 128) (hz : z (ix3 0 j d) = (a : EReal)) :
    (k0_pay1 (k0_pay250 (k0_pay246 vq) (k0_pay247 vq) (k0_pay248 vc) vs vk vl) (k0_pay257 vg vd (k0_pay252 vg) (k0_pay253 vg) (k0_pay254 vg) cc) z) (ix3 0 j d)
      = ((a + ∑ r, A.p h (tr r) (kk j) * A.w h (tr r) d : ℝ) : EReal) := by
  have hp := fun r => p1 A h hcc vq vc vs vk vl hq hc hs hk hl r j
  have hw := fun r => w1 A h vg vd cc hg hd hcn r d
  pointwise [k0_pay1]
  exact lift_add _ (fun r => (k0_pay250 (k0_pay246 vq) (k0_pay247 vq) (k0_pay248 vc) vs vk vl) (ix2 r j)) (fun r => (k0_pay257 vg vd (k0_pay252 vg) (k0_pay253 vg) (k0_pay254 vg) cc) (ix2 r d)) a _ _ hz hp hw

include hcc hq hc hs hk hl ho hg hd hv hcn in
/-- The keys' cotangent, this block's rows added. -/
theorem dk1 (z : Vec Ideal S1x2048x256 .f32) (a : ℝ) (j : Fin 2048) (d : Fin 256) (hz : z (ix3 0 j d) = (a : EReal)) :
    (k0_pay2 (k0_pay249 (k0_pay246 vq) (k0_pay247 vq) (k0_pay248 vc) vs) (k0_pay259 (k0_pay250 (k0_pay246 vq) (k0_pay247 vq) (k0_pay248 vc) vs vk vl) (k0_pay251 vo) vg vd (k0_pay252 vg) (k0_pay253 vg) (k0_pay254 vg) cc vv) z) (ix3 0 j d)
      = ((a + ∑ r, A.ds h (tr r) (kk j) * A.x h (tr r) d : ℝ) : EReal) := by
  have hds := fun r => ds1 A h hcc vq vc vs vk vl vo vg vd vv cc hq hc hs hk hl ho hg hd hv hcn r j
  have hx := fun r => x1 A h vq vc vs hq hc hs r d
  pointwise [k0_pay2]
  exact lift_add _ (fun r => (k0_pay259 (k0_pay250 (k0_pay246 vq) (k0_pay247 vq) (k0_pay248 vc) vs vk vl) (k0_pay251 vo) vg vd (k0_pay252 vg) (k0_pay253 vg) (k0_pay254 vg) cc vv) (ix2 r j)) (fun r => (k0_pay249 (k0_pay246 vq) (k0_pay247 vq) (k0_pay248 vc) vs) (ix2 r d)) a _ _ hz hds hx

end

end Cert.Att.K2048

end
-- ==== Proof.Step2048.lean ====
/-
  The grid points of query block 7: from what the point before left to what this one leaves.
-/
module

public import proofs.«01_k».proof.Proof.Block2048
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K2048

open Idealize.ShloMosaic Idealize.SL.Sem Cert.KernelIdeal Cert.KernelIdeal.Gen Idealize.ShloMosaic.TcCoe

variable (m : (ℓ : Loc nD τ sig) → Buf (Elt Ideal) ℓ) (c : Dev nD) (A : Arr) (t : Fin cfg0.N) (g : Fin 8)

section
variable (h : t.val % 8 = 7) (h' : t.val % 64 = 7) (ht : t.val - 1 < cfg0.N) (I : In m c A t g 1792 (le_refl 1792)) (S : St m c A (t.val - 1) ht g 1792)

include h h' S

theorem keep_k_H (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  exact S.k p j d

include I

theorem keep_dv_H (p : Fin 2) (j : Fin 2048) (d : Fin 128) :
    (outsAt0 (F := Ideal) m c t.val t.isLt).2.2.2.2.2.2 (ix3 p j d)
      = (part (fun t => A.p (hp g p) t j * A.w (hp g p) t d) 2048 : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_out
  simp only [read_unread_whole]
  refine whole_planes (Val := Elt Ideal) (e := .f32) (K := 2048) (n := 128) _ _ _ _
    (fun p j d => (part (fun t => A.p (hp g p) t j * A.w (hp g p) t d) 2048 : EReal)) (fun j d => ?_) (fun j d => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 1792 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 1792 (by omega)).symm)

theorem keep_dk_H (p : Fin 2) (j : Fin 2048) (d : Fin 256) :
    (outsAt0 (F := Ideal) m c t.val t.isLt).2.2.2.2.2.1 (ix3 p j d)
      = (part (fun t => A.ds (hp g p) t j * A.x (hp g p) t d) 2048 : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_out
  simp only [read_unread_whole]
  refine whole_planes (Val := Elt Ideal) (e := .f32) (K := 2048) (n := 256) _ _ _ _
    (fun p j d => (part (fun t => A.ds (hp g p) t j * A.x (hp g p) t d) 2048 : EReal)) (fun j d => ?_) (fun j d => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 1792 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 1792 (by omega)).symm)

theorem out_dq_H (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg_H (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step_H : St m c A t.val t.isLt g 2048 ∧ Out m c A t.val t.isLt g 1792 (le_refl 1792) :=
  ⟨⟨keep_k_H m c A t g h h' ht S, keep_dk_H m c A t g h h' ht I S, keep_dv_H m c A t g h h' ht I S⟩,
    ⟨out_dq_H m c A t g h h' ht I S, out_dg_H m c A t g h h' ht I S⟩⟩

end

section
variable (h : t.val % 8 = 7) (h' : ¬ t.val % 64 = 7) (ht : t.val - 1 < cfg0.N) (I : In m c A t g 1792 (le_refl 1792)) (S : St m c A (t.val - 1) ht g 1792)

include h h' S

theorem keep_k_I (p : Fin 2) (j : Fin 2048) (d : Fin 256) :
    (outsAt0 (F := Ideal) m c t.val t.isLt).2.2.2.2.1 (ix3 p j d) = (A.y (hp g p) j d : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  exact S.k p j d

include I

theorem keep_dv_I (p : Fin 2) (j : Fin 2048) (d : Fin 128) :
    (outsAt0 (F := Ideal) m c t.val t.isLt).2.2.2.2.2.2 (ix3 p j d)
      = (part (fun t => A.p (hp g p) t j * A.w (hp g p) t d) 2048 : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_out
  simp only [read_unread_whole]
  refine whole_planes (Val := Elt Ideal) (e := .f32) (K := 2048) (n := 128) _ _ _ _
    (fun p j d => (part (fun t => A.p (hp g p) t j * A.w (hp g p) t d) 2048 : EReal)) (fun j d => ?_) (fun j d => ?_) p j d
  · exact (dv0 A (h0 g) I.cc _ _ _ _ _ _ _ (I.q0 _) I.cs I.sn (S.k0 _ _) (I.l0 _) (I.g0 _) (I.d0 _) _ _ j d (S.dv0 _ _ j d)).trans
      (congrArg Real.toEReal (part_step (fun t => A.p (h0 g) t (kk j) * A.w (h0 g) t d) 1792 (by omega)).symm)
  · exact (dv1 A (h1 g) I.cc _ _ _ _ _ _ _ _ (I.q1 _) I.cs I.sn (S.k1 _ _) (I.l1 _) (I.g1 _) (I.d1 _) Ideal.ofBits_one_f32 _ _ j d (S.dv1 _ _ j d)).trans
      (congrArg Real.toEReal (part_step (fun t => A.p (h1 g) t (kk j) * A.w (h1 g) t d) 1792 (by omega)).symm)

theorem keep_dk_I (p : Fin 2) (j : Fin 2048) (d : Fin 256) :
    (outsAt0 (F := Ideal) m c t.val t.isLt).2.2.2.2.2.1 (ix3 p j d)
      = (part (fun t => A.ds (hp g p) t j * A.x (hp g p) t d) 2048 : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_out
  simp only [read_unread_whole]
  refine whole_planes (Val := Elt Ideal) (e := .f32) (K := 2048) (n := 256) _ _ _ _
    (fun p j d => (part (fun t => A.ds (hp g p) t j * A.x (hp g p) t d) 2048 : EReal)) (fun j d => ?_) (fun j d => ?_) p j d
  · exact (dk0 A (h0 g) I.cc _ _ _ _ _ _ _ _ _ (I.q0 _) I.cs I.sn (S.k0 _ _) (I.l0 _) (I.o0 _) (I.g0 _) (I.d0 _) (I.v0 _ _) _ _ j d (S.dk0 _ _ j d)).trans
      (congrArg Real.toEReal (part_step (fun t => A.ds (h0 g) t (kk j) * A.x (h0 g) t d) 1792 (by omega)).symm)
  · exact (dk1 A (h1 g) I.cc _ _ _ _ _ _ _ _ _ _ (I.q1 _) I.cs I.sn (S.k1 _ _) (I.l1 _) (I.o1 _) (I.g1 _) (I.d1 _) (I.v1 _ _) Ideal.ofBits_one_f32 _ _ j d (S.dk1 _ _ j d)).trans
      (congrArg Real.toEReal (part_step (fun t => A.ds (h1 g) t (kk j) * A.x (h1 g) t d) 1792 (by omega)).symm)

theorem out_dq_I (p : Fin 2) (r : Fin 256) (d : Fin 256) :
    (outsAt0 (F := Ideal) m c t.val t.isLt).1 (ix2 r ⟨256 * p.val + d.val, by omega⟩) = (A.dq (hp g p) (tr r) d : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_out
  simp only [read_unread_whole]
  refine tiles (Val := Elt Ideal) (e := .f32) (R := 256) (n := 256) (N := 512) rfl _ _ _ _ (fun p r d => (A.dq (hp g p) (tr r) d : EReal)) (fun r d => ?_) (fun r d => ?_) p r d _ rfl
  · exact dq0 A (h0 g) I.cc _ _ _ _ _ _ _ _ _ _ _ _ (I.q0 _) I.cs I.sn (S.k0 _ _) (I.l0 _) (I.o0 _) (I.g0 _) (I.d0 _) (I.v0 _ _) (S.k0 _ _) I.cs I.sn r d
  · exact dq1 A (h1 g) I.cc _ _ _ _ _ _ _ _ _ _ _ _ _ (I.q1 _) I.cs I.sn (S.k1 _ _) (I.l1 _) (I.o1 _) (I.g1 _) (I.d1 _) (I.v1 _ _) (S.k1 _ _) I.cs I.sn Ideal.ofBits_one_f32 r d

theorem out_dg_I (p : Fin 2) (r : Fin 256) (d : Fin 128) :
    (outsAt0 (F := Ideal) m c t.val t.isLt).2.2.2.1 (ix2 r ⟨128 * p.val + d.val, by omega⟩) = (A.dg (hp g p) (tr r) d : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_out
  try simp only [read_unread_whole]
  refine tiles (Val := Elt Ideal) (e := .f32) (R := 256) (n := 128) (N := 256) rfl _ _ _ _ (fun p r d => (A.dg (hp g p) (tr r) d : EReal)) (fun r d => ?_) (fun r d => ?_) p r d _ rfl
  · exact dg0 A (h0 g) _ _ _ (I.o0 _) (I.g0 _) (I.d0 _) r d
  · exact dg1 A (h1 g) _ _ _ _ (I.o1 _) (I.g1 _) (I.d1 _) Ideal.ofBits_one_f32 r d

/-- The point's step. -/
theorem step_I : St m c A t.val t.isLt g 2048 ∧ Out m c A t.val t.isLt g 1792 (le_refl 1792) :=
  ⟨⟨keep_k_I m c A t g h h' ht S, keep_dk_I m c A t g h h' ht I S, keep_dv_I m c A t g h h' ht I S⟩,
    ⟨out_dq_I m c A t g h h' ht I S, out_dg_I m c A t g h h' ht I S⟩⟩

end

end Cert.Att.K2048

end
-- ==== Proof.Last.lean ====
/-
  The last grid point of a head pair: the keys' and values' cotangents it stores, and what it adds to the shared lanes'.
-/
module

public import proofs.«01_k».proof.Proof.Block2048
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att.K2048

open Idealize.ShloMosaic Idealize.SL.Sem Cert.KernelIdeal Cert.KernelIdeal.Gen Idealize.ShloMosaic.TcCoe

/-- Own lanes of the keys' cotangents beside the values' cotangents. -/
theorem cat0 (x y : Vec Ideal S1x2048x128 .f32) (r : Fin 2048) (d : Fin 256) :
    k0_pay3 (F := Ideal) x y (ix2 r d) = if h : d.val < 128 then x (ix3 0 r ⟨d.val, h⟩) else y (ix3 0 r ⟨d.val - 128, by omega⟩) := by
  pointwise [k0_pay3]

theorem cat0_lo (x y : Vec Ideal S1x2048x128 .f32) (r : Fin 2048) (d : Fin 256) (h : d.val < 128) :
    k0_pay3 (F := Ideal) x y (ix2 r d) = x (ix3 0 r ⟨d.val, h⟩) := (cat0 x y r d).trans (dif_pos h)

theorem cat0_hi (x y : Vec Ideal S1x2048x128 .f32) (r : Fin 2048) (d : Fin 256) (h : ¬ d.val < 128) :
    k0_pay3 (F := Ideal) x y (ix2 r d) = y (ix3 0 r (dn d)) := by
  have e : (⟨d.val - 128, by omega⟩ : Fin 128) = dn d := Fin.ext (by simp only [dn]; omega)
  exact ((cat0 x y r d).trans (dif_neg h)).trans (congrArg (fun l => y (ix3 0 r l)) e)

theorem cat1 (x y : Vec Ideal S1x2048x128 .f32) (r : Fin 2048) (d : Fin 256) :
    k0_pay4 (F := Ideal) x y (ix2 r d) = if h : d.val < 128 then x (ix3 0 r ⟨d.val, h⟩) else y (ix3 0 r ⟨d.val - 128, by omega⟩) := by
  pointwise [k0_pay4]

theorem cat1_lo (x y : Vec Ideal S1x2048x128 .f32) (r : Fin 2048) (d : Fin 256) (h : d.val < 128) :
    k0_pay4 (F := Ideal) x y (ix2 r d) = x (ix3 0 r ⟨d.val, h⟩) := (cat1 x y r d).trans (dif_pos h)

theorem cat1_hi (x y : Vec Ideal S1x2048x128 .f32) (r : Fin 2048) (d : Fin 256) (h : ¬ d.val < 128) :
    k0_pay4 (F := Ideal) x y (ix2 r d) = y (ix3 0 r (dn d)) := by
  have e : (⟨d.val - 128, by omega⟩ : Fin 128) = dn d := Fin.ext (by simp only [dn]; omega)
  exact ((cat1 x y r d).trans (dif_neg h)).trans (congrArg (fun l => y (ix3 0 r l)) e)

/-- The two heads' shared lanes added. -/
theorem both (x y : Vec Ideal S1x2048x128 .f32) (r : Fin 2048) (d : Fin 128) :
    k0_pay7 (F := Ideal) (k0_pay5 x) y (ix2 r d) = x (ix3 0 r d) + y (ix3 0 r d) := by
  pointwise [k0_pay7, k0_pay5]

theorem both_more (z : Vec Ideal S2048x128 .f32) (x y : Vec Ideal S1x2048x128 .f32) (r : Fin 2048) (d : Fin 128) :
    k0_pay7 (F := Ideal) (k0_pay6 z x) y (ix2 r d) = z (ix2 r d) + x (ix3 0 r d) + y (ix3 0 r d) := by
  pointwise [k0_pay7, k0_pay6]

variable (m : (ℓ : Loc nD τ sig) → Buf (Elt Ideal) ℓ) (c : Dev nD) (A : Arr) (t : Fin cfg0.N) (g : Fin 8)

/-- A head's keys' or values' cotangent at lane `d` of its four. -/
def kvT (A : Arr) (h : Fin 16) (r : Fin 2048) (d : Fin 256) : ℝ :=
  if d.val < 128 then A.dy h r d else A.dv h r (dn d)

theorem kvT_lo (A : Arr) (h : Fin 16) (r : Fin 2048) (d : Fin 256) (hd : d.val < 128) : (kvT A h r d : EReal) = (A.dy h r d : EReal) :=
  congrArg Real.toEReal (if_pos hd)

theorem kvT_hi (A : Arr) (h : Fin 16) (r : Fin 2048) (d : Fin 256) (hd : ¬ d.val < 128) : (kvT A h r d : EReal) = (A.dv h r (dn d) : EReal) :=
  congrArg Real.toEReal (if_neg hd)

section
variable (h : t.val % 8 = 7) (h' : t.val % 64 = 7) (ht : t.val - 1 < cfg0.N) (I : In m c A t g 1792 (le_refl 1792)) (S : St m c A (t.val - 1) ht g 1792)

include h h' S I

theorem out_dkv_H (p : Fin 2) (r : Fin 2048) (d : Fin 256) :
    (outsAt0 (F := Ideal) m c t.val t.isLt).2.1 (ix2 r ⟨256 * p.val + d.val, by omega⟩) = (kvT A (hp g p) r d : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  simp only [read_unread_whole]
  refine tiles (Val := Elt Ideal) (e := .bf16) (R := 2048) (n := 256) (N := 512) rfl _ _ _ _ (fun p r d => (kvT A (hp g p) r d : EReal)) (fun r d => ?_) (fun r d => ?_) p r d _ rfl
  · by_cases hd : d.val < 128
    · refine ((cat0_lo _ _ r d hd).trans ?_).trans (kvT_lo A _ r d hd).symm
      refine (cov3 (Val := Elt Ideal) (e := .f32) _ _ _ 0 r ⟨d.val, hd⟩ 0 r d rfl (by omega) (by dsimp only; omega)).trans ?_
      refine (canon3_mem (Val := Elt Ideal) (e := .f32) _ _ _ 0 r d 0 r d rfl (by omega) (by omega)).trans ?_
      exact ((dk0 A (h0 g) I.cc _ _ _ _ _ _ _ _ _ (I.q0 _) I.cs I.sn (S.k0 _ _) (I.l0 _) (I.o0 _) (I.g0 _) (I.d0 _) (I.v0 _ _) _ _ r d (S.dk0 _ _ r d)).trans
      (congrArg Real.toEReal ((part_step (fun t => A.ds (h0 g) t (kk r) * A.x (h0 g) t d) 1792 (by omega)).symm.trans (part_all _))))
    · refine ((cat0_hi _ _ r d hd).trans ?_).trans (kvT_hi A _ r d hd).symm
      exact (dv0 A (h0 g) I.cc _ _ _ _ _ _ _ (I.q0 _) I.cs I.sn (S.k0 _ _) (I.l0 _) (I.g0 _) (I.d0 _) _ _ r (dn d) (S.dv0 _ _ r (dn d))).trans
        (congrArg Real.toEReal ((part_step (fun t => A.p (h0 g) t (kk r) * A.w (h0 g) t (dn d)) 1792 (by omega)).symm.trans (part_all _)))
  · by_cases hd : d.val < 128
    · refine ((cat1_lo _ _ r d hd).trans ?_).trans (kvT_lo A _ r d hd).symm
      refine (cov3 (Val := Elt Ideal) (e := .f32) _ _ _ 0 r ⟨d.val, hd⟩ 1 r d rfl (by omega) (by dsimp only; omega)).trans ?_
      refine (canon3_mem (Val := Elt Ideal) (e := .f32) _ _ _ 0 r d 1 r d rfl (by omega) (by omega)).trans ?_
      exact ((dk1 A (h1 g) I.cc _ _ _ _ _ _ _ _ _ _ (I.q1 _) I.cs I.sn (S.k1 _ _) (I.l1 _) (I.o1 _) (I.g1 _) (I.d1 _) (I.v1 _ _) Ideal.ofBits_one_f32 _ _ r d (S.dk1 _ _ r d)).trans
      (congrArg Real.toEReal ((part_step (fun t => A.ds (h1 g) t (kk r) * A.x (h1 g) t d) 1792 (by omega)).symm.trans (part_all _))))
    · refine ((cat1_hi _ _ r d hd).trans ?_).trans (kvT_hi A _ r d hd).symm
      exact (dv1 A (h1 g) I.cc _ _ _ _ _ _ _ _ (I.q1 _) I.cs I.sn (S.k1 _ _) (I.l1 _) (I.g1 _) (I.d1 _) Ideal.ofBits_one_f32 _ _ r (dn d) (S.dv1 _ _ r (dn d))).trans
        (congrArg Real.toEReal ((part_step (fun t => A.p (h1 g) t (kk r) * A.w (h1 g) t (dn d)) 1792 (by omega)).symm.trans (part_all _)))

theorem out_dkp_H (r : Fin 2048) (d : Fin 128) :
    (outsAt0 (F := Ideal) m c t.val t.isLt).2.2.1 (ix2 r d) = ((A.dy (h0 g) r (up d) + A.dy (h1 g) r (up d) : ℝ) : EReal) := by
  have hN : t.val < 64 := lt_of_lt_of_eq t.isLt N_0
  rw [outsAt0_H m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  simp only [read_unread_whole]
  refine (both _ _ r d).trans ?_
  rw [EReal.coe_add]
  refine congrArg₂ (· + ·) ?_ ?_
  · refine (cov3 (Val := Elt Ideal) (e := .f32) _ _ _ 0 r d 0 r (up d) rfl (by omega) (by simp only [up])).trans ?_
    refine (canon3_mem (Val := Elt Ideal) (e := .f32) _ _ _ 0 r (up d) 0 r (up d) rfl (by omega) (by omega)).trans ?_
    exact ((dk0 A (h0 g) I.cc _ _ _ _ _ _ _ _ _ (I.q0 _) I.cs I.sn (S.k0 _ _) (I.l0 _) (I.o0 _) (I.g0 _) (I.d0 _) (I.v0 _ _) _ _ r (up d) (S.dk0 _ _ r (up d))).trans
      (congrArg Real.toEReal ((part_step (fun t => A.ds (h0 g) t (kk r) * A.x (h0 g) t (up d)) 1792 (by omega)).symm.trans (part_all _))))
  · refine (cov3 (Val := Elt Ideal) (e := .f32) _ _ _ 0 r d 1 r (up d) rfl (by omega) (by simp only [up])).trans ?_
    refine (canon3_mem (Val := Elt Ideal) (e := .f32) _ _ _ 0 r (up d) 1 r (up d) rfl (by omega) (by omega)).trans ?_
    exact ((dk1 A (h1 g) I.cc _ _ _ _ _ _ _ _ _ _ (I.q1 _) I.cs I.sn (S.k1 _ _) (I.l1 _) (I.o1 _) (I.g1 _) (I.d1 _) (I.v1 _ _) Ideal.ofBits_one_f32 _ _ r (up d) (S.dk1 _ _ r (up d))).trans
      (congrArg Real.toEReal ((part_step (fun t => A.ds (h1 g) t (kk r) * A.x (h1 g) t (up d)) 1792 (by omega)).symm.trans (part_all _))))

end

section
variable (h : t.val % 8 = 7) (h' : ¬ t.val % 64 = 7) (ht : t.val - 1 < cfg0.N) (I : In m c A t g 1792 (le_refl 1792)) (S : St m c A (t.val - 1) ht g 1792)

include h h' S I

theorem out_dkv_I (p : Fin 2) (r : Fin 2048) (d : Fin 256) :
    (outsAt0 (F := Ideal) m c t.val t.isLt).2.1 (ix2 r ⟨256 * p.val + d.val, by omega⟩) = (kvT A (hp g p) r d : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  simp only [read_unread_whole]
  refine tiles (Val := Elt Ideal) (e := .bf16) (R := 2048) (n := 256) (N := 512) rfl _ _ _ _ (fun p r d => (kvT A (hp g p) r d : EReal)) (fun r d => ?_) (fun r d => ?_) p r d _ rfl
  · by_cases hd : d.val < 128
    · refine ((cat0_lo _ _ r d hd).trans ?_).trans (kvT_lo A _ r d hd).symm
      refine (cov3 (Val := Elt Ideal) (e := .f32) _ _ _ 0 r ⟨d.val, hd⟩ 0 r d rfl (by omega) (by dsimp only; omega)).trans ?_
      refine (canon3_mem (Val := Elt Ideal) (e := .f32) _ _ _ 0 r d 0 r d rfl (by omega) (by omega)).trans ?_
      exact ((dk0 A (h0 g) I.cc _ _ _ _ _ _ _ _ _ (I.q0 _) I.cs I.sn (S.k0 _ _) (I.l0 _) (I.o0 _) (I.g0 _) (I.d0 _) (I.v0 _ _) _ _ r d (S.dk0 _ _ r d)).trans
      (congrArg Real.toEReal ((part_step (fun t => A.ds (h0 g) t (kk r) * A.x (h0 g) t d) 1792 (by omega)).symm.trans (part_all _))))
    · refine ((cat0_hi _ _ r d hd).trans ?_).trans (kvT_hi A _ r d hd).symm
      exact (dv0 A (h0 g) I.cc _ _ _ _ _ _ _ (I.q0 _) I.cs I.sn (S.k0 _ _) (I.l0 _) (I.g0 _) (I.d0 _) _ _ r (dn d) (S.dv0 _ _ r (dn d))).trans
        (congrArg Real.toEReal ((part_step (fun t => A.p (h0 g) t (kk r) * A.w (h0 g) t (dn d)) 1792 (by omega)).symm.trans (part_all _)))
  · by_cases hd : d.val < 128
    · refine ((cat1_lo _ _ r d hd).trans ?_).trans (kvT_lo A _ r d hd).symm
      refine (cov3 (Val := Elt Ideal) (e := .f32) _ _ _ 0 r ⟨d.val, hd⟩ 1 r d rfl (by omega) (by dsimp only; omega)).trans ?_
      refine (canon3_mem (Val := Elt Ideal) (e := .f32) _ _ _ 0 r d 1 r d rfl (by omega) (by omega)).trans ?_
      exact ((dk1 A (h1 g) I.cc _ _ _ _ _ _ _ _ _ _ (I.q1 _) I.cs I.sn (S.k1 _ _) (I.l1 _) (I.o1 _) (I.g1 _) (I.d1 _) (I.v1 _ _) Ideal.ofBits_one_f32 _ _ r d (S.dk1 _ _ r d)).trans
      (congrArg Real.toEReal ((part_step (fun t => A.ds (h1 g) t (kk r) * A.x (h1 g) t d) 1792 (by omega)).symm.trans (part_all _))))
    · refine ((cat1_hi _ _ r d hd).trans ?_).trans (kvT_hi A _ r d hd).symm
      exact (dv1 A (h1 g) I.cc _ _ _ _ _ _ _ _ (I.q1 _) I.cs I.sn (S.k1 _ _) (I.l1 _) (I.g1 _) (I.d1 _) Ideal.ofBits_one_f32 _ _ r (dn d) (S.dv1 _ _ r (dn d))).trans
        (congrArg Real.toEReal ((part_step (fun t => A.p (h1 g) t (kk r) * A.w (h1 g) t (dn d)) 1792 (by omega)).symm.trans (part_all _)))

theorem out_dkp_I (r : Fin 2048) (d : Fin 128)
    (D : ℝ) (hD : (outsAt0 (F := Ideal) m c (t.val - 1) ht).2.2.1 (ix2 r d) = (D : EReal)) :
    (outsAt0 (F := Ideal) m c t.val t.isLt).2.2.1 (ix2 r d) = ((D + A.dy (h0 g) r (up d) + A.dy (h1 g) r (up d) : ℝ) : EReal) := by
  have hN : t.val < 64 := lt_of_lt_of_eq t.isLt N_0
  rw [outsAt0_I m c t (by omega) (by omega) (by omega) (by omega) (by omega) (by omega) (by omega) (by omega) (by omega) (by omega) (by omega) (by omega) (by omega) (by omega)]
  frame_open
  try simp (disch := decide) only [↓ View.readCov_skip, ↓ View.readCov_cons_toLoadRect, ↓ View.readCov_fill]
  frame_out
  simp only [read_unread_whole]
  refine (both_more _ _ _ r d).trans ?_
  rw [EReal.coe_add, EReal.coe_add]
  refine congrArg₂ (· + ·) (congrArg₂ (· + ·) hD ?_) ?_
  · refine (cov3 (Val := Elt Ideal) (e := .f32) _ _ _ 0 r d 0 r (up d) rfl (by omega) (by simp only [up])).trans ?_
    refine (canon3_mem (Val := Elt Ideal) (e := .f32) _ _ _ 0 r (up d) 0 r (up d) rfl (by omega) (by omega)).trans ?_
    exact ((dk0 A (h0 g) I.cc _ _ _ _ _ _ _ _ _ (I.q0 _) I.cs I.sn (S.k0 _ _) (I.l0 _) (I.o0 _) (I.g0 _) (I.d0 _) (I.v0 _ _) _ _ r (up d) (S.dk0 _ _ r (up d))).trans
      (congrArg Real.toEReal ((part_step (fun t => A.ds (h0 g) t (kk r) * A.x (h0 g) t (up d)) 1792 (by omega)).symm.trans (part_all _))))
  · refine (cov3 (Val := Elt Ideal) (e := .f32) _ _ _ 0 r d 1 r (up d) rfl (by omega) (by simp only [up])).trans ?_
    refine (canon3_mem (Val := Elt Ideal) (e := .f32) _ _ _ 0 r (up d) 1 r (up d) rfl (by omega) (by omega)).trans ?_
    exact ((dk1 A (h1 g) I.cc _ _ _ _ _ _ _ _ _ _ (I.q1 _) I.cs I.sn (S.k1 _ _) (I.l1 _) (I.o1 _) (I.g1 _) (I.d1 _) (I.v1 _ _) Ideal.ofBits_one_f32 _ _ r (up d) (S.dk1 _ _ r (up d))).trans
      (congrArg Real.toEReal ((part_step (fun t => A.ds (h1 g) t (kk r) * A.x (h1 g) t (up d)) 1792 (by omega)).symm.trans (part_all _))))

end

end Cert.Att.K2048

end
-- ==== Proof.Sweep.lean ====
/-
  The whole grid: every head pair's eight query blocks in turn, and what the four results hold after the last of them.
-/
module

public import proofs.«01_k».proof.Proof.Step256
public import proofs.«01_k».proof.Proof.Step512
public import proofs.«01_k».proof.Proof.Step768
public import proofs.«01_k».proof.Proof.Step1024
public import proofs.«01_k».proof.Proof.Step1280
public import proofs.«01_k».proof.Proof.Step1536
public import proofs.«01_k».proof.Proof.Step1792
public import proofs.«01_k».proof.Proof.Step2048
public import proofs.«01_k».proof.Proof.Last
public import proofs.«01_k».proof.Proof.Gen.KernelIdeal.Value

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

/-- Query block `i` of head pair `g`. -/
theorem pt_lt (g : Fin 8) (i : ℕ) (hi : i < 8) : 8 * g.val + i < cfg0.N := lt_of_lt_of_eq (show 8 * g.val + i < 64 by omega) N_0.symm

variable (m : (ℓ : Loc nD τ sig) → Buf (Elt Ideal) ℓ) (c : Dev nD) (A : Arr)

section
variable (hIn : ∀ (g : Fin 8) (i : ℕ) (hi : i < 8), In m c A ⟨8 * g.val + i, pt_lt g i hi⟩ g (256 * i) (by omega))

include hIn

theorem at0 (g : Fin 8) : St m c A (8 * g.val + 0) (pt_lt g 0 (by omega)) g 256 ∧ Out m c A (8 * g.val + 0) (pt_lt g 0 (by omega)) g 0 (by omega) :=
  K256.step m c A ⟨8 * g.val + 0, pt_lt g 0 (by omega)⟩ g (by dsimp only; omega) (hIn g 0 (by omega))

theorem at1 (g : Fin 8) : St m c A (8 * g.val + 1) (pt_lt g 1 (by omega)) g 512 ∧ Out m c A (8 * g.val + 1) (pt_lt g 1 (by omega)) g 256 (by omega) :=
  K512.step m c A ⟨8 * g.val + 1, pt_lt g 1 (by omega)⟩ g (by dsimp only; omega) (pt_lt g 0 (by omega)) (hIn g 1 (by omega)) (at0 m c A hIn g).1

theorem at2 (g : Fin 8) : St m c A (8 * g.val + 2) (pt_lt g 2 (by omega)) g 768 ∧ Out m c A (8 * g.val + 2) (pt_lt g 2 (by omega)) g 512 (by omega) :=
  K768.step m c A ⟨8 * g.val + 2, pt_lt g 2 (by omega)⟩ g (by dsimp only; omega) (pt_lt g 1 (by omega)) (hIn g 2 (by omega)) (at1 m c A hIn g).1

theorem at3 (g : Fin 8) : St m c A (8 * g.val + 3) (pt_lt g 3 (by omega)) g 1024 ∧ Out m c A (8 * g.val + 3) (pt_lt g 3 (by omega)) g 768 (by omega) :=
  K1024.step m c A ⟨8 * g.val + 3, pt_lt g 3 (by omega)⟩ g (by dsimp only; omega) (pt_lt g 2 (by omega)) (hIn g 3 (by omega)) (at2 m c A hIn g).1

theorem at4 (g : Fin 8) : St m c A (8 * g.val + 4) (pt_lt g 4 (by omega)) g 1280 ∧ Out m c A (8 * g.val + 4) (pt_lt g 4 (by omega)) g 1024 (by omega) :=
  K1280.step m c A ⟨8 * g.val + 4, pt_lt g 4 (by omega)⟩ g (by dsimp only; omega) (pt_lt g 3 (by omega)) (hIn g 4 (by omega)) (at3 m c A hIn g).1

theorem at5 (g : Fin 8) : St m c A (8 * g.val + 5) (pt_lt g 5 (by omega)) g 1536 ∧ Out m c A (8 * g.val + 5) (pt_lt g 5 (by omega)) g 1280 (by omega) :=
  K1536.step m c A ⟨8 * g.val + 5, pt_lt g 5 (by omega)⟩ g (by dsimp only; omega) (pt_lt g 4 (by omega)) (hIn g 5 (by omega)) (at4 m c A hIn g).1

theorem at6 (g : Fin 8) : St m c A (8 * g.val + 6) (pt_lt g 6 (by omega)) g 1792 ∧ Out m c A (8 * g.val + 6) (pt_lt g 6 (by omega)) g 1536 (by omega) :=
  K1792.step m c A ⟨8 * g.val + 6, pt_lt g 6 (by omega)⟩ g (by dsimp only; omega) (pt_lt g 5 (by omega)) (hIn g 6 (by omega)) (at5 m c A hIn g).1

theorem at7 (g : Fin 8) : Out m c A (8 * g.val + 7) (pt_lt g 7 (by omega)) g 1792 (le_refl 1792) := by
  by_cases h' : (8 * g.val + 7) % 64 = 7
  · exact (K2048.step_H m c A ⟨8 * g.val + 7, pt_lt g 7 (by omega)⟩ g (by dsimp only; omega) h' (pt_lt g 6 (by omega)) (hIn g 7 (by omega)) (at6 m c A hIn g).1).2
  · exact (K2048.step_I m c A ⟨8 * g.val + 7, pt_lt g 7 (by omega)⟩ g (by dsimp only; omega) h' (pt_lt g 6 (by omega)) (hIn g 7 (by omega)) (at6 m c A hIn g).1).2

omit hIn in
theorem rows_le (i : ℕ) (hi : i < 8) : 256 * i ≤ 1792 := by omega

/-- The queries' and the gate's cotangents at every point. -/
theorem out (g : Fin 8) (i : ℕ) (hi : i < 8) : Out m c A (8 * g.val + i) (pt_lt g i hi) g (256 * i) (rows_le i hi) := by
  interval_cases i
  · exact (at0 m c A hIn g).2
  · exact (at1 m c A hIn g).2
  · exact (at2 m c A hIn g).2
  · exact (at3 m c A hIn g).2
  · exact (at4 m c A hIn g).2
  · exact (at5 m c A hIn g).2
  · exact (at6 m c A hIn g).2
  · exact (at7 m c A hIn g)

/-- The keys' and values' cotangents at the head pair's last point. -/
theorem out_dkv (g : Fin 8) (p : Fin 2) (r : Fin 2048) (d : Fin 256) :
    (outsAt0 (F := Ideal) m c (8 * g.val + 7) (pt_lt g 7 (by omega))).2.1 (ix2 r ⟨256 * p.val + d.val, by omega⟩) = (K2048.kvT A (hp g p) r d : EReal) := by
  by_cases h' : (8 * g.val + 7) % 64 = 7
  · exact K2048.out_dkv_H m c A ⟨8 * g.val + 7, pt_lt g 7 (by omega)⟩ g (by dsimp only; omega) h' (pt_lt g 6 (by omega)) (hIn g 7 (by omega)) (at6 m c A hIn g).1 p r d
  · exact K2048.out_dkv_I m c A ⟨8 * g.val + 7, pt_lt g 7 (by omega)⟩ g (by dsimp only; omega) h' (pt_lt g 6 (by omega)) (hIn g 7 (by omega)) (at6 m c A hIn g).1 p r d

end

/-- Away from a head pair's last point the shared lanes' cotangent is kept. -/
theorem keep_dkp (n n' : ℕ) (h : n < cfg0.N) (h' : n' < cfg0.N) (e : n' = n + 1) (h7 : ¬ n' % 8 = 7) :
    (outsAt0 (F := Ideal) m c n' h').2.2.1 = (outsAt0 (F := Ideal) m c n h).2.2.1 := by
  subst e
  replace h := h'
  have hN : n + 1 < 64 := lt_of_lt_of_eq h N_0
  rcases (show (n + 1) % 8 = 0 ∨ (n + 1) % 8 = 1 ∨ (n + 1) % 8 = 2 ∨ (n + 1) % 8 = 3 ∨ (n + 1) % 8 = 4 ∨ (n + 1) % 8 = 5 ∨ (n + 1) % 8 = 6 by omega)
    with e | e | e | e | e | e | e
  · exact congrArg (fun o => o.2.2.1) (outsAt0_A m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_B m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_C m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_D m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_E m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_F m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))
  · exact congrArg (fun o => o.2.2.1) (outsAt0_G m c ⟨n + 1, h⟩ (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega) (by dsimp only; omega))

/-- The sum of the first `n` head pairs' shared-lane cotangents. -/
def acc (A : Arr) (r : Fin 2048) (d : Fin 128) (n : ℕ) : ℝ :=
  ∑ g : Fin 8, if g.val < n then A.dy (h0 g) r (up d) + A.dy (h1 g) r (up d) else 0

theorem acc_succ (A : Arr) (r : Fin 2048) (d : Fin 128) (g : Fin 8) :
    acc A r d (g.val + 1) = acc A r d g.val + (A.dy (h0 g) r (up d) + A.dy (h1 g) r (up d)) := by
  unfold acc
  refine (Finset.sum_erase_add _ _ (Finset.mem_univ g)).symm.trans ?_
  refine Eq.trans ?_ (congrArg (· + (A.dy (h0 g) r (up d) + A.dy (h1 g) r (up d))) (Finset.sum_erase_add _ _ (Finset.mem_univ g)))
  rw [if_pos (by omega), if_neg (lt_irrefl _), add_zero]
  congr 1
  refine Finset.sum_congr rfl fun x hx => ?_
  have hx : x ≠ g := Finset.ne_of_mem_erase hx
  have : x.val ≠ g.val := fun h => hx (Fin.ext h)
  by_cases hl : x.val < g.val
  · rw [if_pos hl, if_pos (by omega)]
  · rw [if_neg hl, if_neg (by omega)]

theorem acc_all (A : Arr) (r : Fin 2048) (d : Fin 128) : acc A r d 8 = A.dkp r d := by
  unfold acc Arr.dkp
  refine Eq.trans ?_ ((finProdFinEquiv (m := 8) (n := 2)).sum_comp (fun h : Fin 16 => A.dy h r (up d)))
  rw [Fintype.sum_prod_type]
  refine Finset.sum_congr rfl fun g _ => ?_
  rw [if_pos g.isLt, Fin.sum_univ_two]
  have e0 : (finProdFinEquiv (m := 8) (n := 2)) (g, 0) = h0 g := Fin.ext (by simp [finProdFinEquiv, h0])
  have e1 : (finProdFinEquiv (m := 8) (n := 2)) (g, 1) = h1 g := Fin.ext (by simp [finProdFinEquiv, h1]; omega)
  exact congrArg₂ (fun a b => A.dy a r (up d) + A.dy b r (up d)) e0.symm e1.symm

section
variable (hIn : ∀ (g : Fin 8) (i : ℕ) (hi : i < 8), In m c A ⟨8 * g.val + i, pt_lt g i hi⟩ g (256 * i) (by omega))

include hIn

omit hIn in
/-- What the head pair before left of it is still there when the last point starts. -/
theorem before_dkp (g g' : Fin 8) (e : g.val = g'.val + 1) :
    (outsAt0 (F := Ideal) m c (8 * g.val + 6) (pt_lt g 6 (by omega))).2.2.1 = (outsAt0 (F := Ideal) m c (8 * g'.val + 7) (pt_lt g' 7 (by omega))).2.2.1 :=
  (keep_dkp m c _ _ (pt_lt g 5 (by omega)) (pt_lt g 6 (by omega)) (by omega) (by omega)).trans <|
  (keep_dkp m c _ _ (pt_lt g 4 (by omega)) (pt_lt g 5 (by omega)) (by omega) (by omega)).trans <|
  (keep_dkp m c _ _ (pt_lt g 3 (by omega)) (pt_lt g 4 (by omega)) (by omega) (by omega)).trans <|
  (keep_dkp m c _ _ (pt_lt g 2 (by omega)) (pt_lt g 3 (by omega)) (by omega) (by omega)).trans <|
  (keep_dkp m c _ _ (pt_lt g 1 (by omega)) (pt_lt g 2 (by omega)) (by omega) (by omega)).trans <|
  (keep_dkp m c _ _ (pt_lt g 0 (by omega)) (pt_lt g 1 (by omega)) (by omega) (by omega)).trans <|
  keep_dkp m c _ _ (pt_lt g' 7 (by omega)) (pt_lt g 0 (by omega)) (by omega) (by omega)

/-- The shared lanes' cotangent after head pair `g`'s last point. -/
theorem out_dkp (r : Fin 2048) (d : Fin 128) : ∀ (n : ℕ) (h : n < 8),
    (outsAt0 (F := Ideal) m c (8 * (⟨n, h⟩ : Fin 8).val + 7) (pt_lt ⟨n, h⟩ 7 (by omega))).2.2.1 (ix2 r d) = (acc A r d (n + 1) : EReal)
  | 0, h => by
    refine (K2048.out_dkp_H m c A ⟨8 * (⟨0, h⟩ : Fin 8).val + 7, pt_lt ⟨0, h⟩ 7 (by omega)⟩ ⟨0, h⟩ rfl rfl (pt_lt ⟨0, h⟩ 6 (by omega)) (hIn ⟨0, h⟩ 7 (by omega)) (at6 m c A hIn ⟨0, h⟩).1 r d).trans ?_
    refine congrArg Real.toEReal ?_
    refine Eq.trans ?_ (acc_succ A r d ⟨0, h⟩).symm
    unfold acc
    simp
  | n + 1, h => by
    have e : (outsAt0 (F := Ideal) m c (8 * (⟨n + 1, h⟩ : Fin 8).val + 6) (pt_lt ⟨n + 1, h⟩ 6 (by omega))).2.2.1 (ix2 r d) = (acc A r d (n + 1) : EReal) :=
      (congrFun (before_dkp m c ⟨n + 1, h⟩ ⟨n, by omega⟩ rfl) _).trans (out_dkp r d n (by omega))
    refine (K2048.out_dkp_I m c A ⟨8 * (⟨n + 1, h⟩ : Fin 8).val + 7, pt_lt ⟨n + 1, h⟩ 7 (by omega)⟩ ⟨n + 1, h⟩ (by dsimp only; omega) (by dsimp only; omega) (pt_lt ⟨n + 1, h⟩ 6 (by omega)) (hIn ⟨n + 1, h⟩ 7 (by omega)) (at6 m c A hIn ⟨n + 1, h⟩).1 r d (acc A r d (n + 1)) e).trans ?_
    refine congrArg Real.toEReal ?_
    exact (add_assoc _ _ _).trans (acc_succ A r d ⟨n + 1, h⟩).symm

end

end Cert.Att

end
-- ==== Proof.Brought.lean ====
/-
The arrays of real numbers a launch memory with finite arguments holds, and that every
point of the kernel's grid is brought its blocks of them.
-/
module

public import proofs.«01_k».proof.Proof.Ref1
public import proofs.«01_k».proof.Proof.Host
public import proofs.«01_k».proof.Proof.Ref4
public import proofs.«01_k».proof.Proof.Finite
public import proofs.«01_k».proof.Proof.Window
public import proofs.«01_k».proof.Proof.Sweep
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

variable (m : (ℓ : Loc nD τ sig) → Buf (Elt Ideal) ℓ) (c : Dev nD)

open Cert.ReferenceIdeal.Read

/-- A row's largest score. -/
def shOf (h : Fin 16) (t : Fin 2048) : ℝ := EReal.toReal (val_main_v59 (F := Ideal) (a0 m c) (a1 m c) (a2 m c) (a5 m c) (ix2 h t))

theorem shOf_of (h : Fin 16) (t : Fin 2048) (r : ℝ) (e : val_main_v59 (F := Ideal) (a0 m c) (a1 m c) (a2 m c) (a5 m c) (ix2 h t) = (r : EReal)) : shOf m c h t = r := by
  unfold shOf
  rw [e]
  exact EReal.toReal_coe r

/-- The arguments' entries, the rotation's table and the rows' largest scores, as real numbers. -/
def arr : Arr where
  q t d := EReal.toReal (a0 m c (ix2 t d))
  kv t d := EReal.toReal (a1 m c (ix2 t d))
  kp t d := EReal.toReal (a2 m c (ix2 t d))
  gate t d := EReal.toReal (a3 m c (ix2 t ⟨d.val, by omega⟩))
  dog t d := EReal.toReal (a4 m c (ix2 t d))
  cs t d := EReal.toReal (val_main_v22 (F := Ideal) (a5 m c) (ix2 t d))
  sn t d := EReal.toReal (val_main_v24 (F := Ideal) (a5 m c) (ix2 t d))
  sh h t := shOf m c h t
  c := EReal.toReal (FloatOps.ofBits (F := Ideal) .f32 0x3D93CD3A#32)

variable {m} (hm : Cert.Pre_KernelIdeal_finite m)

include hm

/-- The arguments are these arrays. -/
theorem args : Ref.Args (a0 m c) (a1 m c) (a2 m c) (a3 m c) (a4 m c) (a5 m c) (arr m c) where
  q _ _ := coe_of (fin0 _ _ _ _ _ _ (hm c).1 _)
  kv _ _ := coe_of (fin1 _ _ _ _ _ _ (hm c).2.1 _)
  kp _ _ := coe_of (fin2 _ _ _ _ _ _ (hm c).2.2.1 _)
  gate _ _ := coe_of (fin3 _ _ _ _ _ _ (hm c).2.2.2.1 _)
  dog _ _ := coe_of (fin4 _ _ _ _ _ _ (hm c).2.2.2.2 _)
  cs t d := coe_of (real_cos _ t d)
  sn t d := coe_of (real_sin _ t d)
  c := coe_of (real_ieee _ (by decide))

/-- The rows' largest scores. -/
theorem rowmax (h : Fin 16) (t : Fin 2048) :
    val_main_v59 (F := Ideal) (a0 m c) (a1 m c) (a2 m c) (a5 m c) (ix2 h t) = ((arr m c).sh h t : EReal) := by
  obtain ⟨r, e⟩ := Ref.v59 (args c hm) h t
  have e1 := shOf_of m c h t r e
  have e' : (arr m c).sh h t = shOf m c h t := by dsimp only [arr]
  rw [e, e', e1]

omit hm in
/-- The four blocks, lane by lane. -/
theorem cat4_apply (x y z w : (⟨S2048x32, .f32⟩ : BufTy).Contents (Elt Ideal)) (t : Fin 2048) (l : Fin 128) :
    cat4 x y z w (ix2 t l) = if h : l.val < 32 then x (ix2 t ⟨l.val, h⟩)
      else if h : l.val - 32 < 32 then y (ix2 t ⟨l.val - 32, h⟩)
      else if h : l.val - 32 - 32 < 32 then z (ix2 t ⟨l.val - 32 - 32, h⟩) else w (ix2 t ⟨l.val - 32 - 32 - 32, by omega⟩) := by
  unfold cat4
  pointwise []

omit hm in
theorem zer_apply (i : S2048x32.Idx) : zer i = (0 : EReal) := by
  show Ideal.ofBits .f32 0#32 = 0
  exact Ideal.ofBits_zero_f32

/-- The table of cosines. -/
theorem cosT_eq (t : Fin 2048) (l : Fin 128) :
    V (F := Ideal) m c main_v20 (ix2 t l) = ((arr m c).cosT t l : EReal) := by
  rw [V_v20, cat4_apply]
  unfold Arr.cosT
  by_cases h1 : l.val < 32
  · rw [dif_pos h1, dif_pos h1, (args c hm).cs]
  · rw [dif_neg h1, dif_neg h1]
    by_cases h2 : l.val - 32 < 32
    · rw [dif_pos h2, dif_neg (by omega), zer_apply]; rfl
    · rw [dif_neg h2]
      by_cases h3 : l.val - 32 - 32 < 32
      · rw [dif_pos h3, dif_pos (by omega), (args c hm).cs]
        congr 3

      · rw [dif_neg h3, dif_neg (by omega), zer_apply]; rfl

/-- The table of sines. -/
theorem sinT_eq (t : Fin 2048) (l : Fin 128) :
    V (F := Ideal) m c main_v22 (ix2 t l) = ((arr m c).sinT t l : EReal) := by
  rw [V_v22, cat4_apply]
  unfold Arr.sinT
  by_cases h1 : l.val < 32
  · rw [dif_pos h1, dif_pos h1]
    show -(val_main_v24 (F := Ideal) (a5 m c) (ix2 t ⟨l.val, h1⟩) : EReal) = _
    rw [(args c hm).sn, EReal.coe_neg]
  · rw [dif_neg h1, dif_neg h1]
    by_cases h2 : l.val - 32 < 32
    · rw [dif_pos h2, dif_neg (by omega), zer_apply]; rfl
    · rw [dif_neg h2]
      by_cases h3 : l.val - 32 - 32 < 32
      · rw [dif_pos h3, dif_pos (by omega), (args c hm).sn]
        congr 3

      · rw [dif_neg h3, dif_neg (by omega), zer_apply]; rfl

omit hm in
theorem lseOf_apply (s : (⟨S16x2048x2048, .f32⟩ : BufTy).Contents (Elt Ideal)) (mx : (⟨S16x2048, .f32⟩ : BufTy).Contents (Elt Ideal)) (h : Fin 16) (t : Fin 2048) :
    lseOf s mx (ix3 h t 0) = (mx (ix2 h t) : EReal) + Ideal.log (∑ x : Fin 2048, Ideal.exp ((s (ix3 h t x) : EReal) - (mx (ix2 h t) : EReal))) := by
  unfold lseOf
  pointwise []

/-- The rows' log-sums. -/
theorem lse_eq (h : Fin 16) (t : Fin 2048) :
    V (F := Ideal) m c main_v103 (ix3 h t 0) = ((arr m c).lse h t : EReal) := by
  rw [V_v103, lseOf_apply, rowmax c hm]
  have e : ∀ k : Fin 2048, Ideal.exp ((val_main_v57_0 (F := Ideal) (a0 m c) (a1 m c) (a2 m c) (a5 m c) (ix3 h t k) : EReal) - ((arr m c).sh h t : EReal))
      = ((arr m c).e h t k : EReal) := by
    intro k
    rw [Ref.v57 (args c hm)]
    simp only [Arr.e]
    split_ifs
    · rw [sub_coe, Ideal.exp_coe]
    · rw [EReal.bot_sub, Ideal.exp_bot]; rfl
  simp only [e, sum_coe]
  change _ + Ideal.log (((arr m c).l h t : ℝ) : EReal) = _
  rw [Ideal.log_coe, if_neg (not_le.mpr ((arr m c).l_pos h t)), ← EReal.coe_add]
  rfl

/-- What point `8 * g + i` is brought. -/
theorem brought (g : Fin 8) (i : ℕ) (hi : i < 8) :
    In m c (arr m c) ⟨8 * g.val + i, pt_lt g i hi⟩ g (256 * i) (by omega) where
  q r d := by
    rw [blk0 m c _ r d (row (256 * i) (by omega) r) ⟨512 * g.val + d.val, by omega⟩ (by show 256 * i + r.val = (8 * g.val + i) % 8 * 256 + r.val; omega)
      (by show 512 * g.val + d.val = (8 * g.val + i) / 8 * 512 + d.val; omega), V_main_arg0]
    exact (args c hm).q _ _
  cs r d := by
    rw [blk1 m c _ r d (row (256 * i) (by omega) r) d (by show 256 * i + r.val = (8 * g.val + i) % 8 * 256 + r.val; omega) (by omega)]
    exact cosT_eq c hm _ _
  sn r d := by
    rw [blk2 m c _ r d (row (256 * i) (by omega) r) d (by show 256 * i + r.val = (8 * g.val + i) % 8 * 256 + r.val; omega) (by omega)]
    exact sinT_eq c hm _ _
  kv k d := by
    rw [blk3 m c _ k d k ⟨512 * g.val + d.val, by omega⟩ (by omega) (by show 512 * g.val + d.val = (8 * g.val + i) / 8 * 512 + d.val; omega), V_main_arg1]
    exact (args c hm).kv _ _
  kp k d := by
    rw [blk4 m c _ k d k d (by omega) (by omega), V_main_arg2]
    exact (args c hm).kp _ _
  o r p d := by
    rw [blk5 m c _ r ⟨128 * p.val + d.val, by omega⟩ (row (256 * i) (by omega) r) ⟨256 * g.val + (128 * p.val + d.val), by omega⟩
      (by show 256 * i + r.val = (8 * g.val + i) % 8 * 256 + r.val; omega)
      (by show 256 * g.val + (128 * p.val + d.val) = (8 * g.val + i) / 8 * 256 + (128 * p.val + d.val); omega), V_v94,
      Ref.v89 (args c hm) (rowmax c hm)]
    have e1 : hd2 ⟨256 * g.val + (128 * p.val + d.val), by omega⟩ = hp g p := Fin.ext (by simp only [hd2, hp]; omega)
    have e2 : ln2 ⟨256 * g.val + (128 * p.val + d.val), by omega⟩ = d := Fin.ext (by simp only [ln2]; omega)
    rw [e1, e2]
  l p r := by
    rw [blk6 m c _ p r (hp g p) (row (256 * i) (by omega) r) (by show 2 * g.val + p.val = (8 * g.val + i) / 8 * 2 + p.val; omega)
      (by show 256 * i + r.val = (8 * g.val + i) % 8 * 256 + r.val; omega)]
    exact lse_eq c hm _ _
  dog r d := by
    rw [blk7 m c _ r d (row (256 * i) (by omega) r) ⟨256 * g.val + d.val, by omega⟩ (by show 256 * i + r.val = (8 * g.val + i) % 8 * 256 + r.val; omega)
      (by show 256 * g.val + d.val = (8 * g.val + i) / 8 * 256 + d.val; omega), V_main_arg4]
    exact (args c hm).dog _ _
  gate r d := by
    rw [blk8 m c _ r d (row (256 * i) (by omega) r) ⟨256 * g.val + d.val, by omega⟩ (by show 256 * i + r.val = (8 * g.val + i) % 8 * 256 + r.val; omega)
      (by show 256 * g.val + d.val = (8 * g.val + i) / 8 * 256 + d.val; omega), V_main_arg3]
    exact (args c hm).gate _ ⟨256 * g.val + d.val, by omega⟩
  cc := (args c hm).c

end Cert.Att
end
-- ==== Proof.Results.lean ====
/-
What the kernel's four result arrays end holding is what the reference computes.
-/
module

public import proofs.«01_k».proof.Proof.Ref1
public import proofs.«01_k».proof.Proof.Brought
public import proofs.«01_k».proof.Proof.Gen.KernelIdeal.Value
public import proofs.«01_k».proof.Proof.Point
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Att

open Idealize.ShloMosaic Idealize.SL.Sem Cert.KernelIdeal Cert.KernelIdeal.Gen Idealize.ShloMosaic.TcCoe

variable (m : (ℓ : Loc nD τ sig) → Buf (Elt Ideal) ℓ) (c : Dev nD)

open Cert.ReferenceIdeal.Read Cert.KernelIdeal.Value

theorem eta2 {a b : ℕ} (i : (⟨2, ![a, b]⟩ : Shape).Idx) : i = ix2 (i 0) (i 1) := by
  funext x
  match x with
  | ⟨0, _⟩ => rfl
  | ⟨1, _⟩ => rfl

/-- The state after point `n`, the point named by its head pair and its rows. -/
theorem at_point (n k : ℕ) (h : n < cfg0.N) (hk : k < cfg0.N) (e : n = k) :
    Pipeline.accAt (fun n h => stAt0 (F := Ideal) m c n h junk0) (stAt0 m c) 0 n (by omega) = outsAt0 m c k hk := by
  subst e
  exact (outsAt0_sweep m c n h).symm

variable {m} (hm : Cert.Pre_KernelIdeal_finite m)

include hm

/-- The queries' cotangent. -/
theorem dq_eq (t : Fin 2048) (l : Fin 4096) :
    G9 (F := Ideal) m c (ix2 t l) = ((arr m c).dq (hd4 l) t (ln4 l) : EReal) := by
  have e : pt9Of (ix2 t l) = 8 * (⟨l.val / 512, by omega⟩ : Fin 8).val + t.val / 256 := by
    show 1 * (t.val / 256 - 0) + 8 * (l.val / 512 - 0) = 8 * (l.val / 512) + t.val / 256
    omega
  have hk := pt_lt (⟨l.val / 512, by omega⟩ : Fin 8) (t.val / 256) (by omega)
  have hp9 : pt9Of (ix2 t l) < cfg0.N := by rw [e]; exact hk
  have hl : loc9Of (ix2 t l) = ix2 ⟨t.val % 256, by omega⟩ ⟨256 * (⟨l.val / 256 % 2, by omega⟩ : Fin 2).val + (ln4 l).val, by omega⟩ := by
    funext a
    match a with
    | ⟨0, _⟩ => rfl
    | ⟨1, _⟩ => exact Fin.ext (by show l.val % 512 = 256 * (l.val / 256 % 2) + l.val % 256; omega)
  unfold G9
  rw [dif_pos hp9, at_point m c _ _ hp9 hk e, hl]
  refine ((out m c (arr m c) (brought c hm) ⟨l.val / 512, by omega⟩ (t.val / 256) (by omega)).dq _ _ _).trans ?_
  have e1 : hp ⟨l.val / 512, by omega⟩ ⟨l.val / 256 % 2, by omega⟩ = hd4 l := Fin.ext (by simp only [hd4, hp]; omega)
  have e2 : row (256 * (t.val / 256)) (by omega) ⟨t.val % 256, by omega⟩ = t := Fin.ext (by simp only [row]; omega)
  exact congrArg (fun x : ℝ => (x : EReal)) (congrArg₂ (fun x y => (arr m c).dq x y (ln4 l)) e1 e2)

/-- The gate's cotangent. -/
theorem dg_eq (t : Fin 2048) (l : Fin 2048) :
    G12 (F := Ideal) m c (ix2 t l) = ((arr m c).dg (hd2 l) t (ln2 l) : EReal) := by
  have e : pt12Of (ix2 t l) = 8 * (⟨l.val / 256, by omega⟩ : Fin 8).val + t.val / 256 := by
    show 1 * (t.val / 256 - 0) + 8 * (l.val / 256 - 0) = 8 * (l.val / 256) + t.val / 256
    omega
  have hk := pt_lt (⟨l.val / 256, by omega⟩ : Fin 8) (t.val / 256) (by omega)
  have hp9 : pt12Of (ix2 t l) < cfg0.N := by rw [e]; exact hk
  have hl : loc12Of (ix2 t l) = ix2 ⟨t.val % 256, by omega⟩ ⟨128 * (⟨l.val / 128 % 2, by omega⟩ : Fin 2).val + (ln2 l).val, by omega⟩ := by
    funext a
    match a with
    | ⟨0, _⟩ => rfl
    | ⟨1, _⟩ => exact Fin.ext (by show l.val % 256 = 128 * (l.val / 128 % 2) + l.val % 128; omega)
  unfold G12
  rw [dif_pos hp9, at_point m c _ _ hp9 hk e, hl]
  refine ((out m c (arr m c) (brought c hm) ⟨l.val / 256, by omega⟩ (t.val / 256) (by omega)).dg _ _ _).trans ?_
  have e1 : hp ⟨l.val / 256, by omega⟩ ⟨l.val / 128 % 2, by omega⟩ = hd2 l := Fin.ext (by simp only [hd2, hp]; omega)
  have e2 : row (256 * (t.val / 256)) (by omega) ⟨t.val % 256, by omega⟩ = t := Fin.ext (by simp only [row]; omega)
  exact congrArg (fun x : ℝ => (x : EReal)) (congrArg₂ (fun x y => (arr m c).dg x y (ln2 l)) e1 e2)

/-- The keys' and values' cotangent. -/
theorem dkv_eq (k : Fin 2048) (l : Fin 4096) :
    G10 (F := Ideal) m c (ix2 k l) = (K2048.kvT (arr m c) (hd4 l) k (ln4 l) : EReal) := by
  have e : pt10Of (ix2 k l) = 8 * (⟨l.val / 512, by omega⟩ : Fin 8).val + 7 := by
    show 8 * (8 * (k.val / 2048 - 0) + 1 * (l.val / 512 - 0)) + 7 = 8 * (l.val / 512) + 7
    omega
  have hk := pt_lt (⟨l.val / 512, by omega⟩ : Fin 8) 7 (by omega)
  have hp9 : pt10Of (ix2 k l) < cfg0.N := by rw [e]; exact hk
  have hl : loc10Of (ix2 k l) = ix2 k ⟨256 * (⟨l.val / 256 % 2, by omega⟩ : Fin 2).val + (ln4 l).val, by omega⟩ := by
    funext a
    match a with
    | ⟨0, _⟩ => exact Fin.ext (by show k.val % 2048 = k.val; omega)
    | ⟨1, _⟩ => exact Fin.ext (by show l.val % 512 = 256 * (l.val / 256 % 2) + l.val % 256; omega)
  unfold G10
  rw [dif_pos hp9, at_point m c _ _ hp9 hk e, hl]
  refine (out_dkv m c (arr m c) (brought c hm) ⟨l.val / 512, by omega⟩ _ _ _).trans ?_
  have e1 : hp ⟨l.val / 512, by omega⟩ ⟨l.val / 256 % 2, by omega⟩ = hd4 l := Fin.ext (by simp only [hd4, hp]; omega)
  rw [e1]

/-- The rotary key's cotangent after the last rows of a head pair: the sum over the heads so far. -/
theorem dkp_at (g : Fin 8) (n : ℕ) (h : n < cfg0.N) (e : n = 8 * g.val + 7) (b : ℕ) (hb : b = g.val + 1) (k : Fin 2048) (d : Fin 128) :
    (Pipeline.accAt (fun n h => stAt0 (F := Ideal) m c n h junk0) (stAt0 m c) 0 n (by omega)).2.2.1 (ix2 k d)
      = (acc (arr m c) k d b : EReal) := by
  subst hb
  rw [at_point m c n _ h (pt_lt g 7 (by omega)) e]
  exact out_dkp m c (arr m c) (brought c hm) k d g.val g.isLt

/-- The rotary key's cotangent. -/
theorem dkp_eq (k : Fin 2048) (d : Fin 128) :
    G11 (F := Ideal) m c (ix2 k d) = ((arr m c).dkp k d : EReal) := by
  rw [← acc_all (arr m c) k d]
  exact (congrFun (G11_last m c) (ix2 k d)).trans
    (dkp_at c hm ⟨7, by omega⟩ 63 (lt_of_lt_of_eq (by decide) N_0.symm) (by norm_num) 8 (by norm_num) k d)

/-- The kernel's four results are the reference's. -/
theorem result_q : G9 (F := Ideal) m c = val_main_v154 (F := Ideal) (a0 m c) (a1 m c) (a2 m c) (a3 m c) (a4 m c) (a5 m c) := by
  funext i
  rw [eta2 i]
  exact (dq_eq c hm _ _).trans (Ref.v154 (args c hm) (rowmax c hm) _ _).symm

theorem result_kv : G10 (F := Ideal) m c = val_main_v155 (F := Ideal) (a0 m c) (a1 m c) (a2 m c) (a3 m c) (a4 m c) (a5 m c) := by
  funext i
  rw [eta2 i]
  exact (dkv_eq c hm _ _).trans (Ref.v155 (args c hm) (rowmax c hm) _ _).symm

theorem result_kp : G11 (F := Ideal) m c = val_main_v135 (F := Ideal) (a0 m c) (a1 m c) (a2 m c) (a3 m c) (a4 m c) (a5 m c) := by
  funext i
  rw [eta2 i]
  exact (dkp_eq c hm _ _).trans (Ref.v135 (args c hm) (rowmax c hm) _ _).symm

theorem result_gate : G12 (F := Ideal) m c = val_main_v156 (F := Ideal) (a0 m c) (a1 m c) (a2 m c) (a3 m c) (a4 m c) (a5 m c) := by
  funext i
  rw [eta2 i]
  exact (dg_eq c hm _ _).trans (Ref.v156 (args c hm) (rowmax c hm) _ _).symm

end Cert.Att
end
-- ==== Proof.Product2.lean ====
/-
The gradient of the even layer's input projection by its input: each block of the result is a product of a block of rows of
the cotangent and a block of rows of the weight's slices side by side, transposed.
-/
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product2

section kernel

open Idealize.ShloMosaic Idealize.SL.Sem Cert.Kernel2Ideal Cert.Kernel2Ideal.Gen Idealize.ShloMosaic.TcCoe

variable (m : (ℓ : Loc nD τ sig) → Buf (Elt Ideal) ℓ) (c : Dev nD)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)

theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem flush2 : ∀ t : Fin cfg0.N, (cfg0.win 2).flush t = true :=
  (by decide +kernel : ∀ t : Fin grid0.N, (cfg0.win 2).flush t = true)

/-- A block of the first factor's rows. -/
theorem read0 (X : (⟨S2048x7168, .bf16⟩ : BufTy).Contents (Elt Ideal)) (t : Fin cfg0.N) (r : Fin 1024) (k : Fin 7168) (r' : Fin 2048)
    (h0 : r'.val = t.val / 8 * 1024 + r.val) :
    (((cfg0.win 0).blk t).view.read (Elt Ideal) X : Vec Ideal S1024x7168 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 7168 + 1 * k.val = k.val; rw [hi.2]; omega

/-- A block of the second factor. -/
theorem read1 (X : (⟨S8x2048x896, .bf16⟩ : BufTy).Contents (Elt Ideal)) (t : Fin cfg0.N) (n : Fin 8) (s : Fin 256) (k : Fin 896) (s' : Fin 2048)
    (h1 : s'.val = t.val % 8 * 256 + s.val) :
    (((cfg0.win 1).blk t).view.read (Elt Ideal) X : Vec Ideal S8x256x896 .bf16) (ix3 n s k) = X (ix3 n s' k) := by
  have hi := index1 t
  rw [View.read_apply]
  refine congrArg X ?_
  funext a
  apply Fin.ext
  match a with
  | ⟨0, _⟩ => show win0_1.index t 0 * 8 + 1 * n.val = n.val; rw [hi.1]; omega
  | ⟨1, _⟩ => show win0_1.index t 1 * 256 + 1 * s.val = s'.val; rw [hi.2.1, h1]; omega
  | ⟨2, _⟩ => show win0_1.index t 2 * 896 + 1 * k.val = k.val; rw [hi.2.2]; omega

/-- A block of the result. -/
theorem read2 (X : (⟨S2048x2048, .f32⟩ : BufTy).Contents (Elt Ideal)) (t : Fin cfg0.N) (r : Fin 1024) (s : Fin 256) (r' : Fin 2048) (s' : Fin 2048)
    (h0 : r'.val = t.val / 8 * 1024 + r.val) (h1 : s'.val = t.val % 8 * 256 + s.val) :
    (((cfg0.win 2).blk t).view.read (Elt Ideal) X : Vec Ideal S1024x256 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 256 + 1 * s.val = s'.val; rw [hi.2, h1]; omega

/-- A slice of the second block. -/
def slice (y : Vec Ideal S8x256x896 .bf16) (n : Fin 8) : FVec Ideal S256x896 .bf16 := fun i => y (ix3 n (i 0) (i 1))

/-- A load of one slice, without its leading axis. -/
theorem load (y : Vec Ideal S8x256x896 .bf16) (n : Fin 8) (inb : ∀ a, (![n.val, 0, 0] : Fin 3 → Nat) a + S1x256x896.size a ≤ S8x256x896.size a) :
    shapeCast S256x896 (View.ld y (Rect.unit (s := S8x256x896) ![n.val, 0, 0] S1x256x896.size inb) : Vec Ideal S1x256x896 .bf16)
      shapeCasts_S1x256x896_S256x896 = slice y n := by
  funext i
  refine (shapeCast_apply _ _ i (ix3 0 (i 0) (i 1) : S1x256x896.Idx) ?_).trans ?_
  · rw [Shape.rowMajor_val_three, Shape.rowMajor_val_two]
    show (0 * 256 + (i 0).val) * 896 + (i 1).val = (i 0).val * 896 + (i 1).val
    omega
  · refine congrArg y (funext fun a => Fin.ext ?_)
    match a with
    | ⟨0, _⟩ => show n.val + 1 * 0 = n.val; omega
    | ⟨1, _⟩ => show 0 + 1 * (i 0).val = (i 0).val; omega
    | ⟨2, _⟩ => show 0 + 1 * (i 1).val = (i 1).val; omega

/-- The slices side by side. -/
def sides (y : Vec Ideal S8x256x896 .bf16) : FVec Ideal S256x7168 .bf16 := fun i => y (ix3 ⟨(i 1).val / 896, by have := (i 1).isLt; show (i 1).val / 896 < 8; exact Nat.div_lt_of_lt_mul this⟩ (i 0) ⟨(i 1).val % 896, Nat.mod_lt _ (by decide)⟩)

theorem joined (y : Vec Ideal S8x256x896 .bf16) :
    concatenate S256x7168 1 [⟨S256x896, slice y 0⟩, ⟨S256x896, slice y 1⟩, ⟨S256x896, slice y 2⟩, ⟨S256x896, slice y 3⟩, ⟨S256x896, slice y 4⟩,
      ⟨S256x896, slice y 5⟩, ⟨S256x896, slice y 6⟩, ⟨S256x896, slice y 7⟩]
      concatenates_S256x896_S256x896_S256x896_S256x896_S256x896_S256x896_S256x896_S256x896_S256x7168_d1 = sides y := by
  funext i
  have h1 : (i 1).val < 7168 := (i 1).isLt
  refine concatenate_ofFn_apply (t := S256x7168) (s₁ := S256x896) 1 (slice y) concatenates_S256x896_S256x896_S256x896_S256x896_S256x896_S256x896_S256x896_S256x896_S256x7168_d1 rfl 896 rfl i ⟨(i 1).val / 896, by omega⟩ rfl
    (ix2 (i 0) ⟨(i 1).val % 896, Nat.mod_lt _ (by decide)⟩) rfl (fun b hb => ?_)
  match b, hb with
  | ⟨0, _⟩, _ => rfl
  | ⟨1, _⟩, hb => exact absurd rfl hb

/-- The body's product. -/
theorem body (x : Vec Ideal S1024x7168 .bf16) (y : Vec Ideal S8x256x896 .bf16) (r : Fin 1024) (s : Fin 256) :
    out0_2 x y (ix2 r s) = ∑ k : Fin 7168, x (ix2 r k) * y (ix3 ⟨k.val / 896, by omega⟩ s ⟨k.val % 896, by omega⟩) := by
  have e : out0_2 x y = matmul (φ₁ := .bf16) dot_S1024x7168_S256x7168_S1024x256_1_1_0_0_n_n none x (sides y) (constant S1024x256 .f32 0x00000000#32) := by
    unfold out0_2
    rw [View.canon_unit_zero (by decide), View.ld_unit_zero (S := S1024x7168) (by decide), ← joined y]
    unfold k0_pay1
    rw [← load y 0 inb_S8x256x896_S1x256x896_0_0_0, ← load y 1 inb_S8x256x896_S1x256x896_1_0_0, ← load y 2 inb_S8x256x896_S1x256x896_2_0_0,
      ← load y 3 inb_S8x256x896_S1x256x896_3_0_0, ← load y 4 inb_S8x256x896_S1x256x896_4_0_0, ← load y 5 inb_S8x256x896_S1x256x896_5_0_0,
      ← load y 6 inb_S8x256x896_S1x256x896_6_0_0, ← load y 7 inb_S8x256x896_S1x256x896_7_0_0]
    rfl
  rw [e]
  pointwise [sides]

/-- The result after the run. -/
theorem value (A : (⟨S2048x7168, .bf16⟩ : BufTy).Contents (Elt Ideal)) (B : (⟨S8x2048x896, .bf16⟩ : BufTy).Contents (Elt Ideal))
    (hA : V (F := Ideal) m c main_arg2 = A) (hB : V (F := Ideal) m c main_arg1 = B) (r : Fin 2048) (s : Fin 2048) :
    ((dats (F := Ideal) m 0 c).arrAt 2 cfg0.N : (⟨S2048x2048, .f32⟩ : BufTy).Contents (Elt Ideal)) (ix2 r s)
      = ∑ k : Fin 7168, A (ix2 r k) * B (ix3 ⟨k.val / 896, by omega⟩ s ⟨k.val % 896, by omega⟩) := by
  obtain ⟨t, ht⟩ : ∃ t : Fin cfg0.N, t.val = r.val / 1024 * 8 + s.val / 256 := ⟨⟨_, by show _ < 16; omega⟩, rfl⟩
  have hx := congrFun (Value.blocks2 (F := Ideal) m c t (flush2 t)) (ix2 ⟨r.val % 1024, by omega⟩ ⟨s.val % 256, by omega⟩)
  rw [Value.flushed2] at hx
  refine ((read2 _ t ⟨r.val % 1024, by omega⟩ ⟨s.val % 256, by omega⟩ r s (by show r.val = _ / 8 * 1024 + r.val % 1024; omega) (by show s.val = _ % 8 * 256 + s.val % 256; omega)).symm.trans hx).trans ?_
  refine (body (iblk m c 0 t) (iblk m c 1 t) ⟨r.val % 1024, by omega⟩ ⟨s.val % 256, by omega⟩).trans ?_
  subst hA hB
  refine Finset.sum_congr rfl fun k _ => ?_
  exact congrArg₂ (· * ·) (read0 (V (F := Ideal) m c main_arg2) t _ k r (by show r.val = _ / 8 * 1024 + r.val % 1024; omega))
    (read1 (V (F := Ideal) m c main_arg1) t _ _ _ s (by show s.val = _ % 8 * 256 + s.val % 256; omega))

end kernel

section reference

open Idealize.ShloMosaic Cert.Reference2Ideal Cert.Reference2Ideal.Read

/-- The slices side by side. -/
theorem slices (w : (⟨S8x2048x896, .bf16⟩ : BufTy).Contents (Elt Ideal)) (k : Fin 2048) (s : Fin 7168) :
    val_main_v3 (F := Ideal) w (ix2 k s) = w (ix3 ⟨s.val / 896, by omega⟩ k ⟨s.val % 896, by omega⟩) := by
  rw [val_main_v3_apply, val_main_v2_apply, val_main_v1_apply]
  refine congrArg w ?_
  funext a
  apply Fin.ext
  match a with
  | ⟨0, _⟩ => show (k.val * 7168 + s.val) / 896 % 8 = s.val / 896; omega
  | ⟨1, _⟩ => show (k.val * 7168 + s.val) / 7168 = k.val; omega
  | ⟨2, _⟩ => show (k.val * 7168 + s.val) % 896 = s.val % 896; omega

/-- The reference's result. -/
theorem ref (A : (⟨S2048x7168, .bf16⟩ : BufTy).Contents (Elt Ideal)) (B : (⟨S8x2048x896, .bf16⟩ : BufTy).Contents (Elt Ideal)) (r : Fin 2048) (s : Fin 2048) :
    val_main_v6 (F := Ideal) B A (ix2 r s) = ∑ k : Fin 7168, A (ix2 r k) * B (ix3 ⟨k.val / 896, by omega⟩ s ⟨k.val % 896, by omega⟩) := by
  pointwise [val_main_v6, val_main_v5]
  exact Finset.sum_congr rfl fun k _ => congrArg (A (ix2 r k) * ·) (slices B s k)

/-- The kernel's result is the reference's. -/
theorem same (m : (ℓ : Loc Cert.Kernel2Ideal.nD Cert.Kernel2Ideal.τ Cert.Kernel2Ideal.sig) → Buf (Elt Ideal) ℓ) (c : Dev Cert.Kernel2Ideal.nD)
    (A : (⟨S2048x7168, .bf16⟩ : BufTy).Contents (Elt Ideal)) (B : (⟨S8x2048x896, .bf16⟩ : BufTy).Contents (Elt Ideal))
    (hA : m ((c.tc : Thread _ _).loc Cert.Kernel2Ideal.main_arg2) = A) (hB : m ((c.tc : Thread _ _).loc Cert.Kernel2Ideal.main_arg1) = B) :
    val_main_v6 (F := Ideal) B A = (Cert.Kernel2Ideal.Gen.dats (F := Ideal) m 0 c).arrAt 2 Cert.Kernel2Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩)
    (Cert.Reference2Ideal.Value.run (F := Ideal) m ρ)

/-- From equal arguments the kernel and the reference end with the same array. -/
theorem same_results : Cert.algebraic_Kernel2Ideal_Reference2Ideal (hKernel2Ideal := Cert.Kernel2Ideal.Gen.facts)
    (hReference2Ideal := Cert.Reference2Ideal.Gen.facts) := by
  intro m g m' g' _ h
  refine ⟨fun c => (Cert.Kernel2Ideal.Gen.dats (F := Ideal) m 0 c).arrAt 2 Cert.Kernel2Ideal.cfg0.N,
    Cert.Kernel2Ideal.Value.run_blocks (F := Ideal) m g, ?_⟩
  refine (θ_run Cert.Reference2Ideal.defs _ _).mono (fun r hr c => ?_) (Cert.Reference2Ideal.Value.run (F := Ideal) m' g')
  obtain ⟨r0, rest⟩ := hr c
  obtain ⟨h0, h1, h2⟩ := h c
  exact ⟨r0.trans ((Cert.Reference2Ideal.Read.val_main_v6_eq _ _).trans (same m c _ _ h2.symm h1.symm)), rest⟩

end claims

end Cert.Product2

end
-- ==== Proof.Product3.lean ====
/-
The gradient of the odd layer's input projection by its weight: each block of the result is a product of a block of columns
of one array, transposed, and a block of columns of another.
-/
module

public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product3

section kernel

open Idealize.ShloMosaic Idealize.SL.Sem Cert.Kernel3Ideal Cert.Kernel3Ideal.Gen Idealize.ShloMosaic.TcCoe

variable (m : (ℓ : Loc nD τ sig) → Buf (Elt Ideal) ℓ) (c : Dev nD)

theorem index0 : ∀ t : Fin cfg0.N, win0_0.index t 0 = 0 ∧ win0_0.index t 1 = t.val / 2 :=
  (by decide +kernel : ∀ t : Fin grid0.N, win0_0.index t 0 = 0 ∧ win0_0.index t 1 = t.val / 2)

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

theorem flush2 : ∀ t : Fin cfg0.N, (cfg0.win 2).flush t = true :=
  (by decide +kernel : ∀ t : Fin grid0.N, (cfg0.win 2).flush t = true)

/-- A block of the first factor's columns. -/
theorem read0 (X : (⟨S2048x3200, .bf16⟩ : BufTy).Contents (Elt Ideal)) (t : Fin cfg0.N) (k : Fin 2048) (r : Fin 640) (r' : Fin 3200)
    (h1 : r'.val = t.val / 2 * 640 + r.val) :
    (((cfg0.win 0).blk t).view.read (Elt Ideal) X : Vec Ideal S2048x640 .bf16) (ix2 k r) = X (ix2 k r') := by
  have hi := index0 t
  rw [View.read_apply]
  refine congrArg X ?_
  funext a
  apply Fin.ext
  match a with
  | ⟨0, _⟩ => show win0_0.index t 0 * 2048 + 1 * k.val = k.val; rw [hi.1]; omega
  | ⟨1, _⟩ => show win0_0.index t 1 * 640 + 1 * r.val = r'.val; rw [hi.2, h1]; omega

/-- A block of the second factor's columns. -/
theorem read1 (X : (⟨S2048x2048, .bf16⟩ : BufTy).Contents (Elt Ideal)) (t : Fin cfg0.N) (k : Fin 2048) (s : Fin 1024) (s' : Fin 2048)
    (h1 : s'.val = t.val % 2 * 1024 + s.val) :
    (((cfg0.win 1).blk t).view.read (Elt Ideal) X : Vec Ideal S2048x1024 .bf16) (ix2 k s) = X (ix2 k s') := by
  have hi := index1 t
  rw [View.read_apply]
  refine congrArg X ?_
  funext a
  apply Fin.ext
  match a with
  | ⟨0, _⟩ => show win0_1.index t 0 * 2048 + 1 * k.val = k.val; rw [hi.1]; omega
  | ⟨1, _⟩ => show win0_1.index t 1 * 1024 + 1 * s.val = s'.val; rw [hi.2, h1]; omega

/-- A block of the result. -/
theorem read2 (X : (⟨S1x3200x2048, .bf16⟩ : BufTy).Contents (Elt Ideal)) (t : Fin cfg0.N) (r : Fin 640) (s : Fin 1024) (r' : Fin 3200) (s' : Fin 2048)
    (h1 : r'.val = t.val / 2 * 640 + r.val) (h2 : s'.val = t.val % 2 * 1024 + s.val) :
    (((cfg0.win 2).blk t).view.read (Elt Ideal) X : Vec Ideal S1x640x1024 .bf16) (ix3 0 r s) = X (ix3 0 r' s') := by
  have hi := index2 t
  rw [View.read_apply]
  refine congrArg X ?_
  funext a
  apply Fin.ext
  match a with
  | ⟨0, _⟩ => show win0_2.index t 0 * 1 + 1 * 0 = 0; rw [hi.1]
  | ⟨1, _⟩ => show win0_2.index t 1 * 640 + 1 * r.val = r'.val; rw [hi.2.1, h1]; omega
  | ⟨2, _⟩ => show win0_2.index t 2 * 1024 + 1 * s.val = s'.val; rw [hi.2.2, h2]; omega

/-- The body's product. -/
theorem body (x : Vec Ideal S2048x640 .bf16) (y : Vec Ideal S2048x1024 .bf16) (r : Fin 640) (s : Fin 1024) :
    out0_2 x y (ix3 0 r s) = ∑ k : Fin 2048, x (ix2 k r) * y (ix2 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x3200, .bf16⟩ : BufTy).Contents (Elt Ideal)) (B : (⟨S2048x2048, .bf16⟩ : BufTy).Contents (Elt Ideal))
    (hA : V (F := Ideal) m c main_arg2 = A) (hB : V (F := Ideal) m c main_arg0 = B) (r : Fin 3200) (s : Fin 2048) :
    ((dats (F := Ideal) m 0 c).arrAt 2 cfg0.N : (⟨S1x3200x2048, .bf16⟩ : BufTy).Contents (Elt Ideal)) (ix3 0 r s)
      = ∑ k : Fin 2048, A (ix2 k r) * B (ix2 k s) := by
  obtain ⟨t, ht⟩ : ∃ t : Fin cfg0.N, t.val = r.val / 640 * 2 + s.val / 1024 := ⟨⟨_, by show _ < 10; omega⟩, rfl⟩
  have hx := congrFun (Value.blocks2 (F := Ideal) m c t (flush2 t)) (ix3 0 ⟨r.val % 640, by omega⟩ ⟨s.val % 1024, by omega⟩)
  rw [Value.flushed2] at hx
  refine ((read2 _ t ⟨r.val % 640, by omega⟩ ⟨s.val % 1024, by omega⟩ r s (by show r.val = _ / 2 * 640 + r.val % 640; omega) (by show s.val = _ % 2 * 1024 + s.val % 1024; omega)).symm.trans hx).trans ?_
  refine (body (iblk m c 0 t) (iblk m c 1 t) ⟨r.val % 640, by omega⟩ ⟨s.val % 1024, by omega⟩).trans ?_
  subst hA hB
  refine Finset.sum_congr rfl fun k _ => ?_
  exact congrArg₂ (· * ·) (read0 (V (F := Ideal) m c main_arg2) t k _ r (by show r.val = _ / 2 * 640 + r.val % 640; omega))
    (read1 (V (F := Ideal) m c main_arg0) t k _ s (by show s.val = _ % 2 * 1024 + s.val % 1024; omega))

end kernel

section reference

open Idealize.ShloMosaic Cert.Reference3Ideal Cert.Reference3Ideal.Read

/-- The reference's result. -/
theorem ref (A : (⟨S2048x3200, .bf16⟩ : BufTy).Contents (Elt Ideal)) (B : (⟨S2048x2048, .bf16⟩ : BufTy).Contents (Elt Ideal)) (r : Fin 3200) (s : Fin 2048) :
    val_main_v10 (F := Ideal) B A (ix3 0 r s) = ∑ k : Fin 2048, A (ix2 k r) * B (ix2 k s) := by
  pointwise [val_main_v10, val_main_v9, val_main_v8, val_main_v7, val_main_v6, val_main_v5, val_main_v1]

/-- The kernel's result is the reference's. -/
theorem same (m : (ℓ : Loc Cert.Kernel3Ideal.nD Cert.Kernel3Ideal.τ Cert.Kernel3Ideal.sig) → Buf (Elt Ideal) ℓ) (c : Dev Cert.Kernel3Ideal.nD)
    (A : (⟨S2048x3200, .bf16⟩ : BufTy).Contents (Elt Ideal)) (B : (⟨S2048x2048, .bf16⟩ : BufTy).Contents (Elt Ideal))
    (hA : m ((c.tc : Thread _ _).loc Cert.Kernel3Ideal.main_arg2) = A) (hB : m ((c.tc : Thread _ _).loc Cert.Kernel3Ideal.main_arg0) = B) :
    val_main_v10 (F := Ideal) B A = (Cert.Kernel3Ideal.Gen.dats (F := Ideal) m 0 c).arrAt 2 Cert.Kernel3Ideal.cfg0.N := by
  funext i
  have e : i = ix3 0 (i 1) (i 2) := by
    funext a
    match a with
    | ⟨0, _⟩ => exact Fin.ext (by have := (i 0).isLt; show (i 0).val = 0; exact Nat.lt_one_iff.1 this)
    | ⟨1, _⟩ => rfl
    | ⟨2, _⟩ => rfl
  rw [e]
  exact (ref A B (i 1) (i 2)).trans (value m c A B hA hB (i 1) (i 2)).symm

end reference

section claims

open Idealize.ShloMosaic Idealize.SL.Sem

/-- The reference runs to its end, its arguments unchanged; it declares no semaphore. -/
theorem frame_reference : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run (F := Ideal) m ρ)

/-- From equal arguments the kernel and the reference end with the same array. -/
theorem same_results : Cert.algebraic_Kernel3Ideal_Reference3Ideal (hKernel3Ideal := Cert.Kernel3Ideal.Gen.facts)
    (hReference3Ideal := Cert.Reference3Ideal.Gen.facts) := by
  intro m g m' g' _ h
  refine ⟨fun c => (Cert.Kernel3Ideal.Gen.dats (F := Ideal) m 0 c).arrAt 2 Cert.Kernel3Ideal.cfg0.N,
    Cert.Kernel3Ideal.Value.run_blocks (F := Ideal) m g, ?_⟩
  refine (θ_run Cert.Reference3Ideal.defs _ _).mono (fun r hr c => ?_) (Cert.Reference3Ideal.Value.run (F := Ideal) m' g')
  obtain ⟨r0, rest⟩ := hr c
  obtain ⟨h0, h1, h2⟩ := h c
  exact ⟨r0.trans ((Cert.Reference3Ideal.Read.val_main_v10_eq _ _).trans (same m c _ _ h2.symm h0.symm)), rest⟩

end claims

end Cert.Product3

end
-- ==== Proof.Product4.lean ====
/-
The gradient of the odd layer's output projection by its weight: each block of the result is a product of a block of columns
of one array, transposed, and a block of columns of another.
-/
module

public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product4

section kernel

open Idealize.ShloMosaic Idealize.SL.Sem Cert.Kernel4Ideal Cert.Kernel4Ideal.Gen Idealize.ShloMosaic.TcCoe

variable (m : (ℓ : Loc nD τ sig) → Buf (Elt Ideal) ℓ) (c : Dev nD)

theorem index0 : ∀ t : Fin cfg0.N, win0_0.index t 0 = 0 ∧ win0_0.index t 1 = t.val / 2 :=
  (by decide +kernel : ∀ t : Fin grid0.N, win0_0.index t 0 = 0 ∧ win0_0.index t 1 = t.val / 2)

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

theorem flush2 : ∀ t : Fin cfg0.N, (cfg0.win 2).flush t = true :=
  (by decide +kernel : ∀ t : Fin grid0.N, (cfg0.win 2).flush t = true)

/-- A block of the first factor's columns. -/
theorem read0 (X : (⟨S2048x2048, .bf16⟩ : BufTy).Contents (Elt Ideal)) (t : Fin cfg0.N) (k : Fin 2048) (r : Fin 1024) (r' : Fin 2048)
    (h1 : r'.val = t.val / 2 * 1024 + r.val) :
    (((cfg0.win 0).blk t).view.read (Elt Ideal) X : Vec Ideal S2048x1024 .bf16) (ix2 k r) = X (ix2 k r') := by
  have hi := index0 t
  rw [View.read_apply]
  refine congrArg X ?_
  funext a
  apply Fin.ext
  match a with
  | ⟨0, _⟩ => show win0_0.index t 0 * 2048 + 1 * k.val = k.val; rw [hi.1]; omega
  | ⟨1, _⟩ => show win0_0.index t 1 * 1024 + 1 * r.val = r'.val; rw [hi.2, h1]; omega

/-- A block of the second factor's columns. -/
theorem read1 (X : (⟨S2048x2048, .bf16⟩ : BufTy).Contents (Elt Ideal)) (t : Fin cfg0.N) (k : Fin 2048) (s : Fin 1024) (s' : Fin 2048)
    (h1 : s'.val = t.val % 2 * 1024 + s.val) :
    (((cfg0.win 1).blk t).view.read (Elt Ideal) X : Vec Ideal S2048x1024 .bf16) (ix2 k s) = X (ix2 k s') := by
  have hi := index1 t
  rw [View.read_apply]
  refine congrArg X ?_
  funext a
  apply Fin.ext
  match a with
  | ⟨0, _⟩ => show win0_1.index t 0 * 2048 + 1 * k.val = k.val; rw [hi.1]; omega
  | ⟨1, _⟩ => show win0_1.index t 1 * 1024 + 1 * s.val = s'.val; rw [hi.2, h1]; omega

/-- A block of the result. -/
theorem read2 (X : (⟨S1x2048x2048, .bf16⟩ : BufTy).Contents (Elt Ideal)) (t : Fin cfg0.N) (r : Fin 1024) (s : Fin 1024) (r' : Fin 2048) (s' : Fin 2048)
    (h1 : r'.val = t.val / 2 * 1024 + r.val) (h2 : s'.val = t.val % 2 * 1024 + s.val) :
    (((cfg0.win 2).blk t).view.read (Elt Ideal) X : Vec Ideal S1x1024x1024 .bf16) (ix3 0 r s) = X (ix3 0 r' s') := by
  have hi := index2 t
  rw [View.read_apply]
  refine congrArg X ?_
  funext a
  apply Fin.ext
  match a with
  | ⟨0, _⟩ => show win0_2.index t 0 * 1 + 1 * 0 = 0; rw [hi.1]
  | ⟨1, _⟩ => show win0_2.index t 1 * 1024 + 1 * r.val = r'.val; rw [hi.2.1, h1]; omega
  | ⟨2, _⟩ => show win0_2.index t 2 * 1024 + 1 * s.val = s'.val; rw [hi.2.2, h2]; omega

/-- The body's product. -/
theorem body (x : Vec Ideal S2048x1024 .bf16) (y : Vec Ideal S2048x1024 .bf16) (r : Fin 1024) (s : Fin 1024) :
    out0_2 x y (ix3 0 r s) = ∑ k : Fin 2048, x (ix2 k r) * y (ix2 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S2048x2048, .bf16⟩ : BufTy).Contents (Elt Ideal))
    (hA : V (F := Ideal) m c main_arg0 = A) (hB : V (F := Ideal) m c main_arg2 = B) (r : Fin 2048) (s : Fin 2048) :
    ((dats (F := Ideal) m 0 c).arrAt 2 cfg0.N : (⟨S1x2048x2048, .bf16⟩ : BufTy).Contents (Elt Ideal)) (ix3 0 r s)
      = ∑ k : Fin 2048, A (ix2 k r) * B (ix2 k s) := by
  obtain ⟨t, ht⟩ : ∃ t : Fin cfg0.N, t.val = r.val / 1024 * 2 + s.val / 1024 := ⟨⟨_, by show _ < 4; omega⟩, rfl⟩
  have hx := congrFun (Value.blocks2 (F := Ideal) m c t (flush2 t)) (ix3 0 ⟨r.val % 1024, by omega⟩ ⟨s.val % 1024, by omega⟩)
  rw [Value.flushed2] at hx
  refine ((read2 _ t ⟨r.val % 1024, by omega⟩ ⟨s.val % 1024, by omega⟩ r s (by show r.val = _ / 2 * 1024 + r.val % 1024; omega) (by show s.val = _ % 2 * 1024 + s.val % 1024; omega)).symm.trans hx).trans ?_
  refine (body (iblk m c 0 t) (iblk m c 1 t) ⟨r.val % 1024, by omega⟩ ⟨s.val % 1024, by omega⟩).trans ?_
  subst hA hB
  refine Finset.sum_congr rfl fun k _ => ?_
  exact congrArg₂ (· * ·) (read0 (V (F := Ideal) m c main_arg0) t k _ r (by show r.val = _ / 2 * 1024 + r.val % 1024; omega))
    (read1 (V (F := Ideal) m c main_arg2) t k _ s (by show s.val = _ % 2 * 1024 + s.val % 1024; omega))

end kernel

section reference

open Idealize.ShloMosaic Cert.Reference4Ideal Cert.Reference4Ideal.Read

/-- The reference's result. -/
theorem ref (A : (⟨S2048x2048, .bf16⟩ : BufTy).Contents (Elt Ideal)) (B : (⟨S2048x2048, .bf16⟩ : BufTy).Contents (Elt Ideal)) (r : Fin 2048) (s : Fin 2048) :
    val_main_v8 (F := Ideal) A B (ix3 0 r s) = ∑ k : Fin 2048, A (ix2 k r) * B (ix2 k s) := by
  pointwise [val_main_v8, val_main_v7, val_main_v6, val_main_v5, val_main_v4, val_main_v1]
  exact Finset.sum_congr rfl fun k _ => mul_comm _ _

/-- The kernel's result is the reference's. -/
theorem same (m : (ℓ : Loc Cert.Kernel4Ideal.nD Cert.Kernel4Ideal.τ Cert.Kernel4Ideal.sig) → Buf (Elt Ideal) ℓ) (c : Dev Cert.Kernel4Ideal.nD)
    (A : (⟨S2048x2048, .bf16⟩ : BufTy).Contents (Elt Ideal)) (B : (⟨S2048x2048, .bf16⟩ : BufTy).Contents (Elt Ideal))
    (hA : m ((c.tc : Thread _ _).loc Cert.Kernel4Ideal.main_arg0) = A) (hB : m ((c.tc : Thread _ _).loc Cert.Kernel4Ideal.main_arg2) = B) :
    val_main_v8 (F := Ideal) A B = (Cert.Kernel4Ideal.Gen.dats (F := Ideal) m 0 c).arrAt 2 Cert.Kernel4Ideal.cfg0.N := by
  funext i
  have e : i = ix3 0 (i 1) (i 2) := by
    funext a
    match a with
    | ⟨0, _⟩ => exact Fin.ext (by have := (i 0).isLt; show (i 0).val = 0; exact Nat.lt_one_iff.1 this)
    | ⟨1, _⟩ => rfl
    | ⟨2, _⟩ => rfl
  rw [e]
  exact (ref A B (i 1) (i 2)).trans (value m c A B hA hB (i 1) (i 2)).symm

end reference

section claims

open Idealize.ShloMosaic Idealize.SL.Sem

/-- The reference runs to its end, its arguments unchanged; it declares no semaphore. -/
theorem frame_reference : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩)
    (Cert.Reference4Ideal.Value.run (F := Ideal) m ρ)

/-- From equal arguments the kernel and the reference end with the same array. -/
theorem same_results : Cert.algebraic_Kernel4Ideal_Reference4Ideal (hKernel4Ideal := Cert.Kernel4Ideal.Gen.facts)
    (hReference4Ideal := Cert.Reference4Ideal.Gen.facts) := by
  intro m g m' g' _ h
  refine ⟨fun c => (Cert.Kernel4Ideal.Gen.dats (F := Ideal) m 0 c).arrAt 2 Cert.Kernel4Ideal.cfg0.N,
    Cert.Kernel4Ideal.Value.run_blocks (F := Ideal) m g, ?_⟩
  refine (θ_run Cert.Reference4Ideal.defs _ _).mono (fun r hr c => ?_) (Cert.Reference4Ideal.Value.run (F := Ideal) m' g')
  obtain ⟨r0, rest⟩ := hr c
  obtain ⟨h0, h1, h2⟩ := h c
  exact ⟨r0.trans ((Cert.Reference4Ideal.Read.val_main_v8_eq _ _).trans (same m c _ _ h0.symm h2.symm)), rest⟩

end claims

end Cert.Product4

end
-- ==== Proof.Product5.lean ====
/-
The gradient of the even layer's output projection by its weight: each block of the result is a product of a block of columns
of one array, transposed, and a block of columns of another.
-/
module

public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product5

section kernel

open Idealize.ShloMosaic Idealize.SL.Sem Cert.Kernel5Ideal Cert.Kernel5Ideal.Gen Idealize.ShloMosaic.TcCoe

variable (m : (ℓ : Loc nD τ sig) → Buf (Elt Ideal) ℓ) (c : Dev nD)

theorem index0 : ∀ t : Fin cfg0.N, win0_0.index t 0 = 0 ∧ win0_0.index t 1 = t.val / 2 :=
  (by decide +kernel : ∀ t : Fin grid0.N, win0_0.index t 0 = 0 ∧ win0_0.index t 1 = t.val / 2)

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

theorem index2 : ∀ t : Fin cfg0.N, win0_2.index t 0 = 0 ∧ win0_2.index t 1 = t.val / 2 ∧ win0_2.index t 2 = t.val % 2 :=
  (by decide +kernel : ∀ t : Fin grid0.N, win0_2.index t 0 = 0 ∧ win0_2.index t 1 = t.val / 2 ∧ win0_2.index t 2 = t.val % 2)

theorem flush2 : ∀ t : Fin cfg0.N, (cfg0.win 2).flush t = true :=
  (by decide +kernel : ∀ t : Fin grid0.N, (cfg0.win 2).flush t = true)

/-- A block of the first factor's columns. -/
theorem read0 (X : (⟨S2048x2048, .bf16⟩ : BufTy).Contents (Elt Ideal)) (t : Fin cfg0.N) (k : Fin 2048) (r : Fin 1024) (r' : Fin 2048)
    (h1 : r'.val = t.val / 2 * 1024 + r.val) :
    (((cfg0.win 0).blk t).view.read (Elt Ideal) X : Vec Ideal S2048x1024 .bf16) (ix2 k r) = X (ix2 k r') := by
  have hi := index0 t
  rw [View.read_apply]
  refine congrArg X ?_
  funext a
  apply Fin.ext
  match a with
  | ⟨0, _⟩ => show win0_0.index t 0 * 2048 + 1 * k.val = k.val; rw [hi.1]; omega
  | ⟨1, _⟩ => show win0_0.index t 1 * 1024 + 1 * r.val = r'.val; rw [hi.2, h1]; omega

/-- A block of the second factor's columns. -/
theorem read1 (X : (⟨S2048x2048, .bf16⟩ : BufTy).Contents (Elt Ideal)) (t : Fin cfg0.N) (k : Fin 2048) (s : Fin 1024) (s' : Fin 2048)
    (h1 : s'.val = t.val % 2 * 1024 + s.val) :
    (((cfg0.win 1).blk t).view.read (Elt Ideal) X : Vec Ideal S2048x1024 .bf16) (ix2 k s) = X (ix2 k s') := by
  have hi := index1 t
  rw [View.read_apply]
  refine congrArg X ?_
  funext a
  apply Fin.ext
  match a with
  | ⟨0, _⟩ => show win0_1.index t 0 * 2048 + 1 * k.val = k.val; rw [hi.1]; omega
  | ⟨1, _⟩ => show win0_1.index t 1 * 1024 + 1 * s.val = s'.val; rw [hi.2, h1]; omega

/-- A block of the result. -/
theorem read2 (X : (⟨S1x2048x2048, .bf16⟩ : BufTy).Contents (Elt Ideal)) (t : Fin cfg0.N) (r : Fin 1024) (s : Fin 1024) (r' : Fin 2048) (s' : Fin 2048)
    (h1 : r'.val = t.val / 2 * 1024 + r.val) (h2 : s'.val = t.val % 2 * 1024 + s.val) :
    (((cfg0.win 2).blk t).view.read (Elt Ideal) X : Vec Ideal S1x1024x1024 .bf16) (ix3 0 r s) = X (ix3 0 r' s') := by
  have hi := index2 t
  rw [View.read_apply]
  refine congrArg X ?_
  funext a
  apply Fin.ext
  match a with
  | ⟨0, _⟩ => show win0_2.index t 0 * 1 + 1 * 0 = 0; rw [hi.1]
  | ⟨1, _⟩ => show win0_2.index t 1 * 1024 + 1 * r.val = r'.val; rw [hi.2.1, h1]; omega
  | ⟨2, _⟩ => show win0_2.index t 2 * 1024 + 1 * s.val = s'.val; rw [hi.2.2, h2]; omega

/-- The body's product. -/
theorem body (x : Vec Ideal S2048x1024 .bf16) (y : Vec Ideal S2048x1024 .bf16) (r : Fin 1024) (s : Fin 1024) :
    out0_2 x y (ix3 0 r s) = ∑ k : Fin 2048, x (ix2 k r) * y (ix2 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S2048x2048, .bf16⟩ : BufTy).Contents (Elt Ideal))
    (hA : V (F := Ideal) m c main_arg0 = A) (hB : V (F := Ideal) m c main_arg2 = B) (r : Fin 2048) (s : Fin 2048) :
    ((dats (F := Ideal) m 0 c).arrAt 2 cfg0.N : (⟨S1x2048x2048, .bf16⟩ : BufTy).Contents (Elt Ideal)) (ix3 0 r s)
      = ∑ k : Fin 2048, A (ix2 k r) * B (ix2 k s) := by
  obtain ⟨t, ht⟩ : ∃ t : Fin cfg0.N, t.val = r.val / 1024 * 2 + s.val / 1024 := ⟨⟨_, by show _ < 4; omega⟩, rfl⟩
  have hx := congrFun (Value.blocks2 (F := Ideal) m c t (flush2 t)) (ix3 0 ⟨r.val % 1024, by omega⟩ ⟨s.val % 1024, by omega⟩)
  rw [Value.flushed2] at hx
  refine ((read2 _ t ⟨r.val % 1024, by omega⟩ ⟨s.val % 1024, by omega⟩ r s (by show r.val = _ / 2 * 1024 + r.val % 1024; omega) (by show s.val = _ % 2 * 1024 + s.val % 1024; omega)).symm.trans hx).trans ?_
  refine (body (iblk m c 0 t) (iblk m c 1 t) ⟨r.val % 1024, by omega⟩ ⟨s.val % 1024, by omega⟩).trans ?_
  subst hA hB
  refine Finset.sum_congr rfl fun k _ => ?_
  exact congrArg₂ (· * ·) (read0 (V (F := Ideal) m c main_arg0) t k _ r (by show r.val = _ / 2 * 1024 + r.val % 1024; omega))
    (read1 (V (F := Ideal) m c main_arg2) t k _ s (by show s.val = _ % 2 * 1024 + s.val % 1024; omega))

end kernel

section reference

open Idealize.ShloMosaic Cert.Reference5Ideal Cert.Reference5Ideal.Read

/-- The reference's result. -/
theorem ref (A : (⟨S2048x2048, .bf16⟩ : BufTy).Contents (Elt Ideal)) (B : (⟨S2048x2048, .bf16⟩ : BufTy).Contents (Elt Ideal)) (r : Fin 2048) (s : Fin 2048) :
    val_main_v8 (F := Ideal) A B (ix3 0 r s) = ∑ k : Fin 2048, A (ix2 k r) * B (ix2 k s) := by
  pointwise [val_main_v8, val_main_v7, val_main_v6, val_main_v5, val_main_v4, val_main_v1]
  exact Finset.sum_congr rfl fun k _ => mul_comm _ _

/-- The kernel's result is the reference's. -/
theorem same (m : (ℓ : Loc Cert.Kernel5Ideal.nD Cert.Kernel5Ideal.τ Cert.Kernel5Ideal.sig) → Buf (Elt Ideal) ℓ) (c : Dev Cert.Kernel5Ideal.nD)
    (A : (⟨S2048x2048, .bf16⟩ : BufTy).Contents (Elt Ideal)) (B : (⟨S2048x2048, .bf16⟩ : BufTy).Contents (Elt Ideal))
    (hA : m ((c.tc : Thread _ _).loc Cert.Kernel5Ideal.main_arg0) = A) (hB : m ((c.tc : Thread _ _).loc Cert.Kernel5Ideal.main_arg2) = B) :
    val_main_v8 (F := Ideal) A B = (Cert.Kernel5Ideal.Gen.dats (F := Ideal) m 0 c).arrAt 2 Cert.Kernel5Ideal.cfg0.N := by
  funext i
  have e : i = ix3 0 (i 1) (i 2) := by
    funext a
    match a with
    | ⟨0, _⟩ => exact Fin.ext (by have := (i 0).isLt; show (i 0).val = 0; exact Nat.lt_one_iff.1 this)
    | ⟨1, _⟩ => rfl
    | ⟨2, _⟩ => rfl
  rw [e]
  exact (ref A B (i 1) (i 2)).trans (value m c A B hA hB (i 1) (i 2)).symm

end reference

section claims

open Idealize.ShloMosaic Idealize.SL.Sem

/-- The reference runs to its end, its arguments unchanged; it declares no semaphore. -/
theorem frame_reference : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩)
    (Cert.Reference5Ideal.Value.run (F := Ideal) m ρ)

/-- From equal arguments the kernel and the reference end with the same array. -/
theorem same_results : Cert.algebraic_Kernel5Ideal_Reference5Ideal (hKernel5Ideal := Cert.Kernel5Ideal.Gen.facts)
    (hReference5Ideal := Cert.Reference5Ideal.Gen.facts) := by
  intro m g m' g' _ h
  refine ⟨fun c => (Cert.Kernel5Ideal.Gen.dats (F := Ideal) m 0 c).arrAt 2 Cert.Kernel5Ideal.cfg0.N,
    Cert.Kernel5Ideal.Value.run_blocks (F := Ideal) m g, ?_⟩
  refine (θ_run Cert.Reference5Ideal.defs _ _).mono (fun r hr c => ?_) (Cert.Reference5Ideal.Value.run (F := Ideal) m' g')
  obtain ⟨r0, rest⟩ := hr c
  obtain ⟨h0, h1, h2⟩ := h c
  exact ⟨r0.trans ((Cert.Reference5Ideal.Read.val_main_v8_eq _ _).trans (same m c _ _ h0.symm h2.symm)), rest⟩

end claims

end Cert.Product5

end
-- ==== Proof.Product6.lean ====
/-
The gradient of the odd layer's output projection by its input: each block of the result is a product of a block of rows of
the cotangent and a block of rows of the weight, transposed.
-/
module

public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product6

section kernel

open Idealize.ShloMosaic Idealize.SL.Sem Cert.Kernel6Ideal Cert.Kernel6Ideal.Gen Idealize.ShloMosaic.TcCoe

variable (m : (ℓ : Loc nD τ sig) → Buf (Elt Ideal) ℓ) (c : Dev nD)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

theorem index1 : ∀ t : Fin cfg0.N, win0_1.index t 0 = 0 ∧ win0_1.index t 1 = t.val % 2 ∧ win0_1.index t 2 = 0 :=
  (by decide +kernel : ∀ t : Fin grid0.N, win0_1.index t 0 = 0 ∧ win0_1.index t 1 = t.val % 2 ∧ win0_1.index t 2 = 0)

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem flush2 : ∀ t : Fin cfg0.N, (cfg0.win 2).flush t = true :=
  (by decide +kernel : ∀ t : Fin grid0.N, (cfg0.win 2).flush t = true)

/-- A block of the first factor's rows. -/
theorem read0 (X : (⟨S2048x2048, .bf16⟩ : BufTy).Contents (Elt Ideal)) (t : Fin cfg0.N) (r : Fin 1024) (k : Fin 2048) (r' : Fin 2048)
    (h0 : r'.val = t.val / 2 * 1024 + r.val) :
    (((cfg0.win 0).blk t).view.read (Elt Ideal) X : Vec Ideal S1024x2048 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 2048 + 1 * k.val = k.val; rw [hi.2]; omega

/-- A block of the second factor. -/
theorem read1 (X : (⟨S1x2048x2048, .bf16⟩ : BufTy).Contents (Elt Ideal)) (t : Fin cfg0.N) (s : Fin 1024) (k : Fin 2048) (s' : Fin 2048)
    (h1 : s'.val = t.val % 2 * 1024 + s.val) :
    (((cfg0.win 1).blk t).view.read (Elt Ideal) X : Vec Ideal S1x1024x2048 .bf16) (ix3 0 s k) = X (ix3 0 s' k) := by
  have hi := index1 t
  rw [View.read_apply]
  refine congrArg X ?_
  funext a
  apply Fin.ext
  match a with
  | ⟨0, _⟩ => show win0_1.index t 0 * 1 + 1 * 0 = 0; rw [hi.1]
  | ⟨1, _⟩ => show win0_1.index t 1 * 1024 + 1 * s.val = s'.val; rw [hi.2.1, h1]; omega
  | ⟨2, _⟩ => show win0_1.index t 2 * 2048 + 1 * k.val = k.val; rw [hi.2.2]; omega

/-- A block of the result. -/
theorem read2 (X : (⟨S2048x2048, .f32⟩ : BufTy).Contents (Elt Ideal)) (t : Fin cfg0.N) (r : Fin 1024) (s : Fin 1024) (r' : Fin 2048) (s' : Fin 2048)
    (h0 : r'.val = t.val / 2 * 1024 + r.val) (h1 : s'.val = t.val % 2 * 1024 + s.val) :
    (((cfg0.win 2).blk t).view.read (Elt Ideal) X : Vec Ideal S1024x1024 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 1024 + 1 * s.val = s'.val; rw [hi.2, h1]; omega

/-- The body's product. -/
theorem body (x : Vec Ideal S1024x2048 .bf16) (y : Vec Ideal S1x1024x2048 .bf16) (r : Fin 1024) (s : Fin 1024) :
    out0_2 x y (ix2 r s) = ∑ k : Fin 2048, x (ix2 r k) * y (ix3 0 s k) := by
  have e : out0_2 x y = k0_pay1 y x := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S1x2048x2048, .bf16⟩ : BufTy).Contents (Elt Ideal))
    (hA : V (F := Ideal) m c main_arg2 = A) (hB : V (F := Ideal) m c main_arg1 = B) (r : Fin 2048) (s : Fin 2048) :
    ((dats (F := Ideal) m 0 c).arrAt 2 cfg0.N : (⟨S2048x2048, .f32⟩ : BufTy).Contents (Elt Ideal)) (ix2 r s)
      = ∑ k : Fin 2048, A (ix2 r k) * B (ix3 0 s k) := by
  obtain ⟨t, ht⟩ : ∃ t : Fin cfg0.N, t.val = r.val / 1024 * 2 + s.val / 1024 := ⟨⟨_, by show _ < 4; omega⟩, rfl⟩
  have hx := congrFun (Value.blocks2 (F := Ideal) m c t (flush2 t)) (ix2 ⟨r.val % 1024, by omega⟩ ⟨s.val % 1024, by omega⟩)
  rw [Value.flushed2] at hx
  refine ((read2 _ t ⟨r.val % 1024, by omega⟩ ⟨s.val % 1024, by omega⟩ r s (by show r.val = _ / 2 * 1024 + r.val % 1024; omega) (by show s.val = _ % 2 * 1024 + s.val % 1024; omega)).symm.trans hx).trans ?_
  refine (body (iblk m c 0 t) (iblk m c 1 t) ⟨r.val % 1024, by omega⟩ ⟨s.val % 1024, by omega⟩).trans ?_
  subst hA hB
  refine Finset.sum_congr rfl fun k _ => ?_
  exact congrArg₂ (· * ·) (read0 (V (F := Ideal) m c main_arg2) t _ k r (by show r.val = _ / 2 * 1024 + r.val % 1024; omega))
    (read1 (V (F := Ideal) m c main_arg1) t _ k s (by show s.val = _ % 2 * 1024 + s.val % 1024; omega))

end kernel

section reference

open Idealize.ShloMosaic Cert.Reference6Ideal Cert.Reference6Ideal.Read

/-- The reference's result. -/
theorem ref (A : (⟨S2048x2048, .bf16⟩ : BufTy).Contents (Elt Ideal)) (B : (⟨S1x2048x2048, .bf16⟩ : BufTy).Contents (Elt Ideal)) (r : Fin 2048) (s : Fin 2048) :
    val_main_v5 (F := Ideal) B A (ix2 r s) = ∑ k : Fin 2048, A (ix2 r k) * B (ix3 0 s k) := by
  pointwise [val_main_v5, val_main_v4, val_main_v2, val_main_v1]

/-- The kernel's result is the reference's. -/
theorem same (m : (ℓ : Loc Cert.Kernel6Ideal.nD Cert.Kernel6Ideal.τ Cert.Kernel6Ideal.sig) → Buf (Elt Ideal) ℓ) (c : Dev Cert.Kernel6Ideal.nD)
    (A : (⟨S2048x2048, .bf16⟩ : BufTy).Contents (Elt Ideal)) (B : (⟨S1x2048x2048, .bf16⟩ : BufTy).Contents (Elt Ideal))
    (hA : m ((c.tc : Thread _ _).loc Cert.Kernel6Ideal.main_arg2) = A) (hB : m ((c.tc : Thread _ _).loc Cert.Kernel6Ideal.main_arg1) = B) :
    val_main_v5 (F := Ideal) B A = (Cert.Kernel6Ideal.Gen.dats (F := Ideal) m 0 c).arrAt 2 Cert.Kernel6Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference6Ideal (hReference6Ideal := Cert.Reference6Ideal.Gen.facts) :=
  fun m ρ _ => (θ_run Cert.Reference6Ideal.defs _ _).mono
    (fun r h => ⟨fun c => (h c).2, sem_eq_zero_of_no_sems (by decide) r.2⟩)
    (Cert.Reference6Ideal.Value.run (F := Ideal) m ρ)

/-- From equal arguments the kernel and the reference end with the same array. -/
theorem same_results : Cert.algebraic_Kernel6Ideal_Reference6Ideal (hKernel6Ideal := Cert.Kernel6Ideal.Gen.facts)
    (hReference6Ideal := Cert.Reference6Ideal.Gen.facts) := by
  intro m g m' g' _ h
  refine ⟨fun c => (Cert.Kernel6Ideal.Gen.dats (F := Ideal) m 0 c).arrAt 2 Cert.Kernel6Ideal.cfg0.N,
    Cert.Kernel6Ideal.Value.run_blocks (F := Ideal) m g, ?_⟩
  refine (θ_run Cert.Reference6Ideal.defs _ _).mono (fun r hr c => ?_) (Cert.Reference6Ideal.Value.run (F := Ideal) m' g')
  obtain ⟨r0, rest⟩ := hr c
  obtain ⟨h0, h1, h2⟩ := h c
  exact ⟨r0.trans ((Cert.Reference6Ideal.Read.val_main_v5_eq _ _).trans (same m c _ _ h2.symm h1.symm)), rest⟩

end claims

end Cert.Product6

end
-- ==== Proof.Product7.lean ====
/-
The gradient of the queries' projection by its weight: each block of the result is a product of a block of columns
of one array, transposed, and a block of columns of another.
-/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product7

section kernel

open Idealize.ShloMosaic Idealize.SL.Sem Cert.Kernel7Ideal Cert.Kernel7Ideal.Gen Idealize.ShloMosaic.TcCoe

variable (m : (ℓ : Loc nD τ sig) → Buf (Elt Ideal) ℓ) (c : Dev nD)

theorem index0 : ∀ t : Fin cfg0.N, win0_0.index t 0 = 0 ∧ win0_0.index t 1 = t.val / 4 :=
  (by decide +kernel : ∀ t : Fin grid0.N, win0_0.index t 0 = 0 ∧ win0_0.index t 1 = t.val / 4)

theorem index1 : ∀ t : Fin cfg0.N, win0_1.index t 0 = 0 ∧ win0_1.index t 1 = t.val % 4 :=
  (by decide +kernel : ∀ t : Fin grid0.N, win0_1.index t 0 = 0 ∧ win0_1.index t 1 = t.val % 4)

theorem index2 : ∀ t : Fin cfg0.N, win0_2.index t 0 = 0 ∧ win0_2.index t 1 = t.val / 4 ∧ win0_2.index t 2 = t.val % 4 :=
  (by decide +kernel : ∀ t : Fin grid0.N, win0_2.index t 0 = 0 ∧ win0_2.index t 1 = t.val / 4 ∧ win0_2.index t 2 = t.val % 4)

theorem flush2 : ∀ t : Fin cfg0.N, (cfg0.win 2).flush t = true :=
  (by decide +kernel : ∀ t : Fin grid0.N, (cfg0.win 2).flush t = true)

/-- A block of the first factor's columns. -/
theorem read0 (X : (⟨S2048x512, .bf16⟩ : BufTy).Contents (Elt Ideal)) (t : Fin cfg0.N) (k : Fin 2048) (r : Fin 512) (r' : Fin 512)
    (h1 : r'.val = t.val / 4 * 512 + r.val) :
    (((cfg0.win 0).blk t).view.read (Elt Ideal) X : Vec Ideal S2048x512 .bf16) (ix2 k r) = X (ix2 k r') := by
  have hi := index0 t
  rw [View.read_apply]
  refine congrArg X ?_
  funext a
  apply Fin.ext
  match a with
  | ⟨0, _⟩ => show win0_0.index t 0 * 2048 + 1 * k.val = k.val; rw [hi.1]; omega
  | ⟨1, _⟩ => show win0_0.index t 1 * 512 + 1 * r.val = r'.val; rw [hi.2, h1]; omega

/-- A block of the second factor's columns. -/
theorem read1 (X : (⟨S2048x4096, .bf16⟩ : BufTy).Contents (Elt Ideal)) (t : Fin cfg0.N) (k : Fin 2048) (s : Fin 1024) (s' : Fin 4096)
    (h1 : s'.val = t.val % 4 * 1024 + s.val) :
    (((cfg0.win 1).blk t).view.read (Elt Ideal) X : Vec Ideal S2048x1024 .bf16) (ix2 k s) = X (ix2 k s') := by
  have hi := index1 t
  rw [View.read_apply]
  refine congrArg X ?_
  funext a
  apply Fin.ext
  match a with
  | ⟨0, _⟩ => show win0_1.index t 0 * 2048 + 1 * k.val = k.val; rw [hi.1]; omega
  | ⟨1, _⟩ => show win0_1.index t 1 * 1024 + 1 * s.val = s'.val; rw [hi.2, h1]; omega

/-- A block of the result. -/
theorem read2 (X : (⟨S1x512x4096, .bf16⟩ : BufTy).Contents (Elt Ideal)) (t : Fin cfg0.N) (r : Fin 512) (s : Fin 1024) (r' : Fin 512) (s' : Fin 4096)
    (h1 : r'.val = t.val / 4 * 512 + r.val) (h2 : s'.val = t.val % 4 * 1024 + s.val) :
    (((cfg0.win 2).blk t).view.read (Elt Ideal) X : Vec Ideal S1x512x1024 .bf16) (ix3 0 r s) = X (ix3 0 r' s') := by
  have hi := index2 t
  rw [View.read_apply]
  refine congrArg X ?_
  funext a
  apply Fin.ext
  match a with
  | ⟨0, _⟩ => show win0_2.index t 0 * 1 + 1 * 0 = 0; rw [hi.1]
  | ⟨1, _⟩ => show win0_2.index t 1 * 512 + 1 * r.val = r'.val; rw [hi.2.1, h1]; omega
  | ⟨2, _⟩ => show win0_2.index t 2 * 1024 + 1 * s.val = s'.val; rw [hi.2.2, h2]; omega

/-- The body's product. -/
theorem body (x : Vec Ideal S2048x512 .bf16) (y : Vec Ideal S2048x1024 .bf16) (r : Fin 512) (s : Fin 1024) :
    out0_2 x y (ix3 0 r s) = ∑ k : Fin 2048, x (ix2 k r) * y (ix2 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x512, .bf16⟩ : BufTy).Contents (Elt Ideal)) (B : (⟨S2048x4096, .bf16⟩ : BufTy).Contents (Elt Ideal))
    (hA : V (F := Ideal) m c main_arg0 = A) (hB : V (F := Ideal) m c main_arg2 = B) (r : Fin 512) (s : Fin 4096) :
    ((dats (F := Ideal) m 0 c).arrAt 2 cfg0.N : (⟨S1x512x4096, .bf16⟩ : BufTy).Contents (Elt Ideal)) (ix3 0 r s)
      = ∑ k : Fin 2048, A (ix2 k r) * B (ix2 k s) := by
  obtain ⟨t, ht⟩ : ∃ t : Fin cfg0.N, t.val = r.val / 512 * 4 + s.val / 1024 := ⟨⟨_, by show _ < 4; omega⟩, rfl⟩
  have hx := congrFun (Value.blocks2 (F := Ideal) m c t (flush2 t)) (ix3 0 ⟨r.val % 512, by omega⟩ ⟨s.val % 1024, by omega⟩)
  rw [Value.flushed2] at hx
  refine ((read2 _ t ⟨r.val % 512, by omega⟩ ⟨s.val % 1024, by omega⟩ r s (by show r.val = _ / 4 * 512 + r.val % 512; omega) (by show s.val = _ % 4 * 1024 + s.val % 1024; omega)).symm.trans hx).trans ?_
  refine (body (iblk m c 0 t) (iblk m c 1 t) ⟨r.val % 512, by omega⟩ ⟨s.val % 1024, by omega⟩).trans ?_
  subst hA hB
  refine Finset.sum_congr rfl fun k _ => ?_
  exact congrArg₂ (· * ·) (read0 (V (F := Ideal) m c main_arg0) t k _ r (by show r.val = _ / 4 * 512 + r.val % 512; omega))
    (read1 (V (F := Ideal) m c main_arg2) t k _ s (by show s.val = _ % 4 * 1024 + s.val % 1024; omega))

end kernel

section reference

open Idealize.ShloMosaic Cert.Reference7Ideal Cert.Reference7Ideal.Read

/-- The reference's result. -/
theorem ref (A : (⟨S2048x512, .bf16⟩ : BufTy).Contents (Elt Ideal)) (B : (⟨S2048x4096, .bf16⟩ : BufTy).Contents (Elt Ideal)) (r : Fin 512) (s : Fin 4096) :
    val_main_v8 (F := Ideal) A B (ix3 0 r s) = ∑ k : Fin 2048, A (ix2 k r) * B (ix2 k s) := by
  pointwise [val_main_v8, val_main_v7, val_main_v6, val_main_v5, val_main_v4, val_main_v1]
  exact Finset.sum_congr rfl fun k _ => mul_comm _ _

/-- The kernel's result is the reference's. -/
theorem same (m : (ℓ : Loc Cert.Kernel7Ideal.nD Cert.Kernel7Ideal.τ Cert.Kernel7Ideal.sig) → Buf (Elt Ideal) ℓ) (c : Dev Cert.Kernel7Ideal.nD)
    (A : (⟨S2048x512, .bf16⟩ : BufTy).Contents (Elt Ideal)) (B : (⟨S2048x4096, .bf16⟩ : BufTy).Contents (Elt Ideal))
    (hA : m ((c.tc : Thread _ _).loc Cert.Kernel7Ideal.main_arg0) = A) (hB : m ((c.tc : Thread _ _).loc Cert.Kernel7Ideal.main_arg2) = B) :
    val_main_v8 (F := Ideal) A B = (Cert.Kernel7Ideal.Gen.dats (F := Ideal) m 0 c).arrAt 2 Cert.Kernel7Ideal.cfg0.N := by
  funext i
  have e : i = ix3 0 (i 1) (i 2) := by
    funext a
    match a with
    | ⟨0, _⟩ => exact Fin.ext (by have := (i 0).isLt; show (i 0).val = 0; exact Nat.lt_one_iff.1 this)
    | ⟨1, _⟩ => rfl
    | ⟨2, _⟩ => rfl
  rw [e]
  exact (ref A B (i 1) (i 2)).trans (value m c A B hA hB (i 1) (i 2)).symm

end reference

section claims

open Idealize.ShloMosaic Idealize.SL.Sem

/-- The reference runs to its end, its arguments unchanged; it declares no semaphore. -/
theorem frame_reference : Cert.quiescent_Reference7Ideal (hReference7Ideal := Cert.Reference7Ideal.Gen.facts) :=
  fun m ρ _ => (θ_run Cert.Reference7Ideal.defs _ _).mono
    (fun r h => ⟨fun c => (h c).2, sem_eq_zero_of_no_sems (by decide) r.2⟩)
    (Cert.Reference7Ideal.Value.run (F := Ideal) m ρ)

/-- From equal arguments the kernel and the reference end with the same array. -/
theorem same_results : Cert.algebraic_Kernel7Ideal_Reference7Ideal (hKernel7Ideal := Cert.Kernel7Ideal.Gen.facts)
    (hReference7Ideal := Cert.Reference7Ideal.Gen.facts) := by
  intro m g m' g' _ h
  refine ⟨fun c => (Cert.Kernel7Ideal.Gen.dats (F := Ideal) m 0 c).arrAt 2 Cert.Kernel7Ideal.cfg0.N,
    Cert.Kernel7Ideal.Value.run_blocks (F := Ideal) m g, ?_⟩
  refine (θ_run Cert.Reference7Ideal.defs _ _).mono (fun r hr c => ?_) (Cert.Reference7Ideal.Value.run (F := Ideal) m' g')
  obtain ⟨r0, rest⟩ := hr c
  obtain ⟨h0, h1, h2⟩ := h c
  exact ⟨r0.trans ((Cert.Reference7Ideal.Read.val_main_v8_eq _ _).trans (same m c _ _ h0.symm h2.symm)), rest⟩

end claims

end Cert.Product7

end
-- ==== Proof.Product8.lean ====
/-
The gradient of the keys' and values' projection by its weight, in 8 slices of 512 columns: each block of the result is a product of a block of columns
of one array, transposed, and a block of columns of another.
-/
module

public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product8

section kernel

open Idealize.ShloMosaic Idealize.SL.Sem Cert.Kernel8Ideal Cert.Kernel8Ideal.Gen Idealize.ShloMosaic.TcCoe

variable (m : (ℓ : Loc nD τ sig) → Buf (Elt Ideal) ℓ) (c : Dev nD)

theorem index0 : ∀ t : Fin cfg0.N, win0_0.index t 0 = 0 ∧ win0_0.index t 1 = t.val / 8 :=
  (by decide +kernel : ∀ t : Fin grid0.N, win0_0.index t 0 = 0 ∧ win0_0.index t 1 = t.val / 8)

theorem index1 : ∀ t : Fin cfg0.N, win0_1.index t 0 = 0 ∧ win0_1.index t 1 = t.val % 8 :=
  (by decide +kernel : ∀ t : Fin grid0.N, win0_1.index t 0 = 0 ∧ win0_1.index t 1 = t.val % 8)

theorem index2 : ∀ t : Fin cfg0.N, win0_2.index t 0 = t.val % 8 ∧ win0_2.index t 1 = t.val / 8 ∧ win0_2.index t 2 = 0 :=
  (by decide +kernel : ∀ t : Fin grid0.N, win0_2.index t 0 = t.val % 8 ∧ win0_2.index t 1 = t.val / 8 ∧ win0_2.index t 2 = 0)

theorem flush2 : ∀ t : Fin cfg0.N, (cfg0.win 2).flush t = true :=
  (by decide +kernel : ∀ t : Fin grid0.N, (cfg0.win 2).flush t = true)

/-- A block of the first factor's columns. -/
theorem read0 (X : (⟨S2048x512, .bf16⟩ : BufTy).Contents (Elt Ideal)) (t : Fin cfg0.N) (k : Fin 2048) (r : Fin 512) (r' : Fin 512)
    (h1 : r'.val = t.val / 8 * 512 + r.val) :
    (((cfg0.win 0).blk t).view.read (Elt Ideal) X : Vec Ideal S2048x512 .bf16) (ix2 k r) = X (ix2 k r') := by
  have hi := index0 t
  rw [View.read_apply]
  refine congrArg X ?_
  funext a
  apply Fin.ext
  match a with
  | ⟨0, _⟩ => show win0_0.index t 0 * 2048 + 1 * k.val = k.val; rw [hi.1]; omega
  | ⟨1, _⟩ => show win0_0.index t 1 * 512 + 1 * r.val = r'.val; rw [hi.2, h1]; omega

/-- A block of the second factor's columns. -/
theorem read1 (X : (⟨S2048x4096, .bf16⟩ : BufTy).Contents (Elt Ideal)) (t : Fin cfg0.N) (k : Fin 2048) (s : Fin 512) (s' : Fin 4096)
    (h1 : s'.val = t.val % 8 * 512 + s.val) :
    (((cfg0.win 1).blk t).view.read (Elt Ideal) X : Vec Ideal S2048x512 .bf16) (ix2 k s) = X (ix2 k s') := by
  have hi := index1 t
  rw [View.read_apply]
  refine congrArg X ?_
  funext a
  apply Fin.ext
  match a with
  | ⟨0, _⟩ => show win0_1.index t 0 * 2048 + 1 * k.val = k.val; rw [hi.1]; omega
  | ⟨1, _⟩ => show win0_1.index t 1 * 512 + 1 * s.val = s'.val; rw [hi.2, h1]; omega

/-- A block of the result. -/
theorem read2 (X : (⟨S8x512x512, .bf16⟩ : BufTy).Contents (Elt Ideal)) (t : Fin cfg0.N) (r : Fin 512) (s : Fin 512) (a' : Fin 8) (r' : Fin 512)
    (h0 : a'.val = t.val % 8) (h1 : r'.val = t.val / 8 * 512 + r.val) :
    (((cfg0.win 2).blk t).view.read (Elt Ideal) X : Vec Ideal S1x512x512 .bf16) (ix3 0 r s) = X (ix3 a' r' s) := by
  have hi := index2 t
  rw [View.read_apply]
  refine congrArg X ?_
  funext a
  apply Fin.ext
  match a with
  | ⟨0, _⟩ => show win0_2.index t 0 * 1 + 1 * 0 = a'.val; rw [hi.1, h0]; omega
  | ⟨1, _⟩ => show win0_2.index t 1 * 512 + 1 * r.val = r'.val; rw [hi.2.1, h1]; omega
  | ⟨2, _⟩ => show win0_2.index t 2 * 512 + 1 * s.val = s.val; rw [hi.2.2]; omega

/-- The body's product. -/
theorem body (x : Vec Ideal S2048x512 .bf16) (y : Vec Ideal S2048x512 .bf16) (r : Fin 512) (s : Fin 512) :
    out0_2 x y (ix3 0 r s) = ∑ k : Fin 2048, x (ix2 k r) * y (ix2 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x512, .bf16⟩ : BufTy).Contents (Elt Ideal)) (B : (⟨S2048x4096, .bf16⟩ : BufTy).Contents (Elt Ideal))
    (hA : V (F := Ideal) m c main_arg0 = A) (hB : V (F := Ideal) m c main_arg2 = B) (a : Fin 8) (r : Fin 512) (s : Fin 512) :
    ((dats (F := Ideal) m 0 c).arrAt 2 cfg0.N : (⟨S8x512x512, .bf16⟩ : BufTy).Contents (Elt Ideal)) (ix3 a r s)
      = ∑ k : Fin 2048, A (ix2 k r) * B (ix2 k ⟨a.val * 512 + s.val, by omega⟩) := by
  obtain ⟨t, ht⟩ : ∃ t : Fin cfg0.N, t.val = r.val / 512 * 8 + a.val := ⟨⟨_, by show _ < 8; omega⟩, rfl⟩
  have hx := congrFun (Value.blocks2 (F := Ideal) m c t (flush2 t)) (ix3 0 ⟨r.val % 512, by omega⟩ s)
  rw [Value.flushed2] at hx
  refine ((read2 _ t ⟨r.val % 512, by omega⟩ s a r (by omega) (by show r.val = _ / 8 * 512 + r.val % 512; omega)).symm.trans hx).trans ?_
  refine (body (iblk m c 0 t) (iblk m c 1 t) ⟨r.val % 512, by omega⟩ s).trans ?_
  subst hA hB
  refine Finset.sum_congr rfl fun k _ => ?_
  exact congrArg₂ (· * ·) (read0 (V (F := Ideal) m c main_arg0) t k _ r (by show r.val = _ / 8 * 512 + r.val % 512; omega))
    (read1 (V (F := Ideal) m c main_arg2) t k s _ (by show a.val * 512 + s.val = _ % 8 * 512 + s.val; omega))

end kernel

section reference

open Idealize.ShloMosaic Cert.Reference8Ideal Cert.Reference8Ideal.Read

/-- The reference's result. -/
theorem ref (A : (⟨S2048x512, .bf16⟩ : BufTy).Contents (Elt Ideal)) (B : (⟨S2048x4096, .bf16⟩ : BufTy).Contents (Elt Ideal)) (a : Fin 8) (r : Fin 512) (s : Fin 512) :
    val_main_v10 (F := Ideal) A B (ix3 a r s) = ∑ k : Fin 2048, A (ix2 k r) * B (ix2 k ⟨a.val * 512 + s.val, by omega⟩) := by
  pointwise [val_main_v10, val_main_v9]
  rw [val_main_v8_apply, val_main_v7_apply]
  have e : idx_main_v7 (idx_main_v8 (ix3 r a s)) = ix2 (⟨a.val * 512 + s.val, by omega⟩ : Fin 4096) r := by
    funext b
    apply Fin.ext
    match b with
    | ⟨0, _⟩ => show ((r.val * 8 + a.val) * 512 + s.val) % 4096 = a.val * 512 + s.val; omega
    | ⟨1, _⟩ => show ((r.val * 8 + a.val) * 512 + s.val) / 4096 = r.val; omega
  rw [e]
  pointwise [val_main_v6, val_main_v5, val_main_v1]
  exact Finset.sum_congr rfl fun k _ => mul_comm _ _

/-- The kernel's result is the reference's. -/
theorem same (m : (ℓ : Loc Cert.Kernel8Ideal.nD Cert.Kernel8Ideal.τ Cert.Kernel8Ideal.sig) → Buf (Elt Ideal) ℓ) (c : Dev Cert.Kernel8Ideal.nD)
    (A : (⟨S2048x512, .bf16⟩ : BufTy).Contents (Elt Ideal)) (B : (⟨S2048x4096, .bf16⟩ : BufTy).Contents (Elt Ideal))
    (hA : m ((c.tc : Thread _ _).loc Cert.Kernel8Ideal.main_arg0) = A) (hB : m ((c.tc : Thread _ _).loc Cert.Kernel8Ideal.main_arg2) = B) :
    val_main_v10 (F := Ideal) A B = (Cert.Kernel8Ideal.Gen.dats (F := Ideal) m 0 c).arrAt 2 Cert.Kernel8Ideal.cfg0.N := by
  funext i
  have e : i = ix3 (i 0) (i 1) (i 2) := by
    funext a
    match a with
    | ⟨0, _⟩ => rfl
    | ⟨1, _⟩ => rfl
    | ⟨2, _⟩ => rfl
  rw [e]
  exact (ref A B (i 0) (i 1) (i 2)).trans (value m c A B hA hB (i 0) (i 1) (i 2)).symm

end reference

section claims

open Idealize.ShloMosaic Idealize.SL.Sem

/-- The reference runs to its end, its arguments unchanged; it declares no semaphore. -/
theorem frame_reference : Cert.quiescent_Reference8Ideal (hReference8Ideal := Cert.Reference8Ideal.Gen.facts) :=
  fun m ρ _ => (θ_run Cert.Reference8Ideal.defs _ _).mono
    (fun r h => ⟨fun c => (h c).2, sem_eq_zero_of_no_sems (by decide) r.2⟩)
    (Cert.Reference8Ideal.Value.run (F := Ideal) m ρ)

/-- From equal arguments the kernel and the reference end with the same array. -/
theorem same_results : Cert.algebraic_Kernel8Ideal_Reference8Ideal (hKernel8Ideal := Cert.Kernel8Ideal.Gen.facts)
    (hReference8Ideal := Cert.Reference8Ideal.Gen.facts) := by
  intro m g m' g' _ h
  refine ⟨fun c => (Cert.Kernel8Ideal.Gen.dats (F := Ideal) m 0 c).arrAt 2 Cert.Kernel8Ideal.cfg0.N,
    Cert.Kernel8Ideal.Value.run_blocks (F := Ideal) m g, ?_⟩
  refine (θ_run Cert.Reference8Ideal.defs _ _).mono (fun r hr c => ?_) (Cert.Reference8Ideal.Value.run (F := Ideal) m' g')
  obtain ⟨r0, rest⟩ := hr c
  obtain ⟨h0, h1, h2⟩ := h c
  exact ⟨r0.trans ((Cert.Reference8Ideal.Read.val_main_v10_eq _ _).trans (same m c _ _ h0.symm h2.symm)), rest⟩

end claims

end Cert.Product8

end
-- ==== Proof.Product9.lean ====
/-
The even layer's input projection: each block of the result is a product of a block of rows of the input and a slice of the
weight.
-/
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product9

section kernel

open Idealize.ShloMosaic Idealize.SL.Sem Cert.Kernel9Ideal Cert.Kernel9Ideal.Gen Idealize.ShloMosaic.TcCoe

variable (m : (ℓ : Loc nD τ sig) → Buf (Elt Ideal) ℓ) (c : Dev nD)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem flush2 : ∀ t : Fin cfg0.N, (cfg0.win 2).flush t = true :=
  (by decide +kernel : ∀ t : Fin grid0.N, (cfg0.win 2).flush t = true)

/-- A block of the first factor's rows. -/
theorem read0 (X : (⟨S2048x2048, .bf16⟩ : BufTy).Contents (Elt Ideal)) (t : Fin cfg0.N) (r : Fin 1024) (k : Fin 2048) (r' : Fin 2048)
    (h0 : r'.val = t.val / 8 * 1024 + r.val) :
    (((cfg0.win 0).blk t).view.read (Elt Ideal) X : Vec Ideal S1024x2048 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 2048 + 1 * k.val = k.val; rw [hi.2]; omega

/-- A block of the second factor. -/
theorem read1 (X : (⟨S8x2048x896, .bf16⟩ : BufTy).Contents (Elt Ideal)) (t : Fin cfg0.N) (k : Fin 2048) (s : Fin 896) (a' : Fin 8)
    (h0 : a'.val = t.val % 8) :
    (((cfg0.win 1).blk t).view.read (Elt Ideal) X : Vec Ideal S1x2048x896 .bf16) (ix3 0 k s) = X (ix3 a' k s) := by
  have hi := index1 t
  rw [View.read_apply]
  refine congrArg X ?_
  funext a
  apply Fin.ext
  match a with
  | ⟨0, _⟩ => show win0_1.index t 0 * 1 + 1 * 0 = a'.val; rw [hi.1, h0]; omega
  | ⟨1, _⟩ => show win0_1.index t 1 * 2048 + 1 * k.val = k.val; rw [hi.2.1]; omega
  | ⟨2, _⟩ => show win0_1.index t 2 * 896 + 1 * s.val = s.val; rw [hi.2.2]; omega

/-- A block of the result. -/
theorem read2 (X : (⟨S2048x7168, .f32⟩ : BufTy).Contents (Elt Ideal)) (t : Fin cfg0.N) (r : Fin 1024) (s : Fin 896) (r' : Fin 2048) (s' : Fin 7168)
    (h0 : r'.val = t.val / 8 * 1024 + r.val) (h1 : s'.val = t.val % 8 * 896 + s.val) :
    (((cfg0.win 2).blk t).view.read (Elt Ideal) X : Vec Ideal S1024x896 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 896 + 1 * s.val = s'.val; rw [hi.2, h1]; omega

/-- The body's product. -/
theorem body (x : Vec Ideal S1024x2048 .bf16) (y : Vec Ideal S1x2048x896 .bf16) (r : Fin 1024) (s : Fin 896) :
    out0_2 x y (ix2 r s) = ∑ k : Fin 2048, x (ix2 r k) * y (ix3 0 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S8x2048x896, .bf16⟩ : BufTy).Contents (Elt Ideal))
    (hA : V (F := Ideal) m c main_arg0 = A) (hB : V (F := Ideal) m c main_arg1 = B) (r : Fin 2048) (s : Fin 7168) :
    ((dats (F := Ideal) m 0 c).arrAt 2 cfg0.N : (⟨S2048x7168, .f32⟩ : BufTy).Contents (Elt Ideal)) (ix2 r s)
      = ∑ k : Fin 2048, A (ix2 r k) * B (ix3 ⟨s.val / 896, by omega⟩ k ⟨s.val % 896, by omega⟩) := by
  obtain ⟨t, ht⟩ : ∃ t : Fin cfg0.N, t.val = r.val / 1024 * 8 + s.val / 896 := ⟨⟨_, by show _ < 16; omega⟩, rfl⟩
  have hx := congrFun (Value.blocks2 (F := Ideal) m c t (flush2 t)) (ix2 ⟨r.val % 1024, by omega⟩ ⟨s.val % 896, by omega⟩)
  rw [Value.flushed2] at hx
  refine ((read2 _ t ⟨r.val % 1024, by omega⟩ ⟨s.val % 896, by omega⟩ r s (by show r.val = _ / 8 * 1024 + r.val % 1024; omega) (by show s.val = _ % 8 * 896 + s.val % 896; omega)).symm.trans hx).trans ?_
  refine (body (iblk m c 0 t) (iblk m c 1 t) ⟨r.val % 1024, by omega⟩ ⟨s.val % 896, by omega⟩).trans ?_
  subst hA hB
  refine Finset.sum_congr rfl fun k _ => ?_
  exact congrArg₂ (· * ·) (read0 (V (F := Ideal) m c main_arg0) t _ k r (by show r.val = _ / 8 * 1024 + r.val % 1024; omega))
    (read1 (V (F := Ideal) m c main_arg1) t k ⟨s.val % 896, by omega⟩ _ (by show s.val / 896 = _ % 8; omega))

end kernel

section reference

open Idealize.ShloMosaic Cert.Reference9Ideal Cert.Reference9Ideal.Read

/-- The slices side by side. -/
theorem slices (w : (⟨S8x2048x896, .bf16⟩ : BufTy).Contents (Elt Ideal)) (k : Fin 2048) (s : Fin 7168) :
    val_main_v3 (F := Ideal) w (ix2 k s) = w (ix3 ⟨s.val / 896, by omega⟩ k ⟨s.val % 896, by omega⟩) := by
  rw [val_main_v3_apply, val_main_v2_apply, val_main_v1_apply]
  refine congrArg w ?_
  funext a
  apply Fin.ext
  match a with
  | ⟨0, _⟩ => show (k.val * 7168 + s.val) / 896 % 8 = s.val / 896; omega
  | ⟨1, _⟩ => show (k.val * 7168 + s.val) / 7168 = k.val; omega
  | ⟨2, _⟩ => show (k.val * 7168 + s.val) % 896 = s.val % 896; omega

/-- The reference's result. -/
theorem ref (A : (⟨S2048x2048, .bf16⟩ : BufTy).Contents (Elt Ideal)) (B : (⟨S8x2048x896, .bf16⟩ : BufTy).Contents (Elt Ideal)) (r : Fin 2048) (s : Fin 7168) :
    val_main_v4 (F := Ideal) A B (ix2 r s) = ∑ k : Fin 2048, A (ix2 r k) * B (ix3 ⟨s.val / 896, by omega⟩ k ⟨s.val % 896, by omega⟩) := by
  pointwise [val_main_v4, val_main_v0]
  exact Finset.sum_congr rfl fun k _ => congrArg (A (ix2 r k) * ·) (slices B k s)

/-- The kernel's result is the reference's. -/
theorem same (m : (ℓ : Loc Cert.Kernel9Ideal.nD Cert.Kernel9Ideal.τ Cert.Kernel9Ideal.sig) → Buf (Elt Ideal) ℓ) (c : Dev Cert.Kernel9Ideal.nD)
    (A : (⟨S2048x2048, .bf16⟩ : BufTy).Contents (Elt Ideal)) (B : (⟨S8x2048x896, .bf16⟩ : BufTy).Contents (Elt Ideal))
    (hA : m ((c.tc : Thread _ _).loc Cert.Kernel9Ideal.main_arg0) = A) (hB : m ((c.tc : Thread _ _).loc Cert.Kernel9Ideal.main_arg1) = B) :
    val_main_v4 (F := Ideal) A B = (Cert.Kernel9Ideal.Gen.dats (F := Ideal) m 0 c).arrAt 2 Cert.Kernel9Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference9Ideal (hReference9Ideal := Cert.Reference9Ideal.Gen.facts) :=
  fun m ρ _ => (θ_run Cert.Reference9Ideal.defs _ _).mono
    (fun r h => ⟨fun c => (h c).2, sem_eq_zero_of_no_sems (by decide) r.2⟩)
    (Cert.Reference9Ideal.Value.run (F := Ideal) m ρ)

/-- From equal arguments the kernel and the reference end with the same array. -/
theorem same_results : Cert.algebraic_Kernel9Ideal_Reference9Ideal (hKernel9Ideal := Cert.Kernel9Ideal.Gen.facts)
    (hReference9Ideal := Cert.Reference9Ideal.Gen.facts) := by
  intro m g m' g' _ h
  refine ⟨fun c => (Cert.Kernel9Ideal.Gen.dats (F := Ideal) m 0 c).arrAt 2 Cert.Kernel9Ideal.cfg0.N,
    Cert.Kernel9Ideal.Value.run_blocks (F := Ideal) m g, ?_⟩
  refine (θ_run Cert.Reference9Ideal.defs _ _).mono (fun r hr c => ?_) (Cert.Reference9Ideal.Value.run (F := Ideal) m' g')
  obtain ⟨r0, rest⟩ := hr c
  obtain ⟨h0, h1⟩ := h c
  exact ⟨r0.trans ((Cert.Reference9Ideal.Read.val_main_v4_eq _ _).trans (same m c _ _ h0.symm h1.symm)), rest⟩

end claims

end Cert.Product9

end
-- ==== Proof.Product10.lean ====
/-
The odd layer's input projection: each block of the result is a product of a block of rows of the input and a block of rows
of the transposed weight, transposed.
-/
module

public import proofs.«01_k».proof.Defs
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product10

section kernel

open Idealize.ShloMosaic Idealize.SL.Sem Cert.Kernel10Ideal Cert.Kernel10Ideal.Gen Idealize.ShloMosaic.TcCoe

variable (m : (ℓ : Loc nD τ sig) → Buf (Elt Ideal) ℓ) (c : Dev nD)

theorem index0 : ∀ t : Fin cfg0.N, win0_0.index t 0 = t.val / 5 ∧ win0_0.index t 1 = 0 :=
  (by decide +kernel : ∀ t : Fin grid0.N, win0_0.index t 0 = t.val / 5 ∧ win0_0.index t 1 = 0)

theorem index1 : ∀ t : Fin cfg0.N, win0_1.index t 0 = 0 ∧ win0_1.index t 1 = t.val % 5 ∧ win0_1.index t 2 = 0 :=
  (by decide +kernel : ∀ t : Fin grid0.N, win0_1.index t 0 = 0 ∧ win0_1.index t 1 = t.val % 5 ∧ win0_1.index t 2 = 0)

theorem index2 : ∀ t : Fin cfg0.N, win0_2.index t 0 = t.val / 5 ∧ win0_2.index t 1 = t.val % 5 :=
  (by decide +kernel : ∀ t : Fin grid0.N, win0_2.index t 0 = t.val / 5 ∧ win0_2.index t 1 = t.val % 5)

theorem flush2 : ∀ t : Fin cfg0.N, (cfg0.win 2).flush t = true :=
  (by decide +kernel : ∀ t : Fin grid0.N, (cfg0.win 2).flush t = true)

/-- A block of the first factor's rows. -/
theorem read0 (X : (⟨S2048x2048, .bf16⟩ : BufTy).Contents (Elt Ideal)) (t : Fin cfg0.N) (r : Fin 1024) (k : Fin 2048) (r' : Fin 2048)
    (h0 : r'.val = t.val / 5 * 1024 + r.val) :
    (((cfg0.win 0).blk t).view.read (Elt Ideal) X : Vec Ideal S1024x2048 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 2048 + 1 * k.val = k.val; rw [hi.2]; omega

/-- A block of the second factor. -/
theorem read1 (X : (⟨S1x3200x2048, .bf16⟩ : BufTy).Contents (Elt Ideal)) (t : Fin cfg0.N) (s : Fin 640) (k : Fin 2048) (s' : Fin 3200)
    (h1 : s'.val = t.val % 5 * 640 + s.val) :
    (((cfg0.win 1).blk t).view.read (Elt Ideal) X : Vec Ideal S1x640x2048 .bf16) (ix3 0 s k) = X (ix3 0 s' k) := by
  have hi := index1 t
  rw [View.read_apply]
  refine congrArg X ?_
  funext a
  apply Fin.ext
  match a with
  | ⟨0, _⟩ => show win0_1.index t 0 * 1 + 1 * 0 = 0; rw [hi.1]
  | ⟨1, _⟩ => show win0_1.index t 1 * 640 + 1 * s.val = s'.val; rw [hi.2.1, h1]; omega
  | ⟨2, _⟩ => show win0_1.index t 2 * 2048 + 1 * k.val = k.val; rw [hi.2.2]; omega

/-- A block of the result. -/
theorem read2 (X : (⟨S2048x3200, .f32⟩ : BufTy).Contents (Elt Ideal)) (t : Fin cfg0.N) (r : Fin 1024) (s : Fin 640) (r' : Fin 2048) (s' : Fin 3200)
    (h0 : r'.val = t.val / 5 * 1024 + r.val) (h1 : s'.val = t.val % 5 * 640 + s.val) :
    (((cfg0.win 2).blk t).view.read (Elt Ideal) X : Vec Ideal S1024x640 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 640 + 1 * s.val = s'.val; rw [hi.2, h1]; omega

/-- The body's product. -/
theorem body (x : Vec Ideal S1024x2048 .bf16) (y : Vec Ideal S1x640x2048 .bf16) (r : Fin 1024) (s : Fin 640) :
    out0_2 x y (ix2 r s) = ∑ k : Fin 2048, x (ix2 r k) * y (ix3 0 s k) := by
  have e : out0_2 x y = k0_pay1 y x := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S1x3200x2048, .bf16⟩ : BufTy).Contents (Elt Ideal))
    (hA : V (F := Ideal) m c main_arg0 = A) (hB : V (F := Ideal) m c main_arg1 = B) (r : Fin 2048) (s : Fin 3200) :
    ((dats (F := Ideal) m 0 c).arrAt 2 cfg0.N : (⟨S2048x3200, .f32⟩ : BufTy).Contents (Elt Ideal)) (ix2 r s)
      = ∑ k : Fin 2048, A (ix2 r k) * B (ix3 0 s k) := by
  obtain ⟨t, ht⟩ : ∃ t : Fin cfg0.N, t.val = r.val / 1024 * 5 + s.val / 640 := ⟨⟨_, by show _ < 10; omega⟩, rfl⟩
  have hx := congrFun (Value.blocks2 (F := Ideal) m c t (flush2 t)) (ix2 ⟨r.val % 1024, by omega⟩ ⟨s.val % 640, by omega⟩)
  rw [Value.flushed2] at hx
  refine ((read2 _ t ⟨r.val % 1024, by omega⟩ ⟨s.val % 640, by omega⟩ r s (by show r.val = _ / 5 * 1024 + r.val % 1024; omega) (by show s.val = _ % 5 * 640 + s.val % 640; omega)).symm.trans hx).trans ?_
  refine (body (iblk m c 0 t) (iblk m c 1 t) ⟨r.val % 1024, by omega⟩ ⟨s.val % 640, by omega⟩).trans ?_
  subst hA hB
  refine Finset.sum_congr rfl fun k _ => ?_
  exact congrArg₂ (· * ·) (read0 (V (F := Ideal) m c main_arg0) t _ k r (by show r.val = _ / 5 * 1024 + r.val % 1024; omega))
    (read1 (V (F := Ideal) m c main_arg1) t _ k s (by show s.val = _ % 5 * 640 + s.val % 640; omega))

end kernel

section reference

open Idealize.ShloMosaic Cert.Reference10Ideal Cert.Reference10Ideal.Read

/-- The reference's result. -/
theorem ref (A : (⟨S2048x2048, .bf16⟩ : BufTy).Contents (Elt Ideal)) (B : (⟨S1x3200x2048, .bf16⟩ : BufTy).Contents (Elt Ideal)) (r : Fin 2048) (s : Fin 3200) :
    val_main_v4 (F := Ideal) A B (ix2 r s) = ∑ k : Fin 2048, A (ix2 r k) * B (ix3 0 s k) := by
  pointwise [val_main_v4, val_main_v3, val_main_v2, val_main_v1, val_main_v0]

/-- The kernel's result is the reference's. -/
theorem same (m : (ℓ : Loc Cert.Kernel10Ideal.nD Cert.Kernel10Ideal.τ Cert.Kernel10Ideal.sig) → Buf (Elt Ideal) ℓ) (c : Dev Cert.Kernel10Ideal.nD)
    (A : (⟨S2048x2048, .bf16⟩ : BufTy).Contents (Elt Ideal)) (B : (⟨S1x3200x2048, .bf16⟩ : BufTy).Contents (Elt Ideal))
    (hA : m ((c.tc : Thread _ _).loc Cert.Kernel10Ideal.main_arg0) = A) (hB : m ((c.tc : Thread _ _).loc Cert.Kernel10Ideal.main_arg1) = B) :
    val_main_v4 (F := Ideal) A B = (Cert.Kernel10Ideal.Gen.dats (F := Ideal) m 0 c).arrAt 2 Cert.Kernel10Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference10Ideal (hReference10Ideal := Cert.Reference10Ideal.Gen.facts) :=
  fun m ρ _ => (θ_run Cert.Reference10Ideal.defs _ _).mono
    (fun r h => ⟨fun c => (h c).2, sem_eq_zero_of_no_sems (by decide) r.2⟩)
    (Cert.Reference10Ideal.Value.run (F := Ideal) m ρ)

/-- From equal arguments the kernel and the reference end with the same array. -/
theorem same_results : Cert.algebraic_Kernel10Ideal_Reference10Ideal (hKernel10Ideal := Cert.Kernel10Ideal.Gen.facts)
    (hReference10Ideal := Cert.Reference10Ideal.Gen.facts) := by
  intro m g m' g' _ h
  refine ⟨fun c => (Cert.Kernel10Ideal.Gen.dats (F := Ideal) m 0 c).arrAt 2 Cert.Kernel10Ideal.cfg0.N,
    Cert.Kernel10Ideal.Value.run_blocks (F := Ideal) m g, ?_⟩
  refine (θ_run Cert.Reference10Ideal.defs _ _).mono (fun r hr c => ?_) (Cert.Reference10Ideal.Value.run (F := Ideal) m' g')
  obtain ⟨r0, rest⟩ := hr c
  obtain ⟨h0, h1⟩ := h c
  exact ⟨r0.trans ((Cert.Reference10Ideal.Read.val_main_v4_eq _ _).trans (same m c _ _ h0.symm h1.symm)), rest⟩

end claims

end Cert.Product10

end
-- ==== Proof.Product11.lean ====
/-
The even layer's output projection: each block of the result is a product of a block of rows of the input and a block of
columns of the weight.
-/
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product11

section kernel

open Idealize.ShloMosaic Idealize.SL.Sem Cert.Kernel11Ideal Cert.Kernel11Ideal.Gen Idealize.ShloMosaic.TcCoe

variable (m : (ℓ : Loc nD τ sig) → Buf (Elt Ideal) ℓ) (c : Dev nD)

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

theorem index1 : ∀ t : Fin cfg0.N, win0_1.index t 0 = 0 ∧ win0_1.index t 1 = 0 ∧ win0_1.index t 2 = t.val % 2 :=
  (by decide +kernel : ∀ t : Fin grid0.N, win0_1.index t 0 = 0 ∧ win0_1.index t 1 = 0 ∧ win0_1.index t 2 = t.val % 2)

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem flush2 : ∀ t : Fin cfg0.N, (cfg0.win 2).flush t = true :=
  (by decide +kernel : ∀ t : Fin grid0.N, (cfg0.win 2).flush t = true)

/-- A block of the first factor's rows. -/
theorem read0 (X : (⟨S2048x2048, .bf16⟩ : BufTy).Contents (Elt Ideal)) (t : Fin cfg0.N) (r : Fin 1024) (k : Fin 2048) (r' : Fin 2048)
    (h0 : r'.val = t.val / 2 * 1024 + r.val) :
    (((cfg0.win 0).blk t).view.read (Elt Ideal) X : Vec Ideal S1024x2048 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 2048 + 1 * k.val = k.val; rw [hi.2]; omega

/-- A block of the second factor. -/
theorem read1 (X : (⟨S1x2048x2048, .bf16⟩ : BufTy).Contents (Elt Ideal)) (t : Fin cfg0.N) (k : Fin 2048) (s : Fin 1024) (s' : Fin 2048)
    (h2 : s'.val = t.val % 2 * 1024 + s.val) :
    (((cfg0.win 1).blk t).view.read (Elt Ideal) X : Vec Ideal S1x2048x1024 .bf16) (ix3 0 k s) = X (ix3 0 k s') := by
  have hi := index1 t
  rw [View.read_apply]
  refine congrArg X ?_
  funext a
  apply Fin.ext
  match a with
  | ⟨0, _⟩ => show win0_1.index t 0 * 1 + 1 * 0 = 0; rw [hi.1]
  | ⟨1, _⟩ => show win0_1.index t 1 * 2048 + 1 * k.val = k.val; rw [hi.2.1]; omega
  | ⟨2, _⟩ => show win0_1.index t 2 * 1024 + 1 * s.val = s'.val; rw [hi.2.2, h2]; omega

/-- A block of the result. -/
theorem read2 (X : (⟨S2048x2048, .f32⟩ : BufTy).Contents (Elt Ideal)) (t : Fin cfg0.N) (r : Fin 1024) (s : Fin 1024) (r' : Fin 2048) (s' : Fin 2048)
    (h0 : r'.val = t.val / 2 * 1024 + r.val) (h1 : s'.val = t.val % 2 * 1024 + s.val) :
    (((cfg0.win 2).blk t).view.read (Elt Ideal) X : Vec Ideal S1024x1024 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 1024 + 1 * s.val = s'.val; rw [hi.2, h1]; omega

/-- The body's product. -/
theorem body (x : Vec Ideal S1024x2048 .bf16) (y : Vec Ideal S1x2048x1024 .bf16) (r : Fin 1024) (s : Fin 1024) :
    out0_2 x y (ix2 r s) = ∑ k : Fin 2048, x (ix2 r k) * y (ix3 0 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x2048, .bf16⟩ : BufTy).Contents (Elt Ideal)) (B : (⟨S1x2048x2048, .bf16⟩ : BufTy).Contents (Elt Ideal))
    (hA : V (F := Ideal) m c main_arg0 = A) (hB : V (F := Ideal) m c main_arg1 = B) (r : Fin 2048) (s : Fin 2048) :
    ((dats (F := Ideal) m 0 c).arrAt 2 cfg0.N : (⟨S2048x2048, .f32⟩ : BufTy).Contents (Elt Ideal)) (ix2 r s)
      = ∑ k : Fin 2048, A (ix2 r k) * B (ix3 0 k s) := by
  obtain ⟨t, ht⟩ : ∃ t : Fin cfg0.N, t.val = r.val / 1024 * 2 + s.val / 1024 := ⟨⟨_, by show _ < 4; omega⟩, rfl⟩
  have hx := congrFun (Value.blocks2 (F := Ideal) m c t (flush2 t)) (ix2 ⟨r.val % 1024, by omega⟩ ⟨s.val % 1024, by omega⟩)
  rw [Value.flushed2] at hx
  refine ((read2 _ t ⟨r.val % 1024, by omega⟩ ⟨s.val % 1024, by omega⟩ r s (by show r.val = _ / 2 * 1024 + r.val % 1024; omega) (by show s.val = _ % 2 * 1024 + s.val % 1024; omega)).symm.trans hx).trans ?_
  refine (body (iblk m c 0 t) (iblk m c 1 t) ⟨r.val % 1024, by omega⟩ ⟨s.val % 1024, by omega⟩).trans ?_
  subst hA hB
  refine Finset.sum_congr rfl fun k _ => ?_
  exact congrArg₂ (· * ·) (read0 (V (F := Ideal) m c main_arg0) t _ k r (by show r.val = _ / 2 * 1024 + r.val % 1024; omega))
    (read1 (V (F := Ideal) m c main_arg1) t k _ s (by show s.val = _ % 2 * 1024 + s.val % 1024; omega))

end kernel

section reference

open Idealize.ShloMosaic Cert.Reference11Ideal Cert.Reference11Ideal.Read

/-- The reference's result. -/
theorem ref (A : (⟨S2048x2048, .bf16⟩ : BufTy).Contents (Elt Ideal)) (B : (⟨S1x2048x2048, .bf16⟩ : BufTy).Contents (Elt Ideal)) (r : Fin 2048) (s : Fin 2048) :
    val_main_v3 (F := Ideal) A B (ix2 r s) = ∑ k : Fin 2048, A (ix2 r k) * B (ix3 0 k s) := by
  pointwise [val_main_v3, val_main_v2, val_main_v1, val_main_v0]

/-- The kernel's result is the reference's. -/
theorem same (m : (ℓ : Loc Cert.Kernel11Ideal.nD Cert.Kernel11Ideal.τ Cert.Kernel11Ideal.sig) → Buf (Elt Ideal) ℓ) (c : Dev Cert.Kernel11Ideal.nD)
    (A : (⟨S2048x2048, .bf16⟩ : BufTy).Contents (Elt Ideal)) (B : (⟨S1x2048x2048, .bf16⟩ : BufTy).Contents (Elt Ideal))
    (hA : m ((c.tc : Thread _ _).loc Cert.Kernel11Ideal.main_arg0) = A) (hB : m ((c.tc : Thread _ _).loc Cert.Kernel11Ideal.main_arg1) = B) :
    val_main_v3 (F := Ideal) A B = (Cert.Kernel11Ideal.Gen.dats (F := Ideal) m 0 c).arrAt 2 Cert.Kernel11Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference11Ideal (hReference11Ideal := Cert.Reference11Ideal.Gen.facts) :=
  fun m ρ _ => (θ_run Cert.Reference11Ideal.defs _ _).mono
    (fun r h => ⟨fun c => (h c).2, sem_eq_zero_of_no_sems (by decide) r.2⟩)
    (Cert.Reference11Ideal.Value.run (F := Ideal) m ρ)

/-- From equal arguments the kernel and the reference end with the same array. -/
theorem same_results : Cert.algebraic_Kernel11Ideal_Reference11Ideal (hKernel11Ideal := Cert.Kernel11Ideal.Gen.facts)
    (hReference11Ideal := Cert.Reference11Ideal.Gen.facts) := by
  intro m g m' g' _ h
  refine ⟨fun c => (Cert.Kernel11Ideal.Gen.dats (F := Ideal) m 0 c).arrAt 2 Cert.Kernel11Ideal.cfg0.N,
    Cert.Kernel11Ideal.Value.run_blocks (F := Ideal) m g, ?_⟩
  refine (θ_run Cert.Reference11Ideal.defs _ _).mono (fun r hr c => ?_) (Cert.Reference11Ideal.Value.run (F := Ideal) m' g')
  obtain ⟨r0, rest⟩ := hr c
  obtain ⟨h0, h1⟩ := h c
  exact ⟨r0.trans ((Cert.Reference11Ideal.Read.val_main_v3_eq _ _).trans (same m c _ _ h0.symm h1.symm)), rest⟩

end claims

end Cert.Product11

end
-- ==== Proof.Product12.lean ====
/-
The queries' projection: each block of the result is a product of a block of rows of the input and a block of columns of the
weight.
-/
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product12

section kernel

open Idealize.ShloMosaic Idealize.SL.Sem Cert.Kernel12Ideal Cert.Kernel12Ideal.Gen Idealize.ShloMosaic.TcCoe

variable (m : (ℓ : Loc nD τ sig) → Buf (Elt Ideal) ℓ) (c : Dev nD)

theorem index0 : ∀ t : Fin cfg0.N, win0_0.index t 0 = t.val / 4 ∧ win0_0.index t 1 = 0 :=
  (by decide +kernel : ∀ t : Fin grid0.N, win0_0.index t 0 = t.val / 4 ∧ win0_0.index t 1 = 0)

theorem index1 : ∀ t : Fin cfg0.N, win0_1.index t 0 = 0 ∧ win0_1.index t 1 = 0 ∧ win0_1.index t 2 = t.val % 4 :=
  (by decide +kernel : ∀ t : Fin grid0.N, win0_1.index t 0 = 0 ∧ win0_1.index t 1 = 0 ∧ win0_1.index t 2 = t.val % 4)

theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem flush2 : ∀ t : Fin cfg0.N, (cfg0.win 2).flush t = true :=
  (by decide +kernel : ∀ t : Fin grid0.N, (cfg0.win 2).flush t = true)

/-- A block of the first factor's rows. -/
theorem read0 (X : (⟨S2048x512, .bf16⟩ : BufTy).Contents (Elt Ideal)) (t : Fin cfg0.N) (r : Fin 1024) (k : Fin 512) (r' : Fin 2048)
    (h0 : r'.val = t.val / 4 * 1024 + r.val) :
    (((cfg0.win 0).blk t).view.read (Elt Ideal) X : Vec Ideal S1024x512 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 512 + 1 * k.val = k.val; rw [hi.2]; omega

/-- A block of the second factor. -/
theorem read1 (X : (⟨S1x512x4096, .bf16⟩ : BufTy).Contents (Elt Ideal)) (t : Fin cfg0.N) (k : Fin 512) (s : Fin 1024) (s' : Fin 4096)
    (h2 : s'.val = t.val % 4 * 1024 + s.val) :
    (((cfg0.win 1).blk t).view.read (Elt Ideal) X : Vec Ideal S1x512x1024 .bf16) (ix3 0 k s) = X (ix3 0 k s') := by
  have hi := index1 t
  rw [View.read_apply]
  refine congrArg X ?_
  funext a
  apply Fin.ext
  match a with
  | ⟨0, _⟩ => show win0_1.index t 0 * 1 + 1 * 0 = 0; rw [hi.1]
  | ⟨1, _⟩ => show win0_1.index t 1 * 512 + 1 * k.val = k.val; rw [hi.2.1]; omega
  | ⟨2, _⟩ => show win0_1.index t 2 * 1024 + 1 * s.val = s'.val; rw [hi.2.2, h2]; omega

/-- A block of the result. -/
theorem read2 (X : (⟨S2048x4096, .f32⟩ : BufTy).Contents (Elt Ideal)) (t : Fin cfg0.N) (r : Fin 1024) (s : Fin 1024) (r' : Fin 2048) (s' : Fin 4096)
    (h0 : r'.val = t.val / 4 * 1024 + r.val) (h1 : s'.val = t.val % 4 * 1024 + s.val) :
    (((cfg0.win 2).blk t).view.read (Elt Ideal) X : Vec Ideal S1024x1024 .f32) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 1024 + 1 * s.val = s'.val; rw [hi.2, h1]; omega

/-- The body's product. -/
theorem body (x : Vec Ideal S1024x512 .bf16) (y : Vec Ideal S1x512x1024 .bf16) (r : Fin 1024) (s : Fin 1024) :
    out0_2 x y (ix2 r s) = ∑ k : Fin 512, x (ix2 r k) * y (ix3 0 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x512, .bf16⟩ : BufTy).Contents (Elt Ideal)) (B : (⟨S1x512x4096, .bf16⟩ : BufTy).Contents (Elt Ideal))
    (hA : V (F := Ideal) m c main_arg0 = A) (hB : V (F := Ideal) m c main_arg1 = B) (r : Fin 2048) (s : Fin 4096) :
    ((dats (F := Ideal) m 0 c).arrAt 2 cfg0.N : (⟨S2048x4096, .f32⟩ : BufTy).Contents (Elt Ideal)) (ix2 r s)
      = ∑ k : Fin 512, A (ix2 r k) * B (ix3 0 k s) := by
  obtain ⟨t, ht⟩ : ∃ t : Fin cfg0.N, t.val = r.val / 1024 * 4 + s.val / 1024 := ⟨⟨_, by show _ < 8; omega⟩, rfl⟩
  have hx := congrFun (Value.blocks2 (F := Ideal) m c t (flush2 t)) (ix2 ⟨r.val % 1024, by omega⟩ ⟨s.val % 1024, by omega⟩)
  rw [Value.flushed2] at hx
  refine ((read2 _ t ⟨r.val % 1024, by omega⟩ ⟨s.val % 1024, by omega⟩ r s (by show r.val = _ / 4 * 1024 + r.val % 1024; omega) (by show s.val = _ % 4 * 1024 + s.val % 1024; omega)).symm.trans hx).trans ?_
  refine (body (iblk m c 0 t) (iblk m c 1 t) ⟨r.val % 1024, by omega⟩ ⟨s.val % 1024, by omega⟩).trans ?_
  subst hA hB
  refine Finset.sum_congr rfl fun k _ => ?_
  exact congrArg₂ (· * ·) (read0 (V (F := Ideal) m c main_arg0) t _ k r (by show r.val = _ / 4 * 1024 + r.val % 1024; omega))
    (read1 (V (F := Ideal) m c main_arg1) t k _ s (by show s.val = _ % 4 * 1024 + s.val % 1024; omega))

end kernel

section reference

open Idealize.ShloMosaic Cert.Reference12Ideal Cert.Reference12Ideal.Read

/-- The reference's result. -/
theorem ref (A : (⟨S2048x512, .bf16⟩ : BufTy).Contents (Elt Ideal)) (B : (⟨S1x512x4096, .bf16⟩ : BufTy).Contents (Elt Ideal)) (r : Fin 2048) (s : Fin 4096) :
    val_main_v3 (F := Ideal) A B (ix2 r s) = ∑ k : Fin 512, A (ix2 r k) * B (ix3 0 k s) := by
  pointwise [val_main_v3, val_main_v2, val_main_v1, val_main_v0]

/-- The kernel's result is the reference's. -/
theorem same (m : (ℓ : Loc Cert.Kernel12Ideal.nD Cert.Kernel12Ideal.τ Cert.Kernel12Ideal.sig) → Buf (Elt Ideal) ℓ) (c : Dev Cert.Kernel12Ideal.nD)
    (A : (⟨S2048x512, .bf16⟩ : BufTy).Contents (Elt Ideal)) (B : (⟨S1x512x4096, .bf16⟩ : BufTy).Contents (Elt Ideal))
    (hA : m ((c.tc : Thread _ _).loc Cert.Kernel12Ideal.main_arg0) = A) (hB : m ((c.tc : Thread _ _).loc Cert.Kernel12Ideal.main_arg1) = B) :
    val_main_v3 (F := Ideal) A B = (Cert.Kernel12Ideal.Gen.dats (F := Ideal) m 0 c).arrAt 2 Cert.Kernel12Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference12Ideal (hReference12Ideal := Cert.Reference12Ideal.Gen.facts) :=
  fun m ρ _ => (θ_run Cert.Reference12Ideal.defs _ _).mono
    (fun r h => ⟨fun c => (h c).2, sem_eq_zero_of_no_sems (by decide) r.2⟩)
    (Cert.Reference12Ideal.Value.run (F := Ideal) m ρ)

/-- From equal arguments the kernel and the reference end with the same array. -/
theorem same_results : Cert.algebraic_Kernel12Ideal_Reference12Ideal (hKernel12Ideal := Cert.Kernel12Ideal.Gen.facts)
    (hReference12Ideal := Cert.Reference12Ideal.Gen.facts) := by
  intro m g m' g' _ h
  refine ⟨fun c => (Cert.Kernel12Ideal.Gen.dats (F := Ideal) m 0 c).arrAt 2 Cert.Kernel12Ideal.cfg0.N,
    Cert.Kernel12Ideal.Value.run_blocks (F := Ideal) m g, ?_⟩
  refine (θ_run Cert.Reference12Ideal.defs _ _).mono (fun r hr c => ?_) (Cert.Reference12Ideal.Value.run (F := Ideal) m' g')
  obtain ⟨r0, rest⟩ := hr c
  obtain ⟨h0, h1⟩ := h c
  exact ⟨r0.trans ((Cert.Reference12Ideal.Read.val_main_v3_eq _ _).trans (same m c _ _ h0.symm h1.symm)), rest⟩

end claims

end Cert.Product12

end
-- ==== Proof.Product13.lean ====
/-
The keys' and values' projection: each block of the result is a product of a block of rows of the input and a slice of the
weight.
-/
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.IdealHost

@[expose] public section

set_option backward.proofsInPublic true
set_option maxRecDepth 16384
set_option maxHeartbeats 1000000

noncomputable section

namespace Cert.Product13

section kernel

open Idealize.ShloMosaic Idealize.SL.Sem Cert.Kernel13Ideal Cert.Kernel13Ideal.Gen Idealize.ShloMosaic.TcCoe

variable (m : (ℓ : Loc nD τ sig) → Buf (Elt Ideal) ℓ) (c : Dev nD)

theorem index0 : ∀ t : Fin cfg0.N, win0_0.index t 0 = t.val / 8 ∧ win0_0.index t 1 = 0 :=
  (by decide +kernel : ∀ t : Fin grid0.N, win0_0.index t 0 = t.val / 8 ∧ win0_0.index t 1 = 0)

theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)

theorem index2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)

theorem flush2 : ∀ t : Fin cfg0.N, (cfg0.win 2).flush t = true :=
  (by decide +kernel : ∀ t : Fin grid0.N, (cfg0.win 2).flush t = true)

/-- A block of the first factor's rows. -/
theorem read0 (X : (⟨S2048x512, .bf16⟩ : BufTy).Contents (Elt Ideal)) (t : Fin cfg0.N) (r : Fin 1024) (k : Fin 512) (r' : Fin 2048)
    (h0 : r'.val = t.val / 8 * 1024 + r.val) :
    (((cfg0.win 0).blk t).view.read (Elt Ideal) X : Vec Ideal S1024x512 .bf16) (ix2 r k) = X (ix2 r' k) := by
  have hi := index0 t
  rw [View.read_apply]
  refine congrArg X ?_
  funext a
  apply Fin.ext
  match a with
  | ⟨0, _⟩ => show win0_0.index t 0 * 1024 + 1 * r.val = r'.val; rw [hi.1, h0]; omega
  | ⟨1, _⟩ => show win0_0.index t 1 * 512 + 1 * k.val = k.val; rw [hi.2]; omega

/-- A block of the second factor. -/
theorem read1 (X : (⟨S8x512x512, .bf16⟩ : BufTy).Contents (Elt Ideal)) (t : Fin cfg0.N) (k : Fin 512) (s : Fin 512) (a' : Fin 8)
    (h0 : a'.val = t.val % 8) :
    (((cfg0.win 1).blk t).view.read (Elt Ideal) X : Vec Ideal S1x512x512 .bf16) (ix3 0 k s) = X (ix3 a' k s) := by
  have hi := index1 t
  rw [View.read_apply]
  refine congrArg X ?_
  funext a
  apply Fin.ext
  match a with
  | ⟨0, _⟩ => show win0_1.index t 0 * 1 + 1 * 0 = a'.val; rw [hi.1, h0]; omega
  | ⟨1, _⟩ => show win0_1.index t 1 * 512 + 1 * k.val = k.val; rw [hi.2.1]; omega
  | ⟨2, _⟩ => show win0_1.index t 2 * 512 + 1 * s.val = s.val; rw [hi.2.2]; omega

/-- A block of the result. -/
theorem read2 (X : (⟨S2048x4096, .bf16⟩ : BufTy).Contents (Elt Ideal)) (t : Fin cfg0.N) (r : Fin 1024) (s : Fin 512) (r' : Fin 2048) (s' : Fin 4096)
    (h0 : r'.val = t.val / 8 * 1024 + r.val) (h1 : s'.val = t.val % 8 * 512 + s.val) :
    (((cfg0.win 2).blk t).view.read (Elt Ideal) X : Vec Ideal S1024x512 .bf16) (ix2 r s) = X (ix2 r' s') := by
  have hi := index2 t
  rw [View.read_apply]
  refine congrArg X ?_
  funext a
  apply Fin.ext
  match a with
  | ⟨0, _⟩ => show win0_2.index t 0 * 1024 + 1 * r.val = r'.val; rw [hi.1, h0]; omega
  | ⟨1, _⟩ => show win0_2.index t 1 * 512 + 1 * s.val = s'.val; rw [hi.2, h1]; omega

/-- The body's product. -/
theorem body (x : Vec Ideal S1024x512 .bf16) (y : Vec Ideal S1x512x512 .bf16) (r : Fin 1024) (s : Fin 512) :
    out0_2 x y (ix2 r s) = ∑ k : Fin 512, x (ix2 r k) * y (ix3 0 k s) := by
  have e : out0_2 x y = k0_pay1 x y := by
    unfold out0_2
    rw [View.canon_unit_zero (by decide), View.ld_unit_zero (by decide), View.ld_unit_zero (by decide)]
  rw [e]
  pointwise [k0_pay1]

/-- The result after the run. -/
theorem value (A : (⟨S2048x512, .bf16⟩ : BufTy).Contents (Elt Ideal)) (B : (⟨S8x512x512, .bf16⟩ : BufTy).Contents (Elt Ideal))
    (hA : V (F := Ideal) m c main_arg0 = A) (hB : V (F := Ideal) m c main_arg1 = B) (r : Fin 2048) (s : Fin 4096) :
    ((dats (F := Ideal) m 0 c).arrAt 2 cfg0.N : (⟨S2048x4096, .bf16⟩ : BufTy).Contents (Elt Ideal)) (ix2 r s)
      = ∑ k : Fin 512, A (ix2 r k) * B (ix3 ⟨s.val / 512, by omega⟩ k ⟨s.val % 512, by omega⟩) := by
  obtain ⟨t, ht⟩ : ∃ t : Fin cfg0.N, t.val = r.val / 1024 * 8 + s.val / 512 := ⟨⟨_, by show _ < 16; omega⟩, rfl⟩
  have hx := congrFun (Value.blocks2 (F := Ideal) m c t (flush2 t)) (ix2 ⟨r.val % 1024, by omega⟩ ⟨s.val % 512, by omega⟩)
  rw [Value.flushed2] at hx
  refine ((read2 _ t ⟨r.val % 1024, by omega⟩ ⟨s.val % 512, by omega⟩ r s (by show r.val = _ / 8 * 1024 + r.val % 1024; omega) (by show s.val = _ % 8 * 512 + s.val % 512; omega)).symm.trans hx).trans ?_
  refine (body (iblk m c 0 t) (iblk m c 1 t) ⟨r.val % 1024, by omega⟩ ⟨s.val % 512, by omega⟩).trans ?_
  subst hA hB
  refine Finset.sum_congr rfl fun k _ => ?_
  exact congrArg₂ (· * ·) (read0 (V (F := Ideal) m c main_arg0) t _ k r (by show r.val = _ / 8 * 1024 + r.val % 1024; omega))
    (read1 (V (F := Ideal) m c main_arg1) t k ⟨s.val % 512, by omega⟩ _ (by show s.val / 512 = _ % 8; omega))

end kernel

section reference

open Idealize.ShloMosaic Cert.Reference13Ideal Cert.Reference13Ideal.Read

/-- The slices side by side. -/
theorem slices (w : (⟨S8x512x512, .bf16⟩ : BufTy).Contents (Elt Ideal)) (k : Fin 512) (s : Fin 4096) :
    val_main_v3 (F := Ideal) w (ix2 k s) = w (ix3 ⟨s.val / 512, by omega⟩ k ⟨s.val % 512, by omega⟩) := by
  rw [val_main_v3_apply, val_main_v2_apply, val_main_v1_apply]
  refine congrArg w ?_
  funext a
  apply Fin.ext
  match a with
  | ⟨0, _⟩ => show (k.val * 4096 + s.val) / 512 % 8 = s.val / 512; omega
  | ⟨1, _⟩ => show (k.val * 4096 + s.val) / 4096 = k.val; omega
  | ⟨2, _⟩ => show (k.val * 4096 + s.val) % 512 = s.val % 512; omega

/-- The reference's result. -/
theorem ref (A : (⟨S2048x512, .bf16⟩ : BufTy).Contents (Elt Ideal)) (B : (⟨S8x512x512, .bf16⟩ : BufTy).Contents (Elt Ideal)) (r : Fin 2048) (s : Fin 4096) :
    val_main_v5 (F := Ideal) A B (ix2 r s) = ∑ k : Fin 512, A (ix2 r k) * B (ix3 ⟨s.val / 512, by omega⟩ k ⟨s.val % 512, by omega⟩) := by
  pointwise [val_main_v5, val_main_v4, val_main_v0]
  exact Finset.sum_congr rfl fun k _ => congrArg (A (ix2 r k) * ·) (slices B k s)

/-- The kernel's result is the reference's. -/
theorem same (m : (ℓ : Loc Cert.Kernel13Ideal.nD Cert.Kernel13Ideal.τ Cert.Kernel13Ideal.sig) → Buf (Elt Ideal) ℓ) (c : Dev Cert.Kernel13Ideal.nD)
    (A : (⟨S2048x512, .bf16⟩ : BufTy).Contents (Elt Ideal)) (B : (⟨S8x512x512, .bf16⟩ : BufTy).Contents (Elt Ideal))
    (hA : m ((c.tc : Thread _ _).loc Cert.Kernel13Ideal.main_arg0) = A) (hB : m ((c.tc : Thread _ _).loc Cert.Kernel13Ideal.main_arg1) = B) :
    val_main_v5 (F := Ideal) A B = (Cert.Kernel13Ideal.Gen.dats (F := Ideal) m 0 c).arrAt 2 Cert.Kernel13Ideal.cfg0.N := by
  funext i
  have e : i = ix2 (i 0) (i 1) := by
    funext a
    match a with
    | ⟨0, _⟩ => rfl
    | ⟨1, _⟩ => rfl
  rw [e]
  exact (ref A B (i 0) (i 1)).trans (value m c A B hA hB (i 0) (i 1)).symm

end reference

section claims

open Idealize.ShloMosaic Idealize.SL.Sem

/-- The reference runs to its end, its arguments unchanged; it declares no semaphore. -/
theorem frame_reference : Cert.quiescent_Reference13Ideal (hReference13Ideal := Cert.Reference13Ideal.Gen.facts) :=
  fun m ρ _ => (θ_run Cert.Reference13Ideal.defs _ _).mono
    (fun r h => ⟨fun c => (h c).2, sem_eq_zero_of_no_sems (by decide) r.2⟩)
    (Cert.Reference13Ideal.Value.run (F := Ideal) m ρ)

/-- From equal arguments the kernel and the reference end with the same array. -/
theorem same_results : Cert.algebraic_Kernel13Ideal_Reference13Ideal (hKernel13Ideal := Cert.Kernel13Ideal.Gen.facts)
    (hReference13Ideal := Cert.Reference13Ideal.Gen.facts) := by
  intro m g m' g' _ h
  refine ⟨fun c => (Cert.Kernel13Ideal.Gen.dats (F := Ideal) m 0 c).arrAt 2 Cert.Kernel13Ideal.cfg0.N,
    Cert.Kernel13Ideal.Value.run_blocks (F := Ideal) m g, ?_⟩
  refine (θ_run Cert.Reference13Ideal.defs _ _).mono (fun r hr c => ?_) (Cert.Reference13Ideal.Value.run (F := Ideal) m' g')
  obtain ⟨r0, rest⟩ := hr c
  obtain ⟨h0, h1⟩ := h c
  exact ⟨r0.trans ((Cert.Reference13Ideal.Read.val_main_v5_eq _ _).trans (same m c _ _ h0.symm h1.symm)), rest⟩

end claims

end Cert.Product13

end
-- ==== Proof.Product14.lean ====
/-
The gradient of the even input projection by its weight, its slices of even number: each block of the result is a product of a block of
columns of one array, transposed, and a block of columns of another, chosen by the word of a table.
-/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.IdealHost
public import Idealize.ShloMosaic.Lib.WholeRead
public import Idealize.ShloMosaic.Lib.WritesUnit

@[expose] public section

set_option backward.proofsInPublic true
set_option maxRecDepth 16384
set_option maxHeartbeats 1000000

noncomputable section

namespace Cert.Product14

section table

open Idealize.ShloMosaic Idealize.SL.Sem Cert.Kernel14 Cert.Kernel14.Gen Idealize.ShloMosaic.TcCoe

variable {F : FTy → Type} [FloatOps F] (m : (ℓ : Loc nD τ sig) → Buf (Elt F) ℓ)

/-- The table's contents at the call: one word. -/
def table' : pre0.Contents (Elt F) := fun j => match j with
  | ⟨0, _⟩ => (fun _ => 0#32 : Vec F S1 .i32)
  | ⟨_ + 1, h⟩ => absurd h (Nat.not_lt.2 (Nat.le_add_left _ _))

/-- The table that the call finds. -/
theorem table_eq' : tbl m = table' := by
  funext j
  match j with
  | ⟨0, _⟩ => rfl

/-- The second factor's block at a point, under that table. -/
theorem transform1' : ∀ i : grid0.Coords, cc0_transform_1 inb_S1_S1_0 numel1_S1 (table' (F := F)) i = ![0, 2 * (i 1).val] := by
  intro i
  show ![0, (Scalar.addi (Scalar.muli 2#32 (BitVec.ofNat 32 (i 1).val)) 0#32).toNat] = ![0, 2 * (i 1).val]
  refine congrArg (fun k : ℕ => ![0, k]) ?_
  exact (by decide +kernel : ∀ j : Fin 4, (Scalar.addi (Scalar.muli 2#32 (BitVec.ofNat 32 j.val)) 0#32).toNat = 2 * j.val + 0) (i 1)

/-- The call reads within its arrays. -/
theorem ok' : Ok m := by
  unfold Ok
  rw [table_eq']
  intro i
  have h : ∀ a, (cc0_transform_1 inb_S1_S1_0 numel1_S1 (table' (F := F)) i a + 1) * S2048x896.size a ≤ S2048x7168.size a := by
    rw [transform1']
    exact (by decide +kernel : ∀ i : grid0.Coords, ∀ a, ((![0, 2 * (i 1).val] : Fin 2 → ℕ) a + 1) * S2048x896.size a ≤ S2048x7168.size a) i
  exact ⟨h, .inr (Affine.block_words_dvd (of_decide_eq_true rfl) (by decide))⟩

end table

section kernel

open Idealize.ShloMosaic Idealize.SL.Sem Cert.Kernel14Ideal Cert.Kernel14Ideal.Gen Idealize.ShloMosaic.TcCoe

section table

variable {F : FTy → Type} [FloatOps F] (m : (ℓ : Loc nD τ sig) → Buf (Elt F) ℓ)

/-- The table's contents at the call: one word. -/
def table : pre0.Contents (Elt F) := fun j => match j with
  | ⟨0, _⟩ => (fun _ => 0#32 : Vec F S1 .i32)
  | ⟨_ + 1, h⟩ => absurd h (Nat.not_lt.2 (Nat.le_add_left _ _))

/-- The table the call finds. -/
theorem table_eq : tbl m = table := by
  funext j
  match j with
  | ⟨0, _⟩ => rfl

/-- The second factor's block at a point, under that table. -/
theorem transform1 : ∀ i : grid0.Coords, cc0_transform_1 inb_S1_S1_0 numel1_S1 (table (F := F)) i = ![0, 2 * (i 1).val] := by
  intro i
  show ![0, (Scalar.addi (Scalar.muli 2#32 (BitVec.ofNat 32 (i 1).val)) 0#32).toNat] = ![0, 2 * (i 1).val]
  refine congrArg (fun k : ℕ => ![0, k]) ?_
  exact (by decide +kernel : ∀ j : Fin 4, (Scalar.addi (Scalar.muli 2#32 (BitVec.ofNat 32 j.val)) 0#32).toNat = 2 * j.val + 0) (i 1)

/-- The call reads within its arrays. -/
theorem ok : Ok m := by
  unfold Ok
  rw [table_eq]
  intro i
  have h : ∀ a, (cc0_transform_1 inb_S1_S1_0 numel1_S1 (table (F := F)) i a + 1) * S2048x896.size a ≤ S2048x7168.size a := by
    rw [transform1]
    exact (by decide +kernel : ∀ i : grid0.Coords, ∀ a, ((![0, 2 * (i 1).val] : Fin 2 → ℕ) a + 1) * S2048x896.size a ≤ S2048x7168.size a) i
  exact ⟨h, .inr (Affine.block_words_dvd (of_decide_eq_true rfl) (by decide))⟩

end table

variable (m : (ℓ : Loc nD τ sig) → Buf (Elt Ideal) ℓ) (c : Dev nD)

/-- The body's product. -/
theorem body (i : grid0.Coords) (arg3 : Memref sig .tc .vmem S2048x1024 .bf16) (harg3 : arg3.IsWhole) (arg4 : Memref sig .tc .vmem S2048x896 .bf16) (harg4 : arg4.IsWhole) (arg5 : Memref sig .tc .vmem S1x1024x896 .bf16) (harg5 : arg5.IsWhole)
    (x : Vec Ideal S2048x1024 .bf16) (y : Vec Ideal S2048x896 .bf16) (z : TbBuf0 (F := Ideal) c tbM0_0) (r : Fin 1024) (s : Fin 896) :
    out0_A_2 c i arg3 harg3 arg4 harg4 arg5 harg5 x y z (ix3 0 r s) = ∑ k : Fin 2048, x (ix2 k r) * y (ix2 k s) := by
  have ex : View.readAt (Elt Ideal) arg3.view (Rect.unit ![0, 0] S2048x1024.size inb_S2048x1024_S2048x1024_0_0).toLoadRect (harg3.unread x) = x :=
    (funext fun j => harg3.readAt_unread x _ j).trans (View.ld_unit_zero (by decide) inb_S2048x1024_S2048x1024_0_0 x)
  have ey : View.readAt (Elt Ideal) arg4.view (Rect.unit ![0, 0] S2048x896.size inb_S2048x896_S2048x896_0_0).toLoadRect (harg4.unread y) = y :=
    (funext fun j => harg4.readAt_unread y _ j).trans (View.ld_unit_zero (by decide) inb_S2048x896_S2048x896_0_0 y)
  have e : out0_A_2 c i arg3 harg3 arg4 harg4 arg5 harg5 x y z (ix3 0 r s) = k0_pay1 x y (ix3 0 r s) := by
    unfold out0_A_2 kernelRun0_A
    dsimp only
    rw [View.read_writes_cons_unit_of_mem VO0_2 _ inb_S1x1024x896_S1x1024x896_0_0_0 _ _ (ix3 0 r s) (ix3 0 r s) rfl (fun a => by
      match a with
      | ⟨0, _⟩ => rfl
      | ⟨1, _⟩ => exact (Nat.zero_add _).symm
      | ⟨2, _⟩ => exact (Nat.zero_add _).symm)]
    exact congrArg₂ (fun u v => k0_pay1 (F := Ideal) u v (ix3 0 r s)) ex ey
  rw [e]
  pointwise [k0_pay1]

theorem index0 (hO : Ok m) : ∀ t : Fin (cfgM m hO).N, cc0_transform_0 (grid0.coords t) 0 = 0 ∧ cc0_transform_0 (grid0.coords t) 1 = t.val / 4 :=
  (by decide +kernel : ∀ t : Fin grid0.N, cc0_transform_0 (grid0.coords t) 0 = 0 ∧ cc0_transform_0 (grid0.coords t) 1 = t.val / 4)

theorem index1 (hO : Ok m) : ∀ t : Fin (cfgM m hO).N, cc0_transform_1 inb_S1_S1_0 numel1_S1 (tbl m) (grid0.coords t) 0 = 0 ∧ cc0_transform_1 inb_S1_S1_0 numel1_S1 (tbl m) (grid0.coords t) 1 = 2 * (t.val % 4) := by
  intro t
  have h : cc0_transform_1 inb_S1_S1_0 numel1_S1 (tbl m) (grid0.coords t) = ![0, 2 * (grid0.coords t 1).val] := by
    rw [table_eq, transform1]
  rw [h]
  exact (by decide +kernel : ∀ t : Fin grid0.N, (![0, 2 * (grid0.coords t 1).val] : Fin 2 → ℕ) 0 = 0 ∧ (![0, 2 * (grid0.coords t 1).val] : Fin 2 → ℕ) 1 = 2 * (t.val % 4)) t

theorem index2 (hO : Ok m) : ∀ t : Fin (cfgM m hO).N, cc0_transform_2 (grid0.coords t) 0 = t.val % 4 ∧ cc0_transform_2 (grid0.coords t) 1 = t.val / 4 ∧ cc0_transform_2 (grid0.coords t) 2 = 0 :=
  (by decide +kernel : ∀ t : Fin grid0.N, cc0_transform_2 (grid0.coords t) 0 = t.val % 4 ∧ cc0_transform_2 (grid0.coords t) 1 = t.val / 4 ∧ cc0_transform_2 (grid0.coords t) 2 = 0)

/-- What a point writes back. -/
theorem flushed2 (hO : Ok m) (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

theorem index_injective (hO : Ok m) (t t' : Fin (cfgM m hO).N) (h : cc0_transform_2 (grid0.coords t) = cc0_transform_2 (grid0.coords t')) : t = t' := by
  have h0 := congrFun h 0
  have h1 := congrFun h 1
  have e := index2 m hO t
  have e' := index2 m hO t'
  rw [e.1, e'.1] at h0
  rw [e.2.1, e'.2.1] at h1
  exact Fin.ext (by omega)

/-- Two points write apart. -/
theorem disjoint2 (hO : Ok m) : ∀ t t' : Fin (cfgM m hO).N, ((cfgM m hO).win 2).flush t = true → ((cfgM m hO).win 2).flush t' = true → t ≠ t' →
    Disjoint (((cfgM m hO).win 2).blk t).view.set (((cfgM m hO).win 2).blk t').view.set :=
  fun t t' _ _ hne => ((cfgM m hO).win 2).disjoint_blk fun h => hne (index_injective m hO t t' h)

/-- A block of the result after the run is what its point wrote. -/
theorem blocks2 (hO : Ok m) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (disjoint2 m hO) (cfgM m hO).N t t.isLt (flush0_2 _ t)

/-- A block of the first factor's columns. -/
theorem read0 (hO : Ok m) (X : (⟨S2048x2048, .bf16⟩ : BufTy).Contents (Elt Ideal)) (t : Fin (cfgM m hO).N) (k : Fin 2048) (r : Fin 1024) (r' : Fin 2048)
    (h1 : r'.val = t.val / 4 * 1024 + r.val) :
    ((((cfgM m hO).win 0).blk t).view.read (Elt Ideal) X : Vec Ideal S2048x1024 .bf16) (ix2 k r) = X (ix2 k r') := by
  have hi := index0 m hO t
  refine congrArg X ?_
  funext a
  apply Fin.ext
  match a with
  | ⟨0, _⟩ => show cc0_transform_0 (grid0.coords t) 0 * 2048 + 1 * k.val = k.val; rw [hi.1]; omega
  | ⟨1, _⟩ => show cc0_transform_0 (grid0.coords t) 1 * 1024 + 1 * r.val = r'.val; rw [hi.2, h1]; omega

/-- A block of the second factor's columns. -/
theorem read1 (hO : Ok m) (X : (⟨S2048x7168, .bf16⟩ : BufTy).Contents (Elt Ideal)) (t : Fin (cfgM m hO).N) (k : Fin 2048) (s : Fin 896) (s' : Fin 7168)
    (h1 : s'.val = 2 * (t.val % 4) * 896 + s.val) :
    ((((cfgM m hO).win 1).blk t).view.read (Elt Ideal) X : Vec Ideal S2048x896 .bf16) (ix2 k s) = X (ix2 k s') := by
  have hi := index1 m hO t
  refine congrArg X ?_
  funext a
  apply Fin.ext
  match a with
  | ⟨0, _⟩ => show cc0_transform_1 inb_S1_S1_0 numel1_S1 (tbl m) (grid0.coords t) 0 * 2048 + 1 * k.val = k.val; rw [hi.1]; omega
  | ⟨1, _⟩ => show cc0_transform_1 inb_S1_S1_0 numel1_S1 (tbl m) (grid0.coords t) 1 * 896 + 1 * s.val = s'.val; rw [hi.2, h1]; omega

/-- A block of the result. -/
theorem read2 (hO : Ok m) (X : (⟨S4x2048x896, .bf16⟩ : BufTy).Contents (Elt Ideal)) (t : Fin (cfgM m hO).N) (r : Fin 1024) (s : Fin 896) (a' : Fin 4) (r' : Fin 2048)
    (h0 : a'.val = t.val % 4) (h1 : r'.val = t.val / 4 * 1024 + r.val) :
    ((((cfgM m hO).win 2).blk t).view.read (Elt Ideal) X : Vec Ideal S1x1024x896 .bf16) (ix3 0 r s) = X (ix3 a' r' s) := by
  have hi := index2 m hO t
  refine congrArg X ?_
  funext a
  apply Fin.ext
  match a with
  | ⟨0, _⟩ => show cc0_transform_2 (grid0.coords t) 0 * 1 + 1 * 0 = a'.val; rw [hi.1, h0]; omega
  | ⟨1, _⟩ => show cc0_transform_2 (grid0.coords t) 1 * 1024 + 1 * r.val = r'.val; rw [hi.2.1, h1]; omega
  | ⟨2, _⟩ => show cc0_transform_2 (grid0.coords t) 2 * 896 + 1 * s.val = s.val; rw [hi.2.2]; omega

/-- The result after the run. -/
theorem value (hO : Ok m) (A : (⟨S2048x2048, .bf16⟩ : BufTy).Contents (Elt Ideal)) (B : (⟨S2048x7168, .bf16⟩ : BufTy).Contents (Elt Ideal))
    (hA : V (F := Ideal) m c main_arg0 = A) (hB : V (F := Ideal) m c main_arg2 = B) (a : Fin 4) (r : Fin 2048) (s : Fin 896) :
    ((dats (F := Ideal) m hO 0 c).arrAt 2 (cfgM m hO).N : (⟨S4x2048x896, .bf16⟩ : BufTy).Contents (Elt Ideal)) (ix3 a r s)
      = ∑ k : Fin 2048, A (ix2 k r) * B (ix2 k ⟨2 * a.val * 896 + s.val, by omega⟩) := by
  obtain ⟨t, ht⟩ : ∃ t : Fin (cfgM m hO).N, t.val = r.val / 1024 * 4 + a.val := ⟨⟨_, by show _ < 8; omega⟩, rfl⟩
  have hx := congrFun (blocks2 m c hO t) (ix3 0 ⟨r.val % 1024, by omega⟩ s)
  rw [flushed2] at hx
  refine ((read2 m hO _ t ⟨r.val % 1024, by omega⟩ s a r (by omega) (by show r.val = _ / 4 * 1024 + r.val % 1024; omega)).symm.trans hx).trans ?_
  refine (body c _ _ _ _ _ _ _ (iblk m hO c 0 t) (iblk m hO c 1 t) _ ⟨r.val % 1024, by omega⟩ s).trans ?_
  subst hA hB
  refine Finset.sum_congr rfl fun k _ => ?_
  exact congrArg₂ (· * ·) (read0 m hO (V (F := Ideal) m c main_arg0) t k _ r (by show r.val = _ / 4 * 1024 + r.val % 1024; omega))
    (read1 m hO (V (F := Ideal) m c main_arg2) t k s _ (by show 2 * a.val * 896 + s.val = 2 * (_ % 4) * 896 + s.val; omega))

/-- The run, the result's array named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).1 1).trans (((dats m (ok m) 0 c).arrAt_in 1 rfl _).trans ((A_eq m (ok m) c 1).trans (V_main_arg2 m c)))⟩)
    (run_main m ρ (ok m))

end kernel

section reference

open Idealize.ShloMosaic Cert.Reference14Ideal Cert.Reference14Ideal.Read

/-- The reference's result. -/
theorem ref (A : (⟨S2048x2048, .bf16⟩ : BufTy).Contents (Elt Ideal)) (B : (⟨S2048x7168, .bf16⟩ : BufTy).Contents (Elt Ideal)) (a : Fin 4) (r : Fin 2048) (s : Fin 896) :
    val_main_v11 (F := Ideal) A B (ix3 a r s) = ∑ k : Fin 2048, A (ix2 k r) * B (ix2 k ⟨2 * a.val * 896 + s.val, by omega⟩) := by
  have hs : val_main_v11 (F := Ideal) A B (ix3 a r s) = val_main_v10 (F := Ideal) A B (ix3 ⟨2 * a.val, by omega⟩ r s) := by
    refine congrArg (val_main_v10 (F := Ideal) A B) ?_
    funext b
    apply Fin.ext
    match b with
    | ⟨0, _⟩ => show 0 + 2 * a.val = 2 * a.val; omega
    | ⟨1, _⟩ => show 0 + 1 * r.val = r.val; omega
    | ⟨2, _⟩ => show 0 + 1 * s.val = s.val; omega
  rw [hs]
  pointwise [val_main_v10, val_main_v9]
  rw [val_main_v8_apply, val_main_v7_apply]
  have e : idx_main_v7 (idx_main_v8 (ix3 r (⟨2 * a.val, by omega⟩ : Fin 8) s)) = ix2 (⟨2 * a.val * 896 + s.val, by omega⟩ : Fin 7168) r := by
    funext b
    apply Fin.ext
    match b with
    | ⟨0, _⟩ => show ((r.val * 8 + (2 * a.val)) * 896 + s.val) % 7168 = 2 * a.val * 896 + s.val; omega
    | ⟨1, _⟩ => show ((r.val * 8 + (2 * a.val)) * 896 + s.val) / 7168 = r.val; omega
  rw [e]
  pointwise [val_main_v6, val_main_v5, val_main_v1]
  exact Finset.sum_congr rfl fun k _ => mul_comm _ _

/-- The kernel's result is the reference's. -/
theorem same (m : (ℓ : Loc Cert.Kernel14Ideal.nD Cert.Kernel14Ideal.τ Cert.Kernel14Ideal.sig) → Buf (Elt Ideal) ℓ) (c : Dev Cert.Kernel14Ideal.nD)
    (A : (⟨S2048x2048, .bf16⟩ : BufTy).Contents (Elt Ideal)) (B : (⟨S2048x7168, .bf16⟩ : BufTy).Contents (Elt Ideal))
    (hA : m ((c.tc : Thread _ _).loc Cert.Kernel14Ideal.main_arg0) = A) (hB : m ((c.tc : Thread _ _).loc Cert.Kernel14Ideal.main_arg2) = B) :
    val_main_v11 (F := Ideal) A B
      = (Cert.Kernel14Ideal.Gen.dats (F := Ideal) m (ok m) 0 c).arrAt 2 (Cert.Kernel14Ideal.Gen.cfgM m (ok m)).N := by
  funext i
  have e : i = ix3 (i 0) (i 1) (i 2) := by
    funext a
    match a with
    | ⟨0, _⟩ => rfl
    | ⟨1, _⟩ => rfl
    | ⟨2, _⟩ => rfl
  rw [e]
  exact (ref A B (i 0) (i 1) (i 2)).trans (value m c (ok m) A B ((Cert.Kernel14Ideal.Gen.V_main_arg0 m c).trans hA)
    ((Cert.Kernel14Ideal.Gen.V_main_arg2 m c).trans hB) (i 0) (i 1) (i 2)).symm

end reference

section claims

open Idealize.ShloMosaic Idealize.SL.Sem

/-- The reference runs to its end, its arguments unchanged; it declares no semaphore. -/
theorem frame_reference : Cert.quiescent_Reference14Ideal (hReference14Ideal := Cert.Reference14Ideal.Gen.facts) :=
  fun m ρ _ => (θ_run Cert.Reference14Ideal.defs _ _).mono
    (fun r h => ⟨fun c => (h c).2, sem_eq_zero_of_no_sems (by decide) r.2⟩)
    (Cert.Reference14Ideal.Value.run (F := Ideal) m ρ)

/-- From equal arguments the kernel and the reference end with the same array. -/
theorem same_results : Cert.algebraic_Kernel14Ideal_Reference14Ideal (hKernel14Ideal := Cert.Kernel14Ideal.Gen.facts)
    (hReference14Ideal := Cert.Reference14Ideal.Gen.facts) := by
  intro m g m' g' _ h
  refine ⟨fun c => (Cert.Kernel14Ideal.Gen.dats (F := Ideal) m (ok m) 0 c).arrAt 2 (Cert.Kernel14Ideal.Gen.cfgM m (ok m)).N,
    run m g, ?_⟩
  refine (θ_run Cert.Reference14Ideal.defs _ _).mono (fun r hr c => ?_) (Cert.Reference14Ideal.Value.run (F := Ideal) m' g')
  obtain ⟨r0, rest⟩ := hr c
  obtain ⟨h0, h1, h2⟩ := h c
  exact ⟨r0.trans ((Cert.Reference14Ideal.Read.val_main_v11_eq _ _).trans (same m c _ _ h0.symm h2.symm)), rest⟩

end claims

end Cert.Product14

end
-- ==== Proof.Product15.lean ====
/-
The gradient of the even input projection by its weight, its slices of odd number: each block of the result is a product of a block of
columns of one array, transposed, and a block of columns of another, chosen by the word of a table.
-/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit
public import Idealize.ShloMosaic.Lib.IdealHost
public import Idealize.ShloMosaic.Lib.WholeRead
public import Idealize.ShloMosaic.Lib.WritesUnit

@[expose] public section

set_option backward.proofsInPublic true
set_option maxRecDepth 16384
set_option maxHeartbeats 1000000

noncomputable section

namespace Cert.Product15

section table

open Idealize.ShloMosaic Idealize.SL.Sem Cert.Kernel15 Cert.Kernel15.Gen Idealize.ShloMosaic.TcCoe

variable {F : FTy → Type} [FloatOps F] (m : (ℓ : Loc nD τ sig) → Buf (Elt F) ℓ)

/-- The table's contents at the call: one word. -/
def table' : pre0.Contents (Elt F) := fun j => match j with
  | ⟨0, _⟩ => (fun _ => 1#32 : Vec F S1 .i32)
  | ⟨_ + 1, h⟩ => absurd h (Nat.not_lt.2 (Nat.le_add_left _ _))

/-- The table that the call finds. -/
theorem table_eq' : tbl m = table' := by
  funext j
  match j with
  | ⟨0, _⟩ => rfl

/-- The second factor's block at a point, under that table. -/
theorem transform1' : ∀ i : grid0.Coords, cc0_transform_1 inb_S1_S1_0 numel1_S1 (table' (F := F)) i = ![0, 2 * (i 1).val + 1] := by
  intro i
  show ![0, (Scalar.addi (Scalar.muli 2#32 (BitVec.ofNat 32 (i 1).val)) 1#32).toNat] = ![0, 2 * (i 1).val + 1]
  refine congrArg (fun k : ℕ => ![0, k]) ?_
  exact (by decide +kernel : ∀ j : Fin 4, (Scalar.addi (Scalar.muli 2#32 (BitVec.ofNat 32 j.val)) 1#32).toNat = 2 * j.val + 1) (i 1)

/-- The call reads within its arrays. -/
theorem ok' : Ok m := by
  unfold Ok
  rw [table_eq']
  intro i
  have h : ∀ a, (cc0_transform_1 inb_S1_S1_0 numel1_S1 (table' (F := F)) i a + 1) * S2048x896.size a ≤ S2048x7168.size a := by
    rw [transform1']
    exact (by decide +kernel : ∀ i : grid0.Coords, ∀ a, ((![0, 2 * (i 1).val + 1] : Fin 2 → ℕ) a + 1) * S2048x896.size a ≤ S2048x7168.size a) i
  exact ⟨h, .inr (Affine.block_words_dvd (of_decide_eq_true rfl) (by decide))⟩

end table

section kernel

open Idealize.ShloMosaic Idealize.SL.Sem Cert.Kernel15Ideal Cert.Kernel15Ideal.Gen Idealize.ShloMosaic.TcCoe

section table

variable {F : FTy → Type} [FloatOps F] (m : (ℓ : Loc nD τ sig) → Buf (Elt F) ℓ)

/-- The table's contents at the call: one word. -/
def table : pre0.Contents (Elt F) := fun j => match j with
  | ⟨0, _⟩ => (fun _ => 1#32 : Vec F S1 .i32)
  | ⟨_ + 1, h⟩ => absurd h (Nat.not_lt.2 (Nat.le_add_left _ _))

/-- The table the call finds. -/
theorem table_eq : tbl m = table := by
  funext j
  match j with
  | ⟨0, _⟩ => rfl

/-- The second factor's block at a point, under that table. -/
theorem transform1 : ∀ i : grid0.Coords, cc0_transform_1 inb_S1_S1_0 numel1_S1 (table (F := F)) i = ![0, 2 * (i 1).val + 1] := by
  intro i
  show ![0, (Scalar.addi (Scalar.muli 2#32 (BitVec.ofNat 32 (i 1).val)) 1#32).toNat] = ![0, 2 * (i 1).val + 1]
  refine congrArg (fun k : ℕ => ![0, k]) ?_
  exact (by decide +kernel : ∀ j : Fin 4, (Scalar.addi (Scalar.muli 2#32 (BitVec.ofNat 32 j.val)) 1#32).toNat = 2 * j.val + 1) (i 1)

/-- The call reads within its arrays. -/
theorem ok : Ok m := by
  unfold Ok
  rw [table_eq]
  intro i
  have h : ∀ a, (cc0_transform_1 inb_S1_S1_0 numel1_S1 (table (F := F)) i a + 1) * S2048x896.size a ≤ S2048x7168.size a := by
    rw [transform1]
    exact (by decide +kernel : ∀ i : grid0.Coords, ∀ a, ((![0, 2 * (i 1).val + 1] : Fin 2 → ℕ) a + 1) * S2048x896.size a ≤ S2048x7168.size a) i
  exact ⟨h, .inr (Affine.block_words_dvd (of_decide_eq_true rfl) (by decide))⟩

end table

variable (m : (ℓ : Loc nD τ sig) → Buf (Elt Ideal) ℓ) (c : Dev nD)

/-- The body's product. -/
theorem body (i : grid0.Coords) (arg3 : Memref sig .tc .vmem S2048x1024 .bf16) (harg3 : arg3.IsWhole) (arg4 : Memref sig .tc .vmem S2048x896 .bf16) (harg4 : arg4.IsWhole) (arg5 : Memref sig .tc .vmem S1x1024x896 .bf16) (harg5 : arg5.IsWhole)
    (x : Vec Ideal S2048x1024 .bf16) (y : Vec Ideal S2048x896 .bf16) (z : TbBuf0 (F := Ideal) c tbM0_0) (r : Fin 1024) (s : Fin 896) :
    out0_A_2 c i arg3 harg3 arg4 harg4 arg5 harg5 x y z (ix3 0 r s) = ∑ k : Fin 2048, x (ix2 k r) * y (ix2 k s) := by
  have ex : View.readAt (Elt Ideal) arg3.view (Rect.unit ![0, 0] S2048x1024.size inb_S2048x1024_S2048x1024_0_0).toLoadRect (harg3.unread x) = x :=
    (funext fun j => harg3.readAt_unread x _ j).trans (View.ld_unit_zero (by decide) inb_S2048x1024_S2048x1024_0_0 x)
  have ey : View.readAt (Elt Ideal) arg4.view (Rect.unit ![0, 0] S2048x896.size inb_S2048x896_S2048x896_0_0).toLoadRect (harg4.unread y) = y :=
    (funext fun j => harg4.readAt_unread y _ j).trans (View.ld_unit_zero (by decide) inb_S2048x896_S2048x896_0_0 y)
  have e : out0_A_2 c i arg3 harg3 arg4 harg4 arg5 harg5 x y z (ix3 0 r s) = k0_pay1 x y (ix3 0 r s) := by
    unfold out0_A_2 kernelRun0_A
    dsimp only
    rw [View.read_writes_cons_unit_of_mem VO0_2 _ inb_S1x1024x896_S1x1024x896_0_0_0 _ _ (ix3 0 r s) (ix3 0 r s) rfl (fun a => by
      match a with
      | ⟨0, _⟩ => rfl
      | ⟨1, _⟩ => exact (Nat.zero_add _).symm
      | ⟨2, _⟩ => exact (Nat.zero_add _).symm)]
    exact congrArg₂ (fun u v => k0_pay1 (F := Ideal) u v (ix3 0 r s)) ex ey
  rw [e]
  pointwise [k0_pay1]

theorem index0 (hO : Ok m) : ∀ t : Fin (cfgM m hO).N, cc0_transform_0 (grid0.coords t) 0 = 0 ∧ cc0_transform_0 (grid0.coords t) 1 = t.val / 4 :=
  (by decide +kernel : ∀ t : Fin grid0.N, cc0_transform_0 (grid0.coords t) 0 = 0 ∧ cc0_transform_0 (grid0.coords t) 1 = t.val / 4)

theorem index1 (hO : Ok m) : ∀ t : Fin (cfgM m hO).N, cc0_transform_1 inb_S1_S1_0 numel1_S1 (tbl m) (grid0.coords t) 0 = 0 ∧ cc0_transform_1 inb_S1_S1_0 numel1_S1 (tbl m) (grid0.coords t) 1 = 2 * (t.val % 4) + 1 := by
  intro t
  have h : cc0_transform_1 inb_S1_S1_0 numel1_S1 (tbl m) (grid0.coords t) = ![0, 2 * (grid0.coords t 1).val + 1] := by
    rw [table_eq, transform1]
  rw [h]
  exact (by decide +kernel : ∀ t : Fin grid0.N, (![0, 2 * (grid0.coords t 1).val + 1] : Fin 2 → ℕ) 0 = 0 ∧ (![0, 2 * (grid0.coords t 1).val + 1] : Fin 2 → ℕ) 1 = 2 * (t.val % 4) + 1) t

theorem index2 (hO : Ok m) : ∀ t : Fin (cfgM m hO).N, cc0_transform_2 (grid0.coords t) 0 = t.val % 4 ∧ cc0_transform_2 (grid0.coords t) 1 = t.val / 4 ∧ cc0_transform_2 (grid0.coords t) 2 = 0 :=
  (by decide +kernel : ∀ t : Fin grid0.N, cc0_transform_2 (grid0.coords t) 0 = t.val % 4 ∧ cc0_transform_2 (grid0.coords t) 1 = t.val / 4 ∧ cc0_transform_2 (grid0.coords t) 2 = 0)

/-- What a point writes back. -/
theorem flushed2 (hO : Ok m) (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

theorem index_injective (hO : Ok m) (t t' : Fin (cfgM m hO).N) (h : cc0_transform_2 (grid0.coords t) = cc0_transform_2 (grid0.coords t')) : t = t' := by
  have h0 := congrFun h 0
  have h1 := congrFun h 1
  have e := index2 m hO t
  have e' := index2 m hO t'
  rw [e.1, e'.1] at h0
  rw [e.2.1, e'.2.1] at h1
  exact Fin.ext (by omega)

/-- Two points write apart. -/
theorem disjoint2 (hO : Ok m) : ∀ t t' : Fin (cfgM m hO).N, ((cfgM m hO).win 2).flush t = true → ((cfgM m hO).win 2).flush t' = true → t ≠ t' →
    Disjoint (((cfgM m hO).win 2).blk t).view.set (((cfgM m hO).win 2).blk t').view.set :=
  fun t t' _ _ hne => ((cfgM m hO).win 2).disjoint_blk fun h => hne (index_injective m hO t t' h)

/-- A block of the result after the run is what its point wrote. -/
theorem blocks2 (hO : Ok m) (t : Fin (cfgM m hO).N) :
    (((cfgM m hO).win 2).blk t).view.read (Elt Ideal) ((dats m hO 0 c).arrAt 2 (cfgM m hO).N) = (dats m hO 0 c).flushed 2 t :=
  (dats m hO 0 c).read_blk_arrAt_eq_flushed 2 (disjoint2 m hO) (cfgM m hO).N t t.isLt (flush0_2 _ t)

/-- A block of the first factor's columns. -/
theorem read0 (hO : Ok m) (X : (⟨S2048x2048, .bf16⟩ : BufTy).Contents (Elt Ideal)) (t : Fin (cfgM m hO).N) (k : Fin 2048) (r : Fin 1024) (r' : Fin 2048)
    (h1 : r'.val = t.val / 4 * 1024 + r.val) :
    ((((cfgM m hO).win 0).blk t).view.read (Elt Ideal) X : Vec Ideal S2048x1024 .bf16) (ix2 k r) = X (ix2 k r') := by
  have hi := index0 m hO t
  refine congrArg X ?_
  funext a
  apply Fin.ext
  match a with
  | ⟨0, _⟩ => show cc0_transform_0 (grid0.coords t) 0 * 2048 + 1 * k.val = k.val; rw [hi.1]; omega
  | ⟨1, _⟩ => show cc0_transform_0 (grid0.coords t) 1 * 1024 + 1 * r.val = r'.val; rw [hi.2, h1]; omega

/-- A block of the second factor's columns. -/
theorem read1 (hO : Ok m) (X : (⟨S2048x7168, .bf16⟩ : BufTy).Contents (Elt Ideal)) (t : Fin (cfgM m hO).N) (k : Fin 2048) (s : Fin 896) (s' : Fin 7168)
    (h1 : s'.val = (2 * (t.val % 4) + 1) * 896 + s.val) :
    ((((cfgM m hO).win 1).blk t).view.read (Elt Ideal) X : Vec Ideal S2048x896 .bf16) (ix2 k s) = X (ix2 k s') := by
  have hi := index1 m hO t
  refine congrArg X ?_
  funext a
  apply Fin.ext
  match a with
  | ⟨0, _⟩ => show cc0_transform_1 inb_S1_S1_0 numel1_S1 (tbl m) (grid0.coords t) 0 * 2048 + 1 * k.val = k.val; rw [hi.1]; omega
  | ⟨1, _⟩ => show cc0_transform_1 inb_S1_S1_0 numel1_S1 (tbl m) (grid0.coords t) 1 * 896 + 1 * s.val = s'.val; rw [hi.2, h1]; omega

/-- A block of the result. -/
theorem read2 (hO : Ok m) (X : (⟨S4x2048x896, .bf16⟩ : BufTy).Contents (Elt Ideal)) (t : Fin (cfgM m hO).N) (r : Fin 1024) (s : Fin 896) (a' : Fin 4) (r' : Fin 2048)
    (h0 : a'.val = t.val % 4) (h1 : r'.val = t.val / 4 * 1024 + r.val) :
    ((((cfgM m hO).win 2).blk t).view.read (Elt Ideal) X : Vec Ideal S1x1024x896 .bf16) (ix3 0 r s) = X (ix3 a' r' s) := by
  have hi := index2 m hO t
  refine congrArg X ?_
  funext a
  apply Fin.ext
  match a with
  | ⟨0, _⟩ => show cc0_transform_2 (grid0.coords t) 0 * 1 + 1 * 0 = a'.val; rw [hi.1, h0]; omega
  | ⟨1, _⟩ => show cc0_transform_2 (grid0.coords t) 1 * 1024 + 1 * r.val = r'.val; rw [hi.2.1, h1]; omega
  | ⟨2, _⟩ => show cc0_transform_2 (grid0.coords t) 2 * 896 + 1 * s.val = s.val; rw [hi.2.2]; omega

/-- The result after the run. -/
theorem value (hO : Ok m) (A : (⟨S2048x2048, .bf16⟩ : BufTy).Contents (Elt Ideal)) (B : (⟨S2048x7168, .bf16⟩ : BufTy).Contents (Elt Ideal))
    (hA : V (F := Ideal) m c main_arg0 = A) (hB : V (F := Ideal) m c main_arg2 = B) (a : Fin 4) (r : Fin 2048) (s : Fin 896) :
    ((dats (F := Ideal) m hO 0 c).arrAt 2 (cfgM m hO).N : (⟨S4x2048x896, .bf16⟩ : BufTy).Contents (Elt Ideal)) (ix3 a r s)
      = ∑ k : Fin 2048, A (ix2 k r) * B (ix2 k ⟨(2 * a.val + 1) * 896 + s.val, by omega⟩) := by
  obtain ⟨t, ht⟩ : ∃ t : Fin (cfgM m hO).N, t.val = r.val / 1024 * 4 + a.val := ⟨⟨_, by show _ < 8; omega⟩, rfl⟩
  have hx := congrFun (blocks2 m c hO t) (ix3 0 ⟨r.val % 1024, by omega⟩ s)
  rw [flushed2] at hx
  refine ((read2 m hO _ t ⟨r.val % 1024, by omega⟩ s a r (by omega) (by show r.val = _ / 4 * 1024 + r.val % 1024; omega)).symm.trans hx).trans ?_
  refine (body c _ _ _ _ _ _ _ (iblk m hO c 0 t) (iblk m hO c 1 t) _ ⟨r.val % 1024, by omega⟩ s).trans ?_
  subst hA hB
  refine Finset.sum_congr rfl fun k _ => ?_
  exact congrArg₂ (· * ·) (read0 m hO (V (F := Ideal) m c main_arg0) t k _ r (by show r.val = _ / 4 * 1024 + r.val % 1024; omega))
    (read1 m hO (V (F := Ideal) m c main_arg2) t k s _ (by show (2 * a.val + 1) * 896 + s.val = (2 * (_ % 4) + 1) * 896 + s.val; omega))

/-- The run, the result's array named and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = (dats m (ok m) 0 c).arrAt 2 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 2,
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).1 1).trans (((dats m (ok m) 0 c).arrAt_in 1 rfl _).trans ((A_eq m (ok m) c 1).trans (V_main_arg2 m c)))⟩)
    (run_main m ρ (ok m))

end kernel

section reference

open Idealize.ShloMosaic Cert.Reference15Ideal Cert.Reference15Ideal.Read

/-- The reference's result. -/
theorem ref (A : (⟨S2048x2048, .bf16⟩ : BufTy).Contents (Elt Ideal)) (B : (⟨S2048x7168, .bf16⟩ : BufTy).Contents (Elt Ideal)) (a : Fin 4) (r : Fin 2048) (s : Fin 896) :
    val_main_v11 (F := Ideal) A B (ix3 a r s) = ∑ k : Fin 2048, A (ix2 k r) * B (ix2 k ⟨(2 * a.val + 1) * 896 + s.val, by omega⟩) := by
  have hs : val_main_v11 (F := Ideal) A B (ix3 a r s) = val_main_v10 (F := Ideal) A B (ix3 ⟨2 * a.val + 1, by omega⟩ r s) := by
    refine congrArg (val_main_v10 (F := Ideal) A B) ?_
    funext b
    apply Fin.ext
    match b with
    | ⟨0, _⟩ => show 1 + 2 * a.val = 2 * a.val + 1; omega
    | ⟨1, _⟩ => show 0 + 1 * r.val = r.val; omega
    | ⟨2, _⟩ => show 0 + 1 * s.val = s.val; omega
  rw [hs]
  pointwise [val_main_v10, val_main_v9]
  rw [val_main_v8_apply, val_main_v7_apply]
  have e : idx_main_v7 (idx_main_v8 (ix3 r (⟨2 * a.val + 1, by omega⟩ : Fin 8) s)) = ix2 (⟨(2 * a.val + 1) * 896 + s.val, by omega⟩ : Fin 7168) r := by
    funext b
    apply Fin.ext
    match b with
    | ⟨0, _⟩ => show ((r.val * 8 + (2 * a.val + 1)) * 896 + s.val) % 7168 = (2 * a.val + 1) * 896 + s.val; omega
    | ⟨1, _⟩ => show ((r.val * 8 + (2 * a.val + 1)) * 896 + s.val) / 7168 = r.val; omega
  rw [e]
  pointwise [val_main_v6, val_main_v5, val_main_v1]
  exact Finset.sum_congr rfl fun k _ => mul_comm _ _

/-- The kernel's result is the reference's. -/
theorem same (m : (ℓ : Loc Cert.Kernel15Ideal.nD Cert.Kernel15Ideal.τ Cert.Kernel15Ideal.sig) → Buf (Elt Ideal) ℓ) (c : Dev Cert.Kernel15Ideal.nD)
    (A : (⟨S2048x2048, .bf16⟩ : BufTy).Contents (Elt Ideal)) (B : (⟨S2048x7168, .bf16⟩ : BufTy).Contents (Elt Ideal))
    (hA : m ((c.tc : Thread _ _).loc Cert.Kernel15Ideal.main_arg0) = A) (hB : m ((c.tc : Thread _ _).loc Cert.Kernel15Ideal.main_arg2) = B) :
    val_main_v11 (F := Ideal) A B
      = (Cert.Kernel15Ideal.Gen.dats (F := Ideal) m (ok m) 0 c).arrAt 2 (Cert.Kernel15Ideal.Gen.cfgM m (ok m)).N := by
  funext i
  have e : i = ix3 (i 0) (i 1) (i 2) := by
    funext a
    match a with
    | ⟨0, _⟩ => rfl
    | ⟨1, _⟩ => rfl
    | ⟨2, _⟩ => rfl
  rw [e]
  exact (ref A B (i 0) (i 1) (i 2)).trans (value m c (ok m) A B ((Cert.Kernel15Ideal.Gen.V_main_arg0 m c).trans hA)
    ((Cert.Kernel15Ideal.Gen.V_main_arg2 m c).trans hB) (i 0) (i 1) (i 2)).symm

end reference

section claims

open Idealize.ShloMosaic Idealize.SL.Sem

/-- The reference runs to its end, its arguments unchanged; it declares no semaphore. -/
theorem frame_reference : Cert.quiescent_Reference15Ideal (hReference15Ideal := Cert.Reference15Ideal.Gen.facts) :=
  fun m ρ _ => (θ_run Cert.Reference15Ideal.defs _ _).mono
    (fun r h => ⟨fun c => (h c).2, sem_eq_zero_of_no_sems (by decide) r.2⟩)
    (Cert.Reference15Ideal.Value.run (F := Ideal) m ρ)

/-- From equal arguments the kernel and the reference end with the same array. -/
theorem same_results : Cert.algebraic_Kernel15Ideal_Reference15Ideal (hKernel15Ideal := Cert.Kernel15Ideal.Gen.facts)
    (hReference15Ideal := Cert.Reference15Ideal.Gen.facts) := by
  intro m g m' g' _ h
  refine ⟨fun c => (Cert.Kernel15Ideal.Gen.dats (F := Ideal) m (ok m) 0 c).arrAt 2 (Cert.Kernel15Ideal.Gen.cfgM m (ok m)).N,
    run m g, ?_⟩
  refine (θ_run Cert.Reference15Ideal.defs _ _).mono (fun r hr c => ?_) (Cert.Reference15Ideal.Value.run (F := Ideal) m' g')
  obtain ⟨r0, rest⟩ := hr c
  obtain ⟨h0, h1, h2⟩ := h c
  exact ⟨r0.trans ((Cert.Reference15Ideal.Read.val_main_v11_eq _ _).trans (same m c _ _ h0.symm h2.symm)), rest⟩

end claims

end Cert.Product15

end
-- ==== Proof.Products.lean ====
/-
The programs of one product each: their frames, and the equality of each result with the reference's.
-/
module

public import proofs.«01_k».proof.Proof.Product2
public import proofs.«01_k».proof.Proof.Product3
public import proofs.«01_k».proof.Proof.Product4
public import proofs.«01_k».proof.Proof.Product5
public import proofs.«01_k».proof.Proof.Product6
public import proofs.«01_k».proof.Proof.Product7
public import proofs.«01_k».proof.Proof.Product8
public import proofs.«01_k».proof.Proof.Product9
public import proofs.«01_k».proof.Proof.Product10
public import proofs.«01_k».proof.Proof.Product11
public import proofs.«01_k».proof.Proof.Product12
public import proofs.«01_k».proof.Proof.Product13
public import proofs.«01_k».proof.Proof.Product14
public import proofs.«01_k».proof.Proof.Product15
-- ==== Proof.lean ====
/-
  The claims of the attention's gradient, and those of the products (`Products`) beside them.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Results
public import proofs.«01_k».proof.Proof.Products

@[expose] public section

noncomputable section

namespace Cert.Proof

open Idealize.ShloMosaic Idealize.SL.Sem

/-- The reference runs to its end, its arguments unchanged; it declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩)
    (Cert.ReferenceIdeal.Value.run (F := Ideal) m ρ)

/-- A function of six arrays takes equal arrays to equal values. -/
theorem congr6 {α₀ α₁ α₂ α₃ α₄ α₅ β : Type} (f : α₀ → α₁ → α₂ → α₃ → α₄ → α₅ → β) {a₀ b₀ : α₀} {a₁ b₁ : α₁} {a₂ b₂ : α₂}
    {a₃ b₃ : α₃} {a₄ b₄ : α₄} {a₅ b₅ : α₅} (h₀ : a₀ = b₀) (h₁ : a₁ = b₁) (h₂ : a₂ = b₂) (h₃ : a₃ = b₃) (h₄ : a₄ = b₄) (h₅ : a₅ = b₅) :
    f a₀ a₁ a₂ a₃ a₄ a₅ = f b₀ b₁ b₂ b₃ b₄ b₅ := by
  subst h₀ h₁ h₂ h₃ h₄ h₅
  rfl

/-- From finite arguments the kernel and the reference end with the same four arrays. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hm h
  refine ⟨fun c => Cert.KernelIdeal.Value.G9 m c, fun c => Cert.KernelIdeal.Value.G10 m c, fun c => Cert.KernelIdeal.Value.G11 m c,
    fun c => Cert.KernelIdeal.Value.G12 m c, Cert.KernelIdeal.Value.run (F := Ideal) m g, ?_⟩
  refine (θ_run Cert.ReferenceIdeal.defs _ _).mono (fun r hr c => ?_) (Cert.ReferenceIdeal.Value.run (F := Ideal) m' g')
  obtain ⟨r0, r1, r2, r3, rest⟩ := hr c
  obtain ⟨h0, h1, h2, h3, h4, h5⟩ := h c
  refine ⟨r0.trans ((Cert.ReferenceIdeal.Read.val_main_v154_eq _).trans (.trans ?_ (Cert.Att.result_q c hm).symm)),
    r1.trans ((Cert.ReferenceIdeal.Read.val_main_v155_eq _).trans (.trans ?_ (Cert.Att.result_kv c hm).symm)),
    r2.trans ((Cert.ReferenceIdeal.Read.val_main_v135_eq _).trans (.trans ?_ (Cert.Att.result_kp c hm).symm)),
    r3.trans ((Cert.ReferenceIdeal.Read.val_main_v156_eq _).trans (.trans ?_ (Cert.Att.result_gate c hm).symm)), rest⟩
  · exact congr6 (Cert.ReferenceIdeal.Read.val_main_v154 (F := Ideal)) h0 h1 h2 h3 h4 h5
  · exact congr6 (Cert.ReferenceIdeal.Read.val_main_v155 (F := Ideal)) h0 h1 h2 h3 h4 h5
  · exact congr6 (Cert.ReferenceIdeal.Read.val_main_v135 (F := Ideal)) h0 h1 h2 h3 h4 h5
  · exact congr6 (Cert.ReferenceIdeal.Read.val_main_v156 (F := Ideal)) h0 h1 h2 h3 h4 h5

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, Cert.Product2.frame_reference,
    fun m ρ _ => Cert.Kernel3.Gen.frame m ρ, fun m ρ _ => Cert.Kernel3Ideal.Gen.frame m ρ, Cert.Product3.frame_reference,
    fun m ρ _ => Cert.Kernel4.Gen.frame m ρ, fun m ρ _ => Cert.Kernel4Ideal.Gen.frame m ρ, Cert.Product4.frame_reference,
    fun m ρ _ => Cert.Kernel5.Gen.frame m ρ, fun m ρ _ => Cert.Kernel5Ideal.Gen.frame m ρ, Cert.Product5.frame_reference,
    fun m ρ _ => Cert.Kernel6.Gen.frame m ρ, fun m ρ _ => Cert.Kernel6Ideal.Gen.frame m ρ, Cert.Product6.frame_reference,
    fun m ρ _ => Cert.Kernel7.Gen.frame m ρ, fun m ρ _ => Cert.Kernel7Ideal.Gen.frame m ρ, Cert.Product7.frame_reference,
    fun m ρ _ => Cert.Kernel8.Gen.frame m ρ, fun m ρ _ => Cert.Kernel8Ideal.Gen.frame m ρ, Cert.Product8.frame_reference,
    fun m ρ _ => Cert.Kernel9.Gen.frame m ρ, fun m ρ _ => Cert.Kernel9Ideal.Gen.frame m ρ, Cert.Product9.frame_reference,
    fun m ρ _ => Cert.Kernel10.Gen.frame m ρ, fun m ρ _ => Cert.Kernel10Ideal.Gen.frame m ρ, Cert.Product10.frame_reference,
    fun m ρ _ => Cert.Kernel11.Gen.frame m ρ, fun m ρ _ => Cert.Kernel11Ideal.Gen.frame m ρ, Cert.Product11.frame_reference,
    fun m ρ _ => Cert.Kernel12.Gen.frame m ρ, fun m ρ _ => Cert.Kernel12Ideal.Gen.frame m ρ, Cert.Product12.frame_reference,
    fun m ρ _ => Cert.Kernel13.Gen.frame m ρ, fun m ρ _ => Cert.Kernel13Ideal.Gen.frame m ρ, Cert.Product13.frame_reference,
    fun m ρ _ => Cert.Kernel14.Gen.frame m ρ (Cert.Product14.ok' m), fun m ρ _ => Cert.Kernel14Ideal.Gen.frame m ρ (Cert.Product14.ok m), Cert.Product14.frame_reference,
    fun m ρ _ => Cert.Kernel15.Gen.frame m ρ (Cert.Product15.ok' m), fun m ρ _ => Cert.Kernel15Ideal.Gen.frame m ρ (Cert.Product15.ok m), Cert.Product15.frame_reference,
    trivial, same_results,
    trivial, Cert.Product2.same_results,
    trivial, Cert.Product3.same_results,
    trivial, Cert.Product4.same_results,
    trivial, Cert.Product5.same_results,
    trivial, Cert.Product6.same_results,
    trivial, Cert.Product7.same_results,
    trivial, Cert.Product8.same_results,
    trivial, Cert.Product9.same_results,
    trivial, Cert.Product10.same_results,
    trivial, Cert.Product11.same_results,
    trivial, Cert.Product12.same_results,
    trivial, Cert.Product13.same_results,
    trivial, Cert.Product14.same_results,
    trivial, Cert.Product15.same_results⟩

end Cert.Proof

end
